-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelSquare (m : (ℓ : Loc Cert.KernelSquare.nD Cert.KernelSquare.τ Cert.KernelSquare.sig) → Buf (Elt Bits) ℓ) : Prop :=
  True

def Pre_KernelSquareIdeal (m : (ℓ : Loc Cert.KernelSquareIdeal.nD Cert.KernelSquareIdeal.τ Cert.KernelSquareIdeal.sig) → Buf (Elt Ideal) ℓ) : Prop :=
  True

def Pre_ReferenceSquareIdeal (m : (ℓ : Loc Cert.ReferenceSquareIdeal.nD Cert.ReferenceSquareIdeal.τ Cert.ReferenceSquareIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4)
      ∧ r.2.mem ((c.tc : Thread Cert.KernelFwd.nD Cert.KernelFwd.τ).loc Cert.KernelFwd.main_arg5) = m ((c.tc : Thread Cert.KernelFwd.nD Cert.KernelFwd.τ).loc Cert.KernelFwd.main_arg5))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5))
      ∧ r.2.sem = fun _ => 0)

def quiescent_KernelSquare [hKernelSquare : Cert.KernelSquare.Facts] : Prop :=
  ∀ (m : (ℓ : Loc Cert.KernelSquare.nD Cert.KernelSquare.τ Cert.KernelSquare.sig) → Buf (Elt Bits) ℓ) (g : Dev Cert.KernelSquare.nD → PrngReg), Pre_KernelSquare m →
    θ_run (Cert.KernelSquare.defs (F := Bits)) (onTc (τ := Cert.KernelSquare.τ) (Cert.KernelSquare.main (F := Bits))) ⟨m, fun _ => 0, g⟩ (fun r => (∀ c : Dev Cert.KernelSquare.nD,
      r.2.mem ((c.tc : Thread Cert.KernelSquare.nD Cert.KernelSquare.τ).loc Cert.KernelSquare.main_arg0) = m ((c.tc : Thread Cert.KernelSquare.nD Cert.KernelSquare.τ).loc Cert.KernelSquare.main_arg0)
      ∧ r.2.mem ((c.tc : Thread Cert.KernelSquare.nD Cert.KernelSquare.τ).loc Cert.KernelSquare.main_arg1) = m ((c.tc : Thread Cert.KernelSquare.nD Cert.KernelSquare.τ).loc Cert.KernelSquare.main_arg1))
      ∧ r.2.sem = fun _ => 0)

def quiescent_KernelSquareIdeal [hKernelSquareIdeal : Cert.KernelSquareIdeal.Facts] : Prop :=
  ∀ (m : (ℓ : Loc Cert.KernelSquareIdeal.nD Cert.KernelSquareIdeal.τ Cert.KernelSquareIdeal.sig) → Buf (Elt Ideal) ℓ) (g : Dev Cert.KernelSquareIdeal.nD → PrngReg), Pre_KernelSquareIdeal m →
    θ_run (Cert.KernelSquareIdeal.defs (F := Ideal)) (onTc (τ := Cert.KernelSquareIdeal.τ) (Cert.KernelSquareIdeal.main (F := Ideal))) ⟨m, fun _ => 0, g⟩ (fun r => (∀ c : Dev Cert.KernelSquareIdeal.nD,
      r.2.mem ((c.tc : Thread Cert.KernelSquareIdeal.nD Cert.KernelSquareIdeal.τ).loc Cert.KernelSquareIdeal.main_arg0) = m ((c.tc : Thread Cert.KernelSquareIdeal.nD Cert.KernelSquareIdeal.τ).loc Cert.KernelSquareIdeal.main_arg0)
      ∧ r.2.mem ((c.tc : Thread Cert.KernelSquareIdeal.nD Cert.KernelSquareIdeal.τ).loc Cert.KernelSquareIdeal.main_arg1) = m ((c.tc : Thread Cert.KernelSquareIdeal.nD Cert.KernelSquareIdeal.τ).loc Cert.KernelSquareIdeal.main_arg1))
      ∧ r.2.sem = fun _ => 0)

def quiescent_ReferenceSquareIdeal [hReferenceSquareIdeal : Cert.ReferenceSquareIdeal.Facts] : Prop :=
  ∀ (m : (ℓ : Loc Cert.ReferenceSquareIdeal.nD Cert.ReferenceSquareIdeal.τ Cert.ReferenceSquareIdeal.sig) → Buf (Elt Ideal) ℓ) (g : Dev Cert.ReferenceSquareIdeal.nD → PrngReg), Pre_ReferenceSquareIdeal m →
    θ_run (Cert.ReferenceSquareIdeal.defs (F := Ideal)) (onTc (τ := Cert.ReferenceSquareIdeal.τ) (Cert.ReferenceSquareIdeal.main (F := Ideal))) ⟨m, fun _ => 0, g⟩ (fun r => (∀ c : Dev Cert.ReferenceSquareIdeal.nD,
      r.2.mem ((c.tc : Thread Cert.ReferenceSquareIdeal.nD Cert.ReferenceSquareIdeal.τ).loc Cert.ReferenceSquareIdeal.main_arg0) = m ((c.tc : Thread Cert.ReferenceSquareIdeal.nD Cert.ReferenceSquareIdeal.τ).loc Cert.ReferenceSquareIdeal.main_arg0)
      ∧ r.2.mem ((c.tc : Thread Cert.ReferenceSquareIdeal.nD Cert.ReferenceSquareIdeal.τ).loc Cert.ReferenceSquareIdeal.main_arg1) = m ((c.tc : Thread Cert.ReferenceSquareIdeal.nD Cert.ReferenceSquareIdeal.τ).loc Cert.ReferenceSquareIdeal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)) (v3 : (c : Dev Cert.KernelIdeal.nD) → Buf (Elt Ideal) ((c.tc : Thread Cert.KernelIdeal.nD Cert.KernelIdeal.τ).loc Cert.KernelIdeal.main_v52_3)) (v4 : (c : Dev Cert.KernelIdeal.nD) → Buf (Elt Ideal) ((c.tc : Thread Cert.KernelIdeal.nD Cert.KernelIdeal.τ).loc Cert.KernelIdeal.main_v52_4)) (v5 : (c : Dev Cert.KernelIdeal.nD) → Buf (Elt Ideal) ((c.tc : Thread Cert.KernelIdeal.nD Cert.KernelIdeal.τ).loc Cert.KernelIdeal.main_v52_5)) (v6 : (c : Dev Cert.KernelIdeal.nD) → Buf (Elt Ideal) ((c.tc : Thread Cert.KernelIdeal.nD Cert.KernelIdeal.τ).loc Cert.KernelIdeal.main_v52_6)) (v7 : (c : Dev Cert.KernelIdeal.nD) → Buf (Elt Ideal) ((c.tc : Thread Cert.KernelIdeal.nD Cert.KernelIdeal.τ).loc Cert.KernelIdeal.main_v52_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_v52_3) = v3 c
          ∧ r.2.mem ((c.tc : Thread Cert.KernelIdeal.nD Cert.KernelIdeal.τ).loc Cert.KernelIdeal.main_v52_4) = v4 c
          ∧ r.2.mem ((c.tc : Thread Cert.KernelIdeal.nD Cert.KernelIdeal.τ).loc Cert.KernelIdeal.main_v52_5) = v5 c
          ∧ r.2.mem ((c.tc : Thread Cert.KernelIdeal.nD Cert.KernelIdeal.τ).loc Cert.KernelIdeal.main_v52_6) = v6 c
          ∧ r.2.mem ((c.tc : Thread Cert.KernelIdeal.nD Cert.KernelIdeal.τ).loc Cert.KernelIdeal.main_v52_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_v139) = v3 c
          ∧ r.2.mem ((c.tc : Thread Cert.ReferenceIdeal.nD Cert.ReferenceIdeal.τ).loc Cert.ReferenceIdeal.main_v140) = v4 c
          ∧ r.2.mem ((c.tc : Thread Cert.ReferenceIdeal.nD Cert.ReferenceIdeal.τ).loc Cert.ReferenceIdeal.main_v142) = v5 c
          ∧ r.2.mem ((c.tc : Thread Cert.ReferenceIdeal.nD Cert.ReferenceIdeal.τ).loc Cert.ReferenceIdeal.main_v143) = v6 c
          ∧ r.2.mem ((c.tc : Thread Cert.ReferenceIdeal.nD Cert.ReferenceIdeal.τ).loc Cert.ReferenceIdeal.main_v144) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v9) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)
      ∧ m' ((c.tc : Thread Cert.ReferenceFwdIdeal.nD Cert.ReferenceFwdIdeal.τ).loc Cert.ReferenceFwdIdeal.main_arg5) = m ((c.tc : Thread Cert.KernelFwdIdeal.nD Cert.KernelFwdIdeal.τ).loc Cert.KernelFwdIdeal.main_arg5)) →
    ∃ (v0 : (c : Dev Cert.KernelFwdIdeal.nD) → Buf (Elt Ideal) ((c.tc : Thread Cert.KernelFwdIdeal.nD Cert.KernelFwdIdeal.τ).loc Cert.KernelFwdIdeal.main_v8_0)) (v1 : (c : Dev Cert.KernelFwdIdeal.nD) → Buf (Elt Ideal) ((c.tc : Thread Cert.KernelFwdIdeal.nD Cert.KernelFwdIdeal.τ).loc Cert.KernelFwdIdeal.main_v8_1)) (v2 : (c : Dev Cert.KernelFwdIdeal.nD) → Buf (Elt Ideal) ((c.tc : Thread Cert.KernelFwdIdeal.nD Cert.KernelFwdIdeal.τ).loc Cert.KernelFwdIdeal.main_v8_2)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v8_0) = v0 c
          ∧ r.2.mem ((c.tc : Thread Cert.KernelFwdIdeal.nD Cert.KernelFwdIdeal.τ).loc Cert.KernelFwdIdeal.main_v8_1) = v1 c
          ∧ r.2.mem ((c.tc : Thread Cert.KernelFwdIdeal.nD Cert.KernelFwdIdeal.τ).loc Cert.KernelFwdIdeal.main_v8_2) = v2 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
          ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v73) = v0 c
          ∧ r.2.mem ((c.tc : Thread Cert.ReferenceFwdIdeal.nD Cert.ReferenceFwdIdeal.τ).loc Cert.ReferenceFwdIdeal.main_v76) = v1 c
          ∧ r.2.mem ((c.tc : Thread Cert.ReferenceFwdIdeal.nD Cert.ReferenceFwdIdeal.τ).loc Cert.ReferenceFwdIdeal.main_v79) = v2 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
          ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5))

def preserves_KernelSquare_KernelSquareIdeal : Prop :=
  True

def algebraic_KernelSquareIdeal_ReferenceSquareIdeal [hKernelSquareIdeal : Cert.KernelSquareIdeal.Facts] [hReferenceSquareIdeal : Cert.ReferenceSquareIdeal.Facts] : Prop :=
  ∀ (m : (ℓ : Loc Cert.KernelSquareIdeal.nD Cert.KernelSquareIdeal.τ Cert.KernelSquareIdeal.sig) → Buf (Elt Ideal) ℓ) (g : Dev Cert.KernelSquareIdeal.nD → PrngReg)
    (m' : (ℓ : Loc Cert.ReferenceSquareIdeal.nD Cert.ReferenceSquareIdeal.τ Cert.ReferenceSquareIdeal.sig) → Buf (Elt Ideal) ℓ) (g' : Dev Cert.ReferenceSquareIdeal.nD → PrngReg), Pre_KernelSquareIdeal m →
    (∀ c : Dev Cert.KernelSquareIdeal.nD,
      m' ((c.tc : Thread Cert.ReferenceSquareIdeal.nD Cert.ReferenceSquareIdeal.τ).loc Cert.ReferenceSquareIdeal.main_arg0) = m ((c.tc : Thread Cert.KernelSquareIdeal.nD Cert.KernelSquareIdeal.τ).loc Cert.KernelSquareIdeal.main_arg0)
      ∧ m' ((c.tc : Thread Cert.ReferenceSquareIdeal.nD Cert.ReferenceSquareIdeal.τ).loc Cert.ReferenceSquareIdeal.main_arg1) = m ((c.tc : Thread Cert.KernelSquareIdeal.nD Cert.KernelSquareIdeal.τ).loc Cert.KernelSquareIdeal.main_arg1)) →
    ∃ (v0 : (c : Dev Cert.KernelSquareIdeal.nD) → Buf (Elt Ideal) ((c.tc : Thread Cert.KernelSquareIdeal.nD Cert.KernelSquareIdeal.τ).loc Cert.KernelSquareIdeal.main_v0)),
      θ_run (Cert.KernelSquareIdeal.defs (F := Ideal)) (onTc (τ := Cert.KernelSquareIdeal.τ) (Cert.KernelSquareIdeal.main (F := Ideal))) ⟨m, fun _ => 0, g⟩ (fun r => ∀ c : Dev Cert.KernelSquareIdeal.nD,
          r.2.mem ((c.tc : Thread Cert.KernelSquareIdeal.nD Cert.KernelSquareIdeal.τ).loc Cert.KernelSquareIdeal.main_v0) = v0 c
          ∧ r.2.mem ((c.tc : Thread Cert.KernelSquareIdeal.nD Cert.KernelSquareIdeal.τ).loc Cert.KernelSquareIdeal.main_arg0) = m ((c.tc : Thread Cert.KernelSquareIdeal.nD Cert.KernelSquareIdeal.τ).loc Cert.KernelSquareIdeal.main_arg0)
          ∧ r.2.mem ((c.tc : Thread Cert.KernelSquareIdeal.nD Cert.KernelSquareIdeal.τ).loc Cert.KernelSquareIdeal.main_arg1) = m ((c.tc : Thread Cert.KernelSquareIdeal.nD Cert.KernelSquareIdeal.τ).loc Cert.KernelSquareIdeal.main_arg1))
      ∧ θ_run (Cert.ReferenceSquareIdeal.defs (F := Ideal)) (onTc (τ := Cert.ReferenceSquareIdeal.τ) (Cert.ReferenceSquareIdeal.main (F := Ideal))) ⟨m', fun _ => 0, g'⟩ (fun r => ∀ c : Dev Cert.ReferenceSquareIdeal.nD,
          r.2.mem ((c.tc : Thread Cert.ReferenceSquareIdeal.nD Cert.ReferenceSquareIdeal.τ).loc Cert.ReferenceSquareIdeal.main_v4) = v0 c
          ∧ r.2.mem ((c.tc : Thread Cert.ReferenceSquareIdeal.nD Cert.ReferenceSquareIdeal.τ).loc Cert.ReferenceSquareIdeal.main_arg0) = m' ((c.tc : Thread Cert.ReferenceSquareIdeal.nD Cert.ReferenceSquareIdeal.τ).loc Cert.ReferenceSquareIdeal.main_arg0)
          ∧ r.2.mem ((c.tc : Thread Cert.ReferenceSquareIdeal.nD Cert.ReferenceSquareIdeal.τ).loc Cert.ReferenceSquareIdeal.main_arg1) = m' ((c.tc : Thread Cert.ReferenceSquareIdeal.nD Cert.ReferenceSquareIdeal.τ).loc Cert.ReferenceSquareIdeal.main_arg1))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelFwd : Cert.KernelFwd.Facts) (hKernelFwdIdeal : Cert.KernelFwdIdeal.Facts) (hReferenceFwdIdeal : Cert.ReferenceFwdIdeal.Facts) (hKernelSquare : Cert.KernelSquare.Facts) (hKernelSquareIdeal : Cert.KernelSquareIdeal.Facts) (hReferenceSquareIdeal : Cert.ReferenceSquareIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelSquare (hKernelSquare := hKernelSquare)
    ∧ quiescent_KernelSquareIdeal (hKernelSquareIdeal := hKernelSquareIdeal)
    ∧ quiescent_ReferenceSquareIdeal (hReferenceSquareIdeal := hReferenceSquareIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelSquare_KernelSquareIdeal
    ∧ algebraic_KernelSquareIdeal_ReferenceSquareIdeal (hKernelSquareIdeal := hKernelSquareIdeal) (hReferenceSquareIdeal := hReferenceSquareIdeal)
-- ==== Pre_all_finite.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S5632 .f32) (main_arg5 : FVec F S2816x1024 .f32) (main_arg6 : FVec F S8192x1024 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S5632 .f32 := Host.absf main_arg4
  let main_cst_6 : FVec F S_ .f32 := constant S_ .f32 0x7F800000#32
  let main_v20 : FVec F S5632 .f32 := broadcastInDim S5632 ![] bcast_S_S5632 main_cst_6
  let main_v21 : IVec S5632 1 := cmpf .olt main_v19 main_v20
  let main_c_7 : IVec S_ 1 := constantI S_ 1 1#1
  let main_v22 : IVec S_ 1 := (fun x v => Host.reduce IntOp.andi x v reducesTo_S5632_S_d0 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S1024 .f32) (main_arg2 : FVec F S1024x5632 .f32) (main_arg3 : FVec F S3x5632 .f32) (main_arg4 : FVec F S5632 .f32) (main_arg5 : FVec F S2816x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_arg5 main_arg6 main_v13 main_v16
-- ==== Kernel.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S8192x8x704 : Shape := ⟨3, ![8192, 8, 704]⟩
abbrev S8x8192x704 : Shape := ⟨3, ![8, 8192, 704]⟩
abbrev S1024x8x704 : Shape := ⟨3, ![1024, 8, 704]⟩
abbrev S8x1024x704 : Shape := ⟨3, ![8, 1024, 704]⟩
abbrev S3x8x704 : Shape := ⟨3, ![3, 8, 704]⟩
abbrev S8x3x704 : Shape := ⟨3, ![8, 3, 704]⟩
abbrev S1024x8192 : Shape := ⟨2, ![1024, 8192]⟩
abbrev S4x8192x704 : Shape := ⟨3, ![4, 8192, 704]⟩
abbrev S8x1x704 : Shape := ⟨3, ![8, 1, 704]⟩
abbrev S256x1024 : Shape := ⟨2, ![256, 1024]⟩
abbrev S8x256x704 : Shape := ⟨3, ![8, 256, 704]⟩
abbrev S1024x256 : Shape := ⟨2, ![1024, 256]⟩
abbrev S4x256x704 : Shape := ⟨3, ![4, 256, 704]⟩
abbrev S8x8x704 : Shape := ⟨3, ![8, 8, 704]⟩
abbrev S256 : Shape := ⟨1, ![256]⟩
abbrev S256x1 : Shape := ⟨2, ![256, 1]⟩
abbrev S704x1024 : Shape := ⟨2, ![704, 1024]⟩
abbrev S256x704 : Shape := ⟨2, ![256, 704]⟩
abbrev S1x256x704 : Shape := ⟨3, ![1, 256, 704]⟩
abbrev S1x8x704 : Shape := ⟨3, ![1, 8, 704]⟩
abbrev S8x704 : Shape := ⟨2, ![8, 704]⟩
abbrev S32x8x704 : Shape := ⟨3, ![32, 8, 704]⟩
abbrev S31x8x704 : Shape := ⟨3, ![31, 8, 704]⟩
abbrev S1x1x704 : Shape := ⟨3, ![1, 1, 704]⟩
abbrev S1x704 : Shape := ⟨2, ![1, 704]⟩
abbrev S704 : Shape := ⟨1, ![704]⟩
abbrev S1x3x704 : Shape := ⟨3, ![1, 3, 704]⟩
abbrev S3x704 : Shape := ⟨2, ![3, 704]⟩
abbrev S1x1024x704 : Shape := ⟨3, ![1, 1024, 704]⟩
abbrev S1024x704 : Shape := ⟨2, ![1024, 704]⟩

abbrev nBuf : Space → Nat
  | .hbm => 71
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x5632, .f32⟩
  | .hbm, ⟨24, _⟩ => ⟨S_, .f32⟩
  | .hbm, ⟨25, _⟩ => ⟨S2x5632, .f32⟩
  | .hbm, ⟨26, _⟩ => ⟨S8194x5632, .f32⟩
  | .hbm, ⟨27, _⟩ => ⟨S8192x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S1x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S1x5632, .f32⟩
  | .hbm, ⟨38, _⟩ => ⟨S5632, .f32⟩
  | .hbm, ⟨39, _⟩ => ⟨S1x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S1x5632, .f32⟩
  | .hbm, ⟨45, _⟩ => ⟨S5632, .f32⟩
  | .hbm, ⟨46, _⟩ => ⟨S1x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x8x704, .f32⟩
  | .hbm, ⟨51, _⟩ => ⟨S8x8192x704, .f32⟩
  | .hbm, ⟨52, _⟩ => ⟨S8x8192x704, .bf16⟩
  | .hbm, ⟨53, _⟩ => ⟨S8192x8x704, .f32⟩
  | .hbm, ⟨54, _⟩ => ⟨S8x8192x704, .f32⟩
  | .hbm, ⟨55, _⟩ => ⟨S8x8192x704, .bf16⟩
  | .hbm, ⟨56, _⟩ => ⟨S1x1024, .f32⟩
  | .hbm, ⟨57, _⟩ => ⟨S1024x5632, .bf16⟩
  | .hbm, ⟨58, _⟩ => ⟨S1024x8x704, .bf16⟩
  | .hbm, ⟨59, _⟩ => ⟨S8x1024x704, .bf16⟩
  | .hbm, ⟨60, _⟩ => ⟨S3x8x704, .f32⟩
  | .hbm, ⟨61, _⟩ => ⟨S8x3x704, .f32⟩
  | .hbm, ⟨62, _⟩ => ⟨S2816x1024, .bf16⟩
  | .hbm, ⟨63, _⟩ => ⟨S8192x1024, .f32⟩
  | .hbm, ⟨64, _⟩ => ⟨S1024x8192, .bf16⟩
  | .hbm, ⟨65, _⟩ => ⟨S8x8192x704, .bf16⟩
  | .hbm, ⟨66, _⟩ => ⟨S4x8192x704, .bf16⟩
  | .hbm, ⟨67, _⟩ => ⟨S8192x1024, .bf16⟩
  | .hbm, ⟨68, _⟩ => ⟨S8x3x704, .f32⟩
  | .hbm, ⟨69, _⟩ => ⟨S8x1x704, .f32⟩
  | .hbm, ⟨70, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x256x704, .bf16⟩
  | .local _ .vmem, ⟨5, _⟩ => ⟨S8x256x704, .bf16⟩
  | .local _ .vmem, ⟨6, _⟩ => ⟨S8x256x704, .bf16⟩
  | .local _ .vmem, ⟨7, _⟩ => ⟨S8x256x704, .bf16⟩
  | .local _ .vmem, ⟨8, _⟩ => ⟨S1x1024, .f32⟩
  | .local _ .vmem, ⟨9, _⟩ => ⟨S8x1024x704, .bf16⟩
  | .local _ .vmem, ⟨10, _⟩ => ⟨S8x3x704, .f32⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S1024x256, .bf16⟩
  | .local _ .vmem, ⟨15, _⟩ => ⟨S1024x256, .bf16⟩
  | .local _ .vmem, ⟨16, _⟩ => ⟨S8x256x704, .bf16⟩
  | .local _ .vmem, ⟨17, _⟩ => ⟨S8x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S256x1024, .bf16⟩
  | .local _ .vmem, ⟨21, _⟩ => ⟨S256x1024, .bf16⟩
  | .local _ .vmem, ⟨22, _⟩ => ⟨S8x3x704, .f32⟩
  | .local _ .vmem, ⟨23, _⟩ => ⟨S8x1x704, .f32⟩
  | .local _ .vmem, ⟨24, _⟩ => ⟨S1x1024, .f32⟩
  | .local _ .vmem, ⟨25, _⟩ => ⟨S8x8x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52_0 : Ref sig .tc := ⟨.hbm, 63, rfl⟩
abbrev main_v52_1 : Ref sig .tc := ⟨.hbm, 64, rfl⟩
abbrev main_v52_2 : Ref sig .tc := ⟨.hbm, 65, rfl⟩
abbrev main_v52_3 : Ref sig .tc := ⟨.hbm, 66, rfl⟩
abbrev main_v52_4 : Ref sig .tc := ⟨.hbm, 67, rfl⟩
abbrev main_v52_5 : Ref sig .tc := ⟨.hbm, 68, rfl⟩
abbrev main_v52_6 : Ref sig .tc := ⟨.hbm, 69, rfl⟩
abbrev main_v52_7 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x3x704 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1x704 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S1024x2816 : Shape := ⟨2, ![1024, 2816]⟩
abbrev S5632x1024 : Shape := ⟨2, ![5632, 1024]⟩
abbrev S1024x8192 : Shape := ⟨2, ![1024, 8192]⟩
abbrev S8192x8x704 : Shape := ⟨3, ![8192, 8, 704]⟩
abbrev S8x8192x704 : Shape := ⟨3, ![8, 8192, 704]⟩
abbrev S8192x4x704 : Shape := ⟨3, ![8192, 4, 704]⟩
abbrev S4x8192x704 : Shape := ⟨3, ![4, 8192, 704]⟩
abbrev S3x8x704 : Shape := ⟨3, ![3, 8, 704]⟩
abbrev S8x3x704 : Shape := ⟨3, ![8, 3, 704]⟩
abbrev S8x1x704 : Shape := ⟨3, ![8, 1, 704]⟩

abbrev nBuf : Space → Nat
  | .hbm => 196
  | .vmem => 0
  | .smem => 0
  | _ => 0

abbrev hbmTy0_0 (i : Nat) : BufTy := match i % 128 with
  | 0 => ⟨S8192x1024, .f32⟩
  | 1 => ⟨S1024, .f32⟩
  | 2 => ⟨S1024x5632, .f32⟩
  | 3 => ⟨S3x5632, .f32⟩
  | 4 => ⟨S5632, .f32⟩
  | 5 => ⟨S2816x1024, .f32⟩
  | 6 => ⟨S8192x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S8192x1024, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S_, .f32⟩
  | 31 => ⟨S8192x1, .f32⟩
  | 32 => ⟨S8192x1, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1024, .f32⟩
  | 39 => ⟨S8192x1024, .f32⟩
  | 40 => ⟨S1x1024, .f32⟩
  | 41 => ⟨S8192x1024, .f32⟩
  | 42 => ⟨S8192x1024, .f32⟩
  | 43 => ⟨S8192x5632, .f32⟩
  | 44 => ⟨S_, .f32⟩
  | 45 => ⟨S2x5632, .f32⟩
  | 46 => ⟨S8194x5632, .f32⟩
  | 47 => ⟨S_, .f32⟩
  | 48 => ⟨S2x5632, .f32⟩
  | 49 => ⟨S8192x5632, .f32⟩
  | 50 => ⟨S1x5632, .f32⟩
  | 51 => ⟨S5632, .f32⟩
  | 52 => ⟨S1x5632, .f32⟩
  | 53 => ⟨S8192x5632, .f32⟩
  | 54 => ⟨S8192x5632, .f32⟩
  | 55 => ⟨S_, .f32⟩
  | 56 => ⟨S8192x5632, .f32⟩
  | 57 => ⟨S8192x5632, .f32⟩
  | 58 => ⟨S8192x5632, .f32⟩
  | 59 => ⟨S1x5632, .f32⟩
  | 60 => ⟨S5632, .f32⟩
  | 61 => ⟨S1x5632, .f32⟩
  | 62 => ⟨S8192x5632, .f32⟩
  | 63 => ⟨S8192x5632, .f32⟩
  | 64 => ⟨S8192x5632, .f32⟩
  | 65 => ⟨S8192x5632, .f32⟩
  | 66 => ⟨S1x5632, .f32⟩
  | 67 => ⟨S5632, .f32⟩
  | 68 => ⟨S1x5632, .f32⟩
  | 69 => ⟨S8192x5632, .f32⟩
  | 70 => ⟨S8192x5632, .f32⟩
  | 71 => ⟨S8192x5632, .f32⟩
  | 72 => ⟨S1x5632, .f32⟩
  | 73 => ⟨S8192x5632, .f32⟩
  | 74 => ⟨S8192x5632, .f32⟩
  | 75 => ⟨S8192x2816, .f32⟩
  | 76 => ⟨S8192x2816, .f32⟩
  | 77 => ⟨S8192x2816, .f32⟩
  | 78 => ⟨S8192x2816, .f32⟩
  | 79 => ⟨S_, .f32⟩
  | 80 => ⟨S8192x2816, .f32⟩
  | 81 => ⟨S8192x2816, .f32⟩
  | 82 => ⟨S_, .f32⟩
  | 83 => ⟨S8192x2816, .f32⟩
  | 84 => ⟨S8192x2816, .f32⟩
  | 85 => ⟨S_, .f32⟩
  | 86 => ⟨S8192x2816, .f32⟩
  | 87 => ⟨S8192x2816, .f32⟩
  | 88 => ⟨S8192x2816, .f32⟩
  | 89 => ⟨S8192x2816, .f32⟩
  | 90 => ⟨S8192x2816, .f32⟩
  | 91 => ⟨S8192x1024, .f32⟩
  | 92 => ⟨S8192x1024, .f32⟩
  | 93 => ⟨S8192x1024, .f32⟩
  | 94 => ⟨S1024x2816, .f32⟩
  | 95 => ⟨S2816x1024, .f32⟩
  | 96 => ⟨S8192x2816, .f32⟩
  | 97 => ⟨S8192x2816, .f32⟩
  | 98 => ⟨S8192x2816, .f32⟩
  | 99 => ⟨S8192x2816, .f32⟩
  | 100 => ⟨S8192x2816, .f32⟩
  | 101 => ⟨S8192x2816, .f32⟩
  | 102 => ⟨S8192x2816, .f32⟩
  | 103 => ⟨S8192x5632, .f32⟩
  | 104 => ⟨S_, .f32⟩
  | 105 => ⟨S5632, .f32⟩
  | 106 => ⟨S1x5632, .f32⟩
  | 107 => ⟨S_, .f32⟩
  | 108 => ⟨S5632, .f32⟩
  | 109 => ⟨S8192x5632, .f32⟩
  | 110 => ⟨S_, .f32⟩
  | 111 => ⟨S5632, .f32⟩
  | 112 => ⟨S1x5632, .f32⟩
  | 113 => ⟨S8192x5632, .f32⟩
  | 114 => ⟨S8192x5632, .f32⟩
  | 115 => ⟨S_, .f32⟩
  | 116 => ⟨S5632, .f32⟩
  | 117 => ⟨S1x5632, .f32⟩
  | 118 => ⟨S_, .f32⟩
  | 119 => ⟨S3x5632, .f32⟩
  | 120 => ⟨S_, .f32⟩
  | 121 => ⟨S8194x5632, .f32⟩
  | 122 => ⟨S8192x5632, .f32⟩
  | 123 => ⟨S_, .f32⟩
  | 124 => ⟨S5632, .f32⟩
  | 125 => ⟨S1x5632, .f32⟩
  | 126 => ⟨S8192x5632, .f32⟩
  | 127 => ⟨S8192x5632, .f32⟩
  | _ => ⟨S8192x1024, .f32⟩

abbrev hbmTy0_1 (i : Nat) : BufTy := match i % 128 with
  | 0 => ⟨S_, .f32⟩
  | 1 => ⟨S5632, .f32⟩
  | 2 => ⟨S1x5632, .f32⟩
  | 3 => ⟨S_, .f32⟩
  | 4 => ⟨S3x5632, .f32⟩
  | 5 => ⟨S3x5632, .f32⟩
  | 6 => ⟨S_, .f32⟩
  | 7 => ⟨S8194x5632, .f32⟩
  | 8 => ⟨S8194x5632, .f32⟩
  | 9 => ⟨S8192x5632, .f32⟩
  | 10 => ⟨S_, .f32⟩
  | 11 => ⟨S5632, .f32⟩
  | 12 => ⟨S1x5632, .f32⟩
  | 13 => ⟨S8192x5632, .f32⟩
  | 14 => ⟨S8192x5632, .f32⟩
  | 15 => ⟨S_, .f32⟩
  | 16 => ⟨S5632, .f32⟩
  | 17 => ⟨S1x5632, .f32⟩
  | 18 => ⟨S_, .f32⟩
  | 19 => ⟨S3x5632, .f32⟩
  | 20 => ⟨S3x5632, .f32⟩
  | 21 => ⟨S_, .f32⟩
  | 22 => ⟨S8194x5632, .f32⟩
  | 23 => ⟨S8194x5632, .f32⟩
  | 24 => ⟨S2x5632, .f32⟩
  | 25 => ⟨S8192x5632, .f32⟩
  | 26 => ⟨S5632x1024, .f32⟩
  | 27 => ⟨S1024x5632, .f32⟩
  | 28 => ⟨S8192x1024, .f32⟩
  | 29 => ⟨S8192x1024, .f32⟩
  | 30 => ⟨S_, .f32⟩
  | 31 => ⟨S1024, .f32⟩
  | 32 => ⟨S1x1024, .f32⟩
  | 33 => ⟨S8192x1024, .f32⟩
  | 34 => ⟨S8192x1024, .f32⟩
  | 35 => ⟨S_, .f32⟩
  | 36 => ⟨S1024, .f32⟩
  | 37 => ⟨S8192x1024, .f32⟩
  | 38 => ⟨S_, .f32⟩
  | 39 => ⟨S8192, .f32⟩
  | 40 => ⟨S8192x1, .f32⟩
  | 41 => ⟨S8192x1024, .f32⟩
  | 42 => ⟨S8192x1024, .f32⟩
  | 43 => ⟨S8192x1, .f32⟩
  | 44 => ⟨S_, .f32⟩
  | 45 => ⟨S8192x1, .f32⟩
  | 46 => ⟨S8192x1, .f32⟩
  | 47 => ⟨S_, .f32⟩
  | 48 => ⟨S8192, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S1024x8192, .f32⟩
  | 56 => ⟨S1024x8192, .bf16⟩
  | 57 => ⟨S8192x8x704, .f32⟩
  | 58 => ⟨S8x8192x704, .f32⟩
  | 59 => ⟨S8x8192x704, .bf16⟩
  | 60 => ⟨S8192x4x704, .f32⟩
  | 61 => ⟨S4x8192x704, .f32⟩
  | 62 => ⟨S4x8192x704, .bf16⟩
  | 63 => ⟨S8192x1024, .bf16⟩
  | 64 => ⟨S3x8x704, .f32⟩
  | 65 => ⟨S8x3x704, .f32⟩
  | 66 => ⟨S8x1x704, .f32⟩
  | 67 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_v60_2 : Ref sig .tc := ⟨.hbm, 84, rfl⟩
abbrev main_call0_cst_1 : Ref sig .tc := ⟨.hbm, 85, rfl⟩
abbrev main_call0_v6 : Ref sig .tc := ⟨.hbm, 86, rfl⟩
abbrev main_call0_v7 : Ref sig .tc := ⟨.hbm, 87, rfl⟩
abbrev main_v60_1 : Ref sig .tc := ⟨.hbm, 88, rfl⟩
abbrev main_v60_0 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v70 : Ref sig .tc := ⟨.hbm, 102, rfl⟩
abbrev main_v71 : Ref sig .tc := ⟨.hbm, 103, rfl⟩
abbrev main_cst_9 : Ref sig .tc := ⟨.hbm, 104, rfl⟩
abbrev main_v72 : Ref sig .tc := ⟨.hbm, 105, rfl⟩
abbrev main_v73 : Ref sig .tc := ⟨.hbm, 106, rfl⟩
abbrev main_cst_10 : Ref sig .tc := ⟨.hbm, 107, rfl⟩
abbrev main_v74 : Ref sig .tc := ⟨.hbm, 108, rfl⟩
abbrev main_v75 : Ref sig .tc := ⟨.hbm, 109, rfl⟩
abbrev main_cst_11 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_12 : Ref sig .tc := ⟨.hbm, 115, rfl⟩
abbrev main_v80 : Ref sig .tc := ⟨.hbm, 116, rfl⟩
abbrev main_v81 : Ref sig .tc := ⟨.hbm, 117, rfl⟩
abbrev main_cst_13 : Ref sig .tc := ⟨.hbm, 118, rfl⟩
abbrev main_v82 : Ref sig .tc := ⟨.hbm, 119, rfl⟩
abbrev main_cst_14 : Ref sig .tc := ⟨.hbm, 120, rfl⟩
abbrev main_v83 : Ref sig .tc := ⟨.hbm, 121, rfl⟩
abbrev main_v84 : Ref sig .tc := ⟨.hbm, 122, rfl⟩
abbrev main_cst_15 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_16 : Ref sig .tc := ⟨.hbm, 128, rfl⟩
abbrev main_v89 : Ref sig .tc := ⟨.hbm, 129, rfl⟩
abbrev main_v90 : Ref sig .tc := ⟨.hbm, 130, rfl⟩
abbrev main_cst_17 : Ref sig .tc := ⟨.hbm, 131, rfl⟩
abbrev main_v91 : Ref sig .tc := ⟨.hbm, 132, rfl⟩
abbrev main_v92 : Ref sig .tc := ⟨.hbm, 133, rfl⟩
abbrev main_cst_18 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_19 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_20 : Ref sig .tc := ⟨.hbm, 143, rfl⟩
abbrev main_v100 : Ref sig .tc := ⟨.hbm, 144, rfl⟩
abbrev main_v101 : Ref sig .tc := ⟨.hbm, 145, rfl⟩
abbrev main_cst_21 : Ref sig .tc := ⟨.hbm, 146, rfl⟩
abbrev main_v102 : Ref sig .tc := ⟨.hbm, 147, rfl⟩
abbrev main_v103 : Ref sig .tc := ⟨.hbm, 148, rfl⟩
abbrev main_cst_22 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_23 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_24 : Ref sig .tc := ⟨.hbm, 163, rfl⟩
abbrev main_v116 : Ref sig .tc := ⟨.hbm, 164, rfl⟩
abbrev main_v117 : Ref sig .tc := ⟨.hbm, 165, rfl⟩
abbrev main_cst_25 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_26 : Ref sig .tc := ⟨.hbm, 172, rfl⟩
abbrev main_v123 : Ref sig .tc := ⟨.hbm, 173, rfl⟩
abbrev main_v124 : Ref sig .tc := ⟨.hbm, 174, rfl⟩
abbrev main_cst_27 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩

abbrev nD : Nat := 1
abbrev τ : Topo := Topo.v7x

variable {F : FTy → Type} [FloatOps F]
-- ==== KernelUp.lean ====
abbrev S1024x8192 : Shape := ⟨2, ![1024, 8192]⟩
abbrev S8x8192x704 : Shape := ⟨3, ![8, 8192, 704]⟩
abbrev S8x1024x704 : Shape := ⟨3, ![8, 1024, 704]⟩
abbrev S1024x4096 : Shape := ⟨2, ![1024, 4096]⟩
abbrev S1x4096x704 : Shape := ⟨3, ![1, 4096, 704]⟩
abbrev S1x1024x704 : Shape := ⟨3, ![1, 1024, 704]⟩
abbrev S1024x704 : Shape := ⟨2, ![1024, 704]⟩
abbrev S4096x704 : Shape := ⟨2, ![4096, 704]⟩

abbrev nBuf : Space → Nat
  | .hbm => 3
  | .vmem => 7
  | .smem => 0
  | _ => 0

abbrev bufTy : (tb : Table) → Fin (tcTables nBuf tb) → BufTy
  | .hbm, ⟨0, _⟩ => ⟨S1024x8192, .bf16⟩
  | .hbm, ⟨1, _⟩ => ⟨S8x8192x704, .bf16⟩
  | .hbm, ⟨2, _⟩ => ⟨S8x1024x704, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ReferenceUpIdeal.lean ====
abbrev S1024x8192 : Shape := ⟨2, ![1024, 8192]⟩
abbrev S8x8192x704 : Shape := ⟨3, ![8, 8192, 704]⟩
abbrev S8192x1024 : Shape := ⟨2, ![8192, 1024]⟩
abbrev S8192x8x704 : Shape := ⟨3, ![8192, 8, 704]⟩
abbrev S8192x5632 : Shape := ⟨2, ![8192, 5632]⟩
abbrev S5632x1024 : Shape := ⟨2, ![5632, 1024]⟩
abbrev S1024x5632 : Shape := ⟨2, ![1024, 5632]⟩
abbrev S1024x8x704 : Shape := ⟨3, ![1024, 8, 704]⟩
abbrev S8x1024x704 : Shape := ⟨3, ![8, 1024, 704]⟩

abbrev nBuf : Space → Nat
  | .hbm => 12
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8x8192x704, .bf16⟩
  | .hbm, ⟨2, _⟩ => ⟨S1024x8192, .f32⟩
  | .hbm, ⟨3, _⟩ => ⟨S8192x1024, .f32⟩
  | .hbm, ⟨4, _⟩ => ⟨S8x8192x704, .f32⟩
  | .hbm, ⟨5, _⟩ => ⟨S8192x8x704, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x8x704, .f32⟩
  | .hbm, ⟨10, _⟩ => ⟨S8x1024x704, .f32⟩
  | .hbm, ⟨11, _⟩ => ⟨S8x1024x704, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== KernelDown.lean ====
abbrev S4x8192x704 : Shape := ⟨3, ![4, 8192, 704]⟩
abbrev S8192x1024 : Shape := ⟨2, ![8192, 1024]⟩
abbrev S2816x1024 : Shape := ⟨2, ![2816, 1024]⟩
abbrev S1x4096x704 : Shape := ⟨3, ![1, 4096, 704]⟩
abbrev S4096x1024 : Shape := ⟨2, ![4096, 1024]⟩
abbrev S704x1024 : Shape := ⟨2, ![704, 1024]⟩
abbrev S4096x704 : Shape := ⟨2, ![4096, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S2816x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S704x1024, .bf16⟩
  | .local _ .vmem, ⟨5, _⟩ => ⟨S704x1024, .bf16⟩
  | .local _ .vmem, ⟨6, _⟩ => ⟨S704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S4x8192x704 : Shape := ⟨3, ![4, 8192, 704]⟩
abbrev S8192x1024 : Shape := ⟨2, ![8192, 1024]⟩
abbrev S8192x4x704 : Shape := ⟨3, ![8192, 4, 704]⟩
abbrev S8192x2816 : Shape := ⟨2, ![8192, 2816]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x8192x704, .f32⟩
  | .hbm, ⟨3, _⟩ => ⟨S8192x4x704, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== KernelFwd.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1024x8x704 : Shape := ⟨3, ![1024, 8, 704]⟩
abbrev S8x1024x704 : Shape := ⟨3, ![8, 1024, 704]⟩
abbrev S3x8x704 : Shape := ⟨3, ![3, 8, 704]⟩
abbrev S8x3x704 : Shape := ⟨3, ![8, 3, 704]⟩
abbrev S8x1x704 : Shape := ⟨3, ![8, 1, 704]⟩
abbrev S8x8192x704 : Shape := ⟨3, ![8, 8192, 704]⟩
abbrev S256x1024 : Shape := ⟨2, ![256, 1024]⟩
abbrev S8x256x704 : Shape := ⟨3, ![8, 256, 704]⟩
abbrev S8x8x704 : Shape := ⟨3, ![8, 8, 704]⟩
abbrev S256 : Shape := ⟨1, ![256]⟩
abbrev S256x1 : Shape := ⟨2, ![256, 1]⟩
abbrev S1x1024x704 : Shape := ⟨3, ![1, 1024, 704]⟩
abbrev S1024x704 : Shape := ⟨2, ![1024, 704]⟩
abbrev S256x704 : Shape := ⟨2, ![256, 704]⟩
abbrev S1x256x704 : Shape := ⟨3, ![1, 256, 704]⟩
abbrev S1x3x704 : Shape := ⟨3, ![1, 3, 704]⟩
abbrev S3x704 : Shape := ⟨2, ![3, 704]⟩
abbrev S1x8x704 : Shape := ⟨3, ![1, 8, 704]⟩
abbrev S8x704 : Shape := ⟨2, ![8, 704]⟩
abbrev S1x1x704 : Shape := ⟨3, ![1, 1, 704]⟩
abbrev S1x704 : Shape := ⟨2, ![1, 704]⟩
abbrev S32x8x704 : Shape := ⟨3, ![32, 8, 704]⟩
abbrev S31x8x704 : Shape := ⟨3, ![31, 8, 704]⟩
abbrev S704x1024 : Shape := ⟨2, ![704, 1024]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1x1024, .f32⟩
  | .hbm, ⟨7, _⟩ => ⟨S1024x5632, .bf16⟩
  | .hbm, ⟨8, _⟩ => ⟨S1024x8x704, .bf16⟩
  | .hbm, ⟨9, _⟩ => ⟨S8x1024x704, .bf16⟩
  | .hbm, ⟨10, _⟩ => ⟨S3x8x704, .f32⟩
  | .hbm, ⟨11, _⟩ => ⟨S8x3x704, .f32⟩
  | .hbm, ⟨12, _⟩ => ⟨S8x1x704, .f32⟩
  | .hbm, ⟨13, _⟩ => ⟨S2816x1024, .bf16⟩
  | .hbm, ⟨14, _⟩ => ⟨S8192x1024, .f32⟩
  | .hbm, ⟨15, _⟩ => ⟨S8x8192x704, .bf16⟩
  | .hbm, ⟨16, _⟩ => ⟨S8x8192x704, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024x704, .bf16⟩
  | .local _ .vmem, ⟨4, _⟩ => ⟨S8x3x704, .f32⟩
  | .local _ .vmem, ⟨5, _⟩ => ⟨S8x1x704, .f32⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S8x256x704, .bf16⟩
  | .local _ .vmem, ⟨10, _⟩ => ⟨S8x256x704, .bf16⟩
  | .local _ .vmem, ⟨11, _⟩ => ⟨S8x256x704, .bf16⟩
  | .local _ .vmem, ⟨12, _⟩ => ⟨S8x256x704, .bf16⟩
  | .local _ .vmem, ⟨13, _⟩ => ⟨S8x8x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceFwdIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S8192x8x704 : Shape := ⟨3, ![8192, 8, 704]⟩
abbrev S8x8192x704 : Shape := ⟨3, ![8, 8192, 704]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x5632, .f32⟩
  | .hbm, ⟨23, _⟩ => ⟨S_, .f32⟩
  | .hbm, ⟨24, _⟩ => ⟨S2x5632, .f32⟩
  | .hbm, ⟨25, _⟩ => ⟨S8194x5632, .f32⟩
  | .hbm, ⟨26, _⟩ => ⟨S8192x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S1x5632, .f32⟩
  | .hbm, ⟨37, _⟩ => ⟨S5632, .f32⟩
  | .hbm, ⟨38, _⟩ => ⟨S1x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S1x5632, .f32⟩
  | .hbm, ⟨44, _⟩ => ⟨S5632, .f32⟩
  | .hbm, ⟨45, _⟩ => ⟨S1x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S1x5632, .f32⟩
  | .hbm, ⟨50, _⟩ => ⟨S8192x5632, .f32⟩
  | .hbm, ⟨51, _⟩ => ⟨S8192x5632, .f32⟩
  | .hbm, ⟨52, _⟩ => ⟨S_, .f32⟩
  | .hbm, ⟨53, _⟩ => ⟨S2x5632, .f32⟩
  | .hbm, ⟨54, _⟩ => ⟨S8194x5632, .f32⟩
  | .hbm, ⟨55, _⟩ => ⟨S8192x5632, .f32⟩
  | .hbm, ⟨56, _⟩ => ⟨S1x5632, .f32⟩
  | .hbm, ⟨57, _⟩ => ⟨S5632, .f32⟩
  | .hbm, ⟨58, _⟩ => ⟨S1x5632, .f32⟩
  | .hbm, ⟨59, _⟩ => ⟨S8192x5632, .f32⟩
  | .hbm, ⟨60, _⟩ => ⟨S8192x5632, .f32⟩
  | .hbm, ⟨61, _⟩ => ⟨S_, .f32⟩
  | .hbm, ⟨62, _⟩ => ⟨S8192x5632, .f32⟩
  | .hbm, ⟨63, _⟩ => ⟨S8192x5632, .f32⟩
  | .hbm, ⟨64, _⟩ => ⟨S8192x5632, .f32⟩
  | .hbm, ⟨65, _⟩ => ⟨S1x5632, .f32⟩
  | .hbm, ⟨66, _⟩ => ⟨S5632, .f32⟩
  | .hbm, ⟨67, _⟩ => ⟨S1x5632, .f32⟩
  | .hbm, ⟨68, _⟩ => ⟨S8192x5632, .f32⟩
  | .hbm, ⟨69, _⟩ => ⟨S8192x5632, .f32⟩
  | .hbm, ⟨70, _⟩ => ⟨S8192x5632, .f32⟩
  | .hbm, ⟨71, _⟩ => ⟨S8192x5632, .f32⟩
  | .hbm, ⟨72, _⟩ => ⟨S1x5632, .f32⟩
  | .hbm, ⟨73, _⟩ => ⟨S5632, .f32⟩
  | .hbm, ⟨74, _⟩ => ⟨S1x5632, .f32⟩
  | .hbm, ⟨75, _⟩ => ⟨S8192x5632, .f32⟩
  | .hbm, ⟨76, _⟩ => ⟨S8192x5632, .f32⟩
  | .hbm, ⟨77, _⟩ => ⟨S8192x5632, .f32⟩
  | .hbm, ⟨78, _⟩ => ⟨S1x5632, .f32⟩
  | .hbm, ⟨79, _⟩ => ⟨S8192x5632, .f32⟩
  | .hbm, ⟨80, _⟩ => ⟨S8192x5632, .f32⟩
  | .hbm, ⟨81, _⟩ => ⟨S8192x2816, .f32⟩
  | .hbm, ⟨82, _⟩ => ⟨S8192x2816, .f32⟩
  | .hbm, ⟨83, _⟩ => ⟨S8192x2816, .f32⟩
  | .hbm, ⟨84, _⟩ => ⟨S8192x2816, .f32⟩
  | .hbm, ⟨85, _⟩ => ⟨S_, .f32⟩
  | .hbm, ⟨86, _⟩ => ⟨S8192x2816, .f32⟩
  | .hbm, ⟨87, _⟩ => ⟨S8192x2816, .f32⟩
  | .hbm, ⟨88, _⟩ => ⟨S_, .f32⟩
  | .hbm, ⟨89, _⟩ => ⟨S8192x2816, .f32⟩
  | .hbm, ⟨90, _⟩ => ⟨S8192x2816, .f32⟩
  | .hbm, ⟨91, _⟩ => ⟨S8192x2816, .f32⟩
  | .hbm, ⟨92, _⟩ => ⟨S8192x2816, .f32⟩
  | .hbm, ⟨93, _⟩ => ⟨S8192x1024, .f32⟩
  | .hbm, ⟨94, _⟩ => ⟨S8192x1024, .f32⟩
  | .hbm, ⟨95, _⟩ => ⟨S8192x8x704, .f32⟩
  | .hbm, ⟨96, _⟩ => ⟨S8x8192x704, .f32⟩
  | .hbm, ⟨97, _⟩ => ⟨S8x8192x704, .bf16⟩
  | .hbm, ⟨98, _⟩ => ⟨S8192x8x704, .f32⟩
  | .hbm, ⟨99, _⟩ => ⟨S8x8192x704, .f32⟩
  | .hbm, ⟨100, _⟩ => ⟨S8x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩

abbrev nD : Nat := 1
abbrev τ : Topo := Topo.v7x

variable {F : FTy → Type} [FloatOps F]
-- ==== KernelSquare.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceSquareIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Reals.lean ====
/- The real numbers inside the extended reals: sums, products, quotients by a constant, the sigmoid and the reciprocal
   square root of real numbers are real numbers. Two identities of the backward pass are proved there: the derivative of
   the gate's SiLU in its two spellings, and the derivative of the RMS norm in its two spellings. -/
module

public import Idealize.ShloMosaic.Lib.IdealHost

@[expose] public section

namespace Cert.Ffn

open Idealize.ShloMosaic

/-- An extended real that is a real number. -/
def IsR (x : EReal) : Prop := ∃ r : ℝ, x = (r : EReal)

theorem IsR.coe (r : ℝ) : IsR (r : EReal) := ⟨r, rfl⟩

theorem IsR.zero : IsR 0 := ⟨0, rfl⟩

theorem IsR.one : IsR 1 := ⟨1, rfl⟩

theorem IsR.add {x y : EReal} (hx : IsR x) (hy : IsR y) : IsR (x + y) := by
  obtain ⟨a, rfl⟩ := hx; obtain ⟨b, rfl⟩ := hy; exact ⟨a + b, by norm_cast⟩

theorem IsR.mul {x y : EReal} (hx : IsR x) (hy : IsR y) : IsR (x * y) := by
  obtain ⟨a, rfl⟩ := hx; obtain ⟨b, rfl⟩ := hy; exact ⟨a * b, by norm_cast⟩

theorem IsR.sub {x y : EReal} (hx : IsR x) (hy : IsR y) : IsR (x - y) := by
  obtain ⟨a, rfl⟩ := hx; obtain ⟨b, rfl⟩ := hy; exact ⟨a - b, by norm_cast⟩

theorem IsR.neg {x : EReal} (hx : IsR x) : IsR (-x) := by
  obtain ⟨a, rfl⟩ := hx; exact ⟨-a, by norm_cast⟩

theorem IsR.sum {ι : Type} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

/-- A finite sum of real numbers, taken in the extended reals, is their sum. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A magnitude below infinity belongs to a real number. -/
theorem IsR.of_ne {x : EReal} (h₁ : x ≠ ⊤) (h₂ : x ≠ ⊥) : IsR x := by
  induction x with
  | bot => exact absurd rfl h₂
  | top => exact absurd rfl h₁
  | coe r => exact ⟨r, rfl⟩

/-- The width of a row as the float constant 1024. -/
theorem ofBits_width : Ideal.ofBits .f32 0x44800000#32 = ((1024 : ℝ) : EReal) := by
  simp [Ideal.ofBits, Ideal.ieee, -EReal.coe_mul, -EReal.coe_neg]; norm_num

/-- The float constant −1/2. -/
theorem ofBits_neg_half : Ideal.ofBits .f32 0xBF000000#32 = ((-(1 / 2) : ℝ) : EReal) := by
  simp [Ideal.ofBits, Ideal.ieee, -EReal.coe_mul, -EReal.coe_neg]; norm_num

/-- The norm's small constant, a positive real number. -/
theorem ofBits_eps : ∃ e : ℝ, 0 < e ∧ Ideal.ofBits .f32 0x358637BD#32 = (e : EReal) := by
  refine ⟨(8796093 : ℝ) / 2 ^ 43, by norm_num, ?_⟩
  simp [Ideal.ofBits, Ideal.ieee, -EReal.coe_mul, -EReal.coe_neg]; norm_num

theorem div_coe {x y : ℝ} (hy : y ≠ 0) : Ideal.div (x : EReal) (y : EReal) = ((x / y : ℝ) : EReal) := by
  have : (y : EReal) ≠ 0 := by exact_mod_cast hy
  rw [Ideal.div, if_neg this, ← EReal.coe_inv, ← EReal.coe_mul, div_eq_mul_inv]

/-- The logistic function as both programs spell it. -/
noncomputable def lgt (x : EReal) : EReal := Ideal.div 1 (1 + Ideal.exp (-x))

theorem lgt_coe (x : ℝ) : lgt (x : EReal) = ((1 / (1 + Real.exp (-x)) : ℝ) : EReal) := by
  have h : (1 + Real.exp (-x)) ≠ 0 := by positivity
  rw [lgt, ← EReal.coe_neg, Ideal.exp_coe, ← EReal.coe_one, ← EReal.coe_add, div_coe h]

theorem IsR.lgt {x : EReal} (hx : IsR x) : IsR (lgt x) := by
  obtain ⟨a, rfl⟩ := hx; exact ⟨_, lgt_coe a⟩

/-- The gate's share of the gradient: the derivative `σ + xσ − xσ·σ` of the SiLU, and the same with the product rule
    written out, `σ` and `x·σ(1 − σ)` apart. -/
theorem gate_eq {t u x : EReal} (ht : IsR t) (hu : IsR u) (hx : IsR x) :
    t * u * (lgt x + x * lgt x - x * lgt x * lgt x)
      = t * u * lgt x + x * (t * u) * (lgt x * (1 - lgt x)) := by
  obtain ⟨t, rfl⟩ := ht; obtain ⟨u, rfl⟩ := hu; obtain ⟨x, rfl⟩ := hx
  rw [lgt_coe, ← EReal.coe_one]
  norm_cast
  ring

/-- The row's reciprocal root mean square. -/
noncomputable def rrms (x : Fin 1024 → EReal) : EReal :=
  Ideal.rsqrt (Ideal.div (∑ k, x k * x k) (Ideal.ofBits .f32 0x44800000#32) + Ideal.ofBits .f32 0x358637BD#32)

/-- Of a row of real numbers: the mean square with the small constant added is a positive real `q`, and `rrms` is `1/√q`. -/
theorem rrms_real (x : Fin 1024 → ℝ) : ∃ q : ℝ, 0 < q ∧
    Ideal.div (∑ k, (x k : EReal) * (x k : EReal)) (Ideal.ofBits .f32 0x44800000#32) + Ideal.ofBits .f32 0x358637BD#32 = (q : EReal)
    ∧ rrms (fun k => (x k : EReal)) = (((Real.sqrt q)⁻¹ : ℝ) : EReal) := by
  obtain ⟨e, he, hE⟩ := ofBits_eps
  have hs : (∑ k, (x k : EReal) * (x k : EReal)) = ((∑ k, x k * x k : ℝ) : EReal) := by
    rw [← sum_coe]; exact Finset.sum_congr rfl fun k _ => (EReal.coe_mul _ _).symm
  have hq : 0 < (∑ k, x k * x k) / 1024 + e :=
    add_pos_of_nonneg_of_pos (div_nonneg (Finset.sum_nonneg fun k _ => mul_self_nonneg (x k)) (by norm_num)) he
  have hv : Ideal.div (∑ k, (x k : EReal) * (x k : EReal)) (Ideal.ofBits .f32 0x44800000#32) + Ideal.ofBits .f32 0x358637BD#32
      = (((∑ k, x k * x k) / 1024 + e : ℝ) : EReal) := by
    rw [hs, hE, ofBits_width, div_coe (by norm_num), EReal.coe_add]
  refine ⟨_, hq, hv, ?_⟩
  rw [rrms, hv, Ideal.rsqrt_coe, if_neg (not_lt.2 hq.le), if_neg hq.ne']

theorem IsR.rrms {x : Fin 1024 → EReal} (hx : ∀ k, IsR (x k)) : IsR (rrms x) := by
  choose f hf using hx
  obtain ⟨q, _, _, h⟩ := rrms_real f
  have : x = fun k => (f k : EReal) := funext hf
  rw [this]; exact ⟨_, h⟩

/-- The derivative of the RMS norm in its two spellings: the projection `r·(a − x̂·mean(a·x̂))`, and the product rule with
    the derivative `−½·r/q` of `1/√q`. -/
theorem rms_eq {x a : Fin 1024 → EReal} (hx : ∀ k, IsR (x k)) (ha : ∀ k, IsR (a k)) (j : Fin 1024) :
    rrms x * (a j - x j * rrms x * Ideal.div (∑ k, a k * (x k * rrms x)) (Ideal.ofBits .f32 0x44800000#32))
      = a j * rrms x
        + x j * Ideal.div ((∑ k, x k * a k) * (Ideal.ofBits .f32 0xBF000000#32
            * Ideal.div (rrms x) (Ideal.div (∑ k, x k * x k) (Ideal.ofBits .f32 0x44800000#32) + Ideal.ofBits .f32 0x358637BD#32)))
          (Ideal.ofBits .f32 0x44800000#32)
        + Ideal.div ((∑ k, x k * a k) * (Ideal.ofBits .f32 0xBF000000#32
            * Ideal.div (rrms x) (Ideal.div (∑ k, x k * x k) (Ideal.ofBits .f32 0x44800000#32) + Ideal.ofBits .f32 0x358637BD#32)))
          (Ideal.ofBits .f32 0x44800000#32) * x j := by
  choose f hf using hx
  choose b hb using ha
  obtain rfl : x = fun k => (f k : EReal) := funext hf
  obtain rfl : a = fun k => (b k : EReal) := funext hb
  obtain ⟨q, hq, hv, hr⟩ := rrms_real f
  have hs : Real.sqrt q ≠ 0 := (Real.sqrt_pos.2 hq).ne'
  have hsq : Real.sqrt q * Real.sqrt q = q := Real.mul_self_sqrt hq.le
  simp only [hv, hr]
  have h₁ : (∑ k, (b k : EReal) * ((f k : EReal) * (((Real.sqrt q)⁻¹ : ℝ) : EReal)))
      = (((∑ k, f k * b k) * (Real.sqrt q)⁻¹ : ℝ) : EReal) := by
    rw [Finset.sum_mul, ← sum_coe]
    refine Finset.sum_congr rfl fun k _ => ?_
    rw [← EReal.coe_mul, ← EReal.coe_mul]; congr 1; ring
  have h₂ : (∑ k, (f k : EReal) * (b k : EReal)) = ((∑ k, f k * b k : ℝ) : EReal) := by
    rw [← sum_coe]; exact Finset.sum_congr rfl fun k _ => (EReal.coe_mul _ _).symm
  rw [h₁, h₂, ofBits_width, ofBits_neg_half, div_coe (by norm_num : (1024 : ℝ) ≠ 0), div_coe hq.ne']
  generalize (∑ k, f k * b k) = σ
  rw [show ((σ : ℝ) : EReal) * (((-(1 / 2) : ℝ) : EReal) * (((Real.sqrt q)⁻¹ / q : ℝ) : EReal))
      = ((σ * (-(1 / 2) * ((Real.sqrt q)⁻¹ / q)) : ℝ) : EReal) by rw [EReal.coe_mul, EReal.coe_mul],
    div_coe (by norm_num : (1024 : ℝ) ≠ 0)]
  generalize Real.sqrt q = s at hs hsq
  generalize f j = u
  generalize b j = v
  have h₃ : s⁻¹ * (v - u * s⁻¹ * (σ * s⁻¹ / 1024)) = v * s⁻¹ + u * (σ * (-(1 / 2) * (s⁻¹ / q)) / 1024)
      + σ * (-(1 / 2) * (s⁻¹ / q)) / 1024 * u := by
    rw [← hsq]; field_simp; ring
  rw [← EReal.coe_mul, ← EReal.coe_mul, ← EReal.coe_sub, ← EReal.coe_mul, ← EReal.coe_mul, ← EReal.coe_mul, ← EReal.coe_mul,
    ← EReal.coe_add, ← EReal.coe_add, h₃]

end Cert.Ffn

end
-- ==== Proof.Block.lean ====
/- What one block of 256 rows by 704 columns computes, element by element: the kernel's vector expressions for a block
   read at a row and a column. -/
module

public import proofs.«01_k».proof.Proof.Gen.KernelIdeal.Skeleton
public import proofs.«01_k».proof.Proof.Reals
public import Idealize.ShloMosaic.Lib.Pointwise

@[expose] public section

namespace Cert.Ffn

open Idealize.ShloMosaic Cert.KernelIdeal Cert.KernelIdeal.Gen

/-- A block of the convolution's output or input, read as a matrix. -/
theorem pay15_apply (v : Vec Ideal S1x256x704 .bf16) (s : Fin 256) (k : Fin 704) :
    k0_pay15 v (ix2 s k) = v (ix3 0 s k) := by
  pointwise [k0_pay15]

/-- The logistic function of a block. -/
theorem pay17_apply (v : Vec Ideal S1x256x704 .bf16) (s : Fin 256) (k : Fin 704) :
    k0_pay17 v (ix2 s k) = lgt (v (ix3 0 s k)) := by
  pointwise [k0_pay17, k0_pay15, lgt]
  rw [zero_sub]

theorem pay19_apply (v w : Vec Ideal S1x256x704 .bf16) (s : Fin 256) (k : Fin 704) :
    k0_pay19 v w (ix3 0 s k) = v (ix3 0 s k) * lgt (v (ix3 0 s k)) * w (ix3 0 s k) := by
  pointwise [k0_pay19, k0_pay18, k0_pay17, k0_pay15, k0_pay16, lgt]
  simp only [zero_sub]

theorem pay13_apply (dh : Vec Ideal S256x1024 .f32) (w : Vec Ideal S704x1024 .bf16) (s : Fin 256) (k : Fin 704) :
    k0_pay13 dh w (ix2 s k) = ∑ l : Fin 1024, dh (ix2 s l) * w (ix2 k l) := by
  pointwise [k0_pay13, k0_pay11]

theorem pay20_apply (a : FVec Ideal S256x704 .f32) (v w : Vec Ideal S1x256x704 .bf16) (s : Fin 256) (k : Fin 704) :
    k0_pay20 a v w (ix2 s k) = a (ix2 s k) * w (ix3 0 s k)
      * (lgt (v (ix3 0 s k)) + v (ix3 0 s k) * lgt (v (ix3 0 s k))
        - v (ix3 0 s k) * lgt (v (ix3 0 s k)) * lgt (v (ix3 0 s k))) := by
  pointwise [k0_pay20, k0_pay18, k0_pay17, k0_pay15, k0_pay16, lgt]
  simp only [zero_sub]

theorem pay21_apply (a : FVec Ideal S256x704 .f32) (v : Vec Ideal S1x256x704 .bf16) (s : Fin 256) (k : Fin 704) :
    k0_pay21 a v (ix2 s k) = a (ix2 s k) * (v (ix3 0 s k) * lgt (v (ix3 0 s k))) := by
  pointwise [k0_pay21, k0_pay18, k0_pay17, k0_pay15, lgt]
  rw [zero_sub]

/-- A choice by the test `m ≥ 7` of a small number. -/
theorem select_ge7 {m : ℕ} (hm : m < 8) (x y : EReal) :
    Scalar.select (IntOp.cmpi CmpIPredicate.sge (BitVec.ofNat 32 m) 7#32) x y = if 7 ≤ m then x else y := by
  interval_cases m <;> rfl

/-- A choice by the test `m ≥ 6` of a small number. -/
theorem select_ge6 {m : ℕ} (hm : m < 8) (x y : EReal) :
    Scalar.select (IntOp.cmpi CmpIPredicate.sge (BitVec.ofNat 32 m) 6#32) x y = if 6 ≤ m then x else y := by
  interval_cases m <;> rfl

/-- The rows of a block moved up by one: row `s` holds row `s + 1`, and the last row the first of the eight rows after. -/
theorem pay39_apply (a : FVec Ideal S256x704 .f32) (n : Vec Ideal S1x8x704 .f32) (s : Fin 256) (k : Fin 704) :
    k0_pay39 a n (ix2 s k) = if h : s.val + 1 < 256 then a (ix2 ⟨s.val + 1, h⟩ k) else n (ix3 0 ⟨s.val + 1 - 256, by omega⟩ k) := by
  pointwise [k0_pay39, k0_pay38]
  rw [select_ge7 (Nat.mod_lt _ (by norm_num))]
  have hs := s.isLt
  by_cases h1 : 7 ≤ s.val % 8
  · rw [if_pos h1]
    by_cases h2 : s.val / 8 < 31
    · rw [dif_pos h2, dif_pos (by omega)]
      congr 2; apply Fin.ext; show (1 + s.val / 8) * 8 + (s.val % 8 + 8 - 7) % 8 = s.val + 1; omega
    · rw [dif_neg h2, dif_neg (by omega)]
      congr 2 <;> apply Fin.ext
      · show s.val / 8 - 31 = 0; omega
      · show (s.val % 8 + 8 - 7) % 8 = s.val + 1 - 256; omega
  · rw [if_neg h1, dif_pos (by omega)]
    congr 2; apply Fin.ext; show s.val / 8 * 8 + (s.val % 8 + 8 - 7) % 8 = s.val + 1; omega

/-- The rows of a block moved up by two. -/
theorem pay40_apply (a : FVec Ideal S256x704 .f32) (n : Vec Ideal S1x8x704 .f32) (s : Fin 256) (k : Fin 704) :
    k0_pay40 a n (ix2 s k) = if h : s.val + 2 < 256 then a (ix2 ⟨s.val + 2, h⟩ k) else n (ix3 0 ⟨s.val + 2 - 256, by omega⟩ k) := by
  pointwise [k0_pay40, k0_pay38]
  rw [select_ge6 (Nat.mod_lt _ (by norm_num))]
  have hs := s.isLt
  by_cases h1 : 6 ≤ s.val % 8
  · rw [if_pos h1]
    by_cases h2 : s.val / 8 < 31
    · rw [dif_pos h2, dif_pos (by omega)]
      congr 2; apply Fin.ext; show (1 + s.val / 8) * 8 + (s.val % 8 + 8 - 6) % 8 = s.val + 2; omega
    · rw [dif_neg h2, dif_neg (by omega)]
      congr 2 <;> apply Fin.ext
      · show s.val / 8 - 31 = 0; omega
      · show (s.val % 8 + 8 - 6) % 8 = s.val + 2 - 256; omega
  · rw [if_neg h1, dif_pos (by omega)]
    congr 2; apply Fin.ext; show s.val / 8 * 8 + (s.val % 8 + 8 - 6) % 8 = s.val + 2; omega

theorem pay34_apply (a a1 a2 : FVec Ideal S256x704 .f32) (w : Vec Ideal S1x3x704 .f32) (s : Fin 256) (k : Fin 704) :
    k0_pay34 a a1 a2 w (ix2 s k) = w (ix3 0 2 k) * a (ix2 s k) + w (ix3 0 1 k) * a1 (ix2 s k) + w (ix3 0 0 k) * a2 (ix2 s k) := by
  pointwise [k0_pay34]

theorem pay28_apply (a : FVec Ideal S256x704 .f32) (v : Vec Ideal S1x1x704 .f32) (k : Fin 704) :
    k0_pay28 a v (ix3 0 0 k) = v (ix3 0 0 k) + ∑ s : Fin 256, a (ix2 s k) := by
  pointwise [k0_pay28]

theorem pay35_apply (a : FVec Ideal S256x704 .f32) (s : Fin 8) (k : Fin 704) :
    k0_pay35 a (ix3 0 s k) = a (ix2 ⟨s.val, by omega⟩ k) := by
  pointwise [k0_pay35]

theorem pay36_apply (a a1 a2 : FVec Ideal S256x704 .f32) (w : Vec Ideal S1x3x704 .f32) (s : Fin 256) (k : Fin 704) :
    k0_pay36 a a1 a2 w (ix3 0 s k) = k0_pay34 a a1 a2 w (ix2 s k) := by
  pointwise [k0_pay36]

theorem pay37_apply (x : FVec Ideal S256x1024 .f32) (d : FVec Ideal S256x704 .bf16) (w : Vec Ideal S1x1024x704 .bf16)
    (s : Fin 256) (l : Fin 1024) :
    k0_pay37 x d w (ix2 s l) = x (ix2 s l) + ∑ k : Fin 704, d (ix2 s k) * w (ix3 0 l k) := by
  pointwise [k0_pay37]

theorem pay8_apply (x : Vec Ideal S256x1024 .f32) (s : Fin 256) :
    k0_pay8 x (ix2 s 0) = rrms fun l => x (ix2 s l) := by
  pointwise [k0_pay8, rrms]

theorem pay9_apply (x : Vec Ideal S256x1024 .f32) (s : Fin 256) (l : Fin 1024) :
    k0_pay9 x (ix2 s l) = x (ix2 s l) * rrms fun l => x (ix2 s l) := by
  pointwise [k0_pay9, k0_pay8, rrms]

theorem pay10_apply (x : Vec Ideal S256x1024 .f32) (g : Vec Ideal S1x1024 .f32) (s : Fin 256) (l : Fin 1024) :
    k0_pay10 x g (ix2 l s) = x (ix2 s l) * (rrms fun l => x (ix2 s l)) * g (ix2 0 l) := by
  pointwise [k0_pay10, k0_pay9, k0_pay8, k0_pay7, rrms]

theorem pay33_apply (a b : FVec Ideal S256x704 .f32) (v : Vec Ideal S1x1x704 .f32) (k : Fin 704) :
    k0_pay33 a b v (ix3 0 0 k) = v (ix3 0 0 k) + ∑ s : Fin 256, a (ix2 s k) * b (ix2 s k) := by
  pointwise [k0_pay33]

theorem pay7_apply (g : Vec Ideal S1x1024 .f32) : k0_pay7 g = g := by
  funext j
  pointwise [k0_pay7]

theorem pay12_apply (s : Fin 256) (l : Fin 1024) : k0_pay12 (F := Ideal) (ix2 s l) = 0 := by
  pointwise [k0_pay12]

/-- The gradient through the RMS norm: the projection `r·(a − x̂·mean(a·x̂))` of `a = dy·g`. -/
theorem pay170_apply (g : FVec Ideal S1x1024 .f32) (r : FVec Ideal S256x1 .f32) (xh : FVec Ideal S256x1024 .f32)
    (a : FVec Ideal S256x704 .f32) (y : FVec Ideal S256x1024 .f32) (a1 a2 : FVec Ideal S256x704 .f32)
    (c : Vec Ideal S1x3x704 .f32) (u : Vec Ideal S1x1024x704 .bf16) (s : Fin 256) (l : Fin 1024) :
    k0_pay170 g r xh a y a1 a2 c u (ix2 s l)
      = r (ix2 s 0) * (k0_pay169 a y a1 a2 c u (ix2 s l) * g (ix2 0 l)
        - xh (ix2 s l) * Ideal.div (∑ m : Fin 1024, k0_pay169 a y a1 a2 c u (ix2 s m) * g (ix2 0 m) * xh (ix2 s m))
            (Ideal.ofBits .f32 0x44800000#32)) := by
  pointwise [k0_pay170]

theorem pay171_apply (xh : FVec Ideal S256x1024 .f32)
    (a : FVec Ideal S256x704 .f32) (y : FVec Ideal S256x1024 .f32) (a1 a2 : FVec Ideal S256x704 .f32)
    (c : Vec Ideal S1x3x704 .f32) (u : Vec Ideal S1x1024x704 .bf16) (l : Fin 1024) :
    k0_pay171 xh a y a1 a2 c u (ix2 0 l) = ∑ s : Fin 256, k0_pay169 a y a1 a2 c u (ix2 s l) * xh (ix2 s l) := by
  pointwise [k0_pay171]

theorem pay1_apply (a b : Vec Ideal S1x1024 .f32) (l : Fin 1024) : k0_pay1 a b (ix2 0 l) = b (ix2 0 l) + a (ix2 0 l) := by
  pointwise [k0_pay1]

theorem pay2_apply (a b : Vec Ideal S256x1024 .f32) (s : Fin 256) (l : Fin 1024) :
    k0_pay2 a b (ix2 s l) = a (ix2 s l) + b (ix2 s l) := by
  pointwise [k0_pay2]

theorem pay11_apply (a : Vec Ideal S256x1024 .f32) (s : Fin 256) (l : Fin 1024) : k0_pay11 a (ix2 s l) = a (ix2 s l) := by
  pointwise [k0_pay11]

theorem pay3_apply (j : S8x8x704.Idx) : k0_pay3 (F := Ideal) j = 0 := by pointwise [k0_pay3]

theorem pay4_apply (j : S8x3x704.Idx) : k0_pay4 (F := Ideal) j = 0 := by pointwise [k0_pay4]

theorem pay5_apply (j : S8x1x704.Idx) : k0_pay5 (F := Ideal) j = 0 := by pointwise [k0_pay5]

theorem pay6_apply (j : S1x1024.Idx) : k0_pay6 (F := Ideal) j = 0 := by pointwise [k0_pay6]

end Cert.Ffn

end
-- ==== Proof.Tile.lean ====
/- What the kernel computes on one tile of 256 rows, as formulas over the entries of the arrays it is given: `x0` the
   incoming gradient, `x1` the activations, `x2` the up projection, `x3` the convolution's output, `x4` the gain, `x5` the
   up weights, `x6` the convolution's weights, `x7` the down weights, and `sh` the first eight rows of the tile after. -/
module

public import proofs.«01_k».proof.Proof.Block

@[expose] public section

namespace Cert.Ffn

open Idealize.ShloMosaic Cert.KernelIdeal Cert.KernelIdeal.Gen

variable (x0 x1 : Vec Ideal S256x1024 .f32) (x2 x3 : Vec Ideal S8x256x704 .bf16) (x4 : Vec Ideal S1x1024 .f32)
  (x5 : Vec Ideal S8x1024x704 .bf16) (x6 : Vec Ideal S8x3x704 .f32) (x7 : Vec Ideal S2816x1024 .bf16)
  (sh : Vec Ideal S8x8x704 .f32)

/-- The gradient of the gated activations: the incoming gradient times the down weights. -/
noncomputable def tDA (d : Fin 4) (s : Fin 256) (k : Fin 704) : EReal :=
  ∑ l : Fin 1024, x0 (ix2 s l) * x7 (ix2 (⟨704 * d.val + k.val, by omega⟩ : Fin 2816) l)

/-- The gradient of the convolution's output: blocks 0–3 are the gate half, blocks 4–7 the up half. -/
noncomputable def tDC (e : Fin 8) (s : Fin 256) (k : Fin 704) : EReal :=
  if h : e.val < 4 then
    tDA x0 x7 ⟨e.val, h⟩ s k * x3 (ix3 (⟨4 + e.val, by omega⟩ : Fin 8) s k)
      * (lgt (x3 (ix3 e s k)) + x3 (ix3 e s k) * lgt (x3 (ix3 e s k)) - x3 (ix3 e s k) * lgt (x3 (ix3 e s k)) * lgt (x3 (ix3 e s k)))
  else
    tDA x0 x7 ⟨e.val - 4, by omega⟩ s k
      * (x3 (ix3 (⟨e.val - 4, by omega⟩ : Fin 8) s k) * lgt (x3 (ix3 (⟨e.val - 4, by omega⟩ : Fin 8) s k)))

/-- Row `i` of the gradient of the convolution's output, where the rows past the tile's last are the next tile's first. -/
noncomputable def tN (e : Fin 8) (i : ℕ) (k : Fin 704) : EReal :=
  if h : i < 256 then tDC x0 x3 x7 e ⟨i, h⟩ k else if h' : i - 256 < 8 then sh (ix3 e ⟨i - 256, h'⟩ k) else 0

/-- The gradient of the up projection: the transposed convolution. -/
noncomputable def tHH (e : Fin 8) (s : Fin 256) (k : Fin 704) : EReal :=
  x6 (ix3 e 2 k) * tDC x0 x3 x7 e s k + x6 (ix3 e 1 k) * tN x0 x3 x7 sh e (s.val + 1) k
    + x6 (ix3 e 0 k) * tN x0 x3 x7 sh e (s.val + 2) k

/-- One block's part of the gradient of the normalised activations. -/
noncomputable def tXE (e : Fin 8) (s : Fin 256) (l : Fin 1024) : EReal :=
  ∑ k : Fin 704, tHH x0 x3 x6 x7 sh e s k * x5 (ix3 e l k)

/-- The gradient of the normalised activations. -/
noncomputable def tXN (s : Fin 256) (l : Fin 1024) : EReal := ∑ e : Fin 8, tXE x0 x3 x5 x6 x7 sh e s l

/-- The gradient of the tile's activations: the incoming gradient, and the one through the RMS norm. -/
noncomputable def tDX (s : Fin 256) (l : Fin 1024) : EReal :=
  x0 (ix2 s l) + (rrms fun m => x1 (ix2 s m)) * (tXN x0 x3 x5 x6 x7 sh s l * x4 (ix2 0 l)
    - x1 (ix2 s l) * (rrms fun m => x1 (ix2 s m)) * Ideal.div
        (∑ m : Fin 1024, tXN x0 x3 x5 x6 x7 sh s m * x4 (ix2 0 m) * (x1 (ix2 s m) * rrms fun m => x1 (ix2 s m)))
        (Ideal.ofBits .f32 0x44800000#32))

/-- The tile's sums for the gain. -/
noncomputable def tDG (l : Fin 1024) : EReal :=
  ∑ s : Fin 256, tXN x0 x3 x5 x6 x7 sh s l * (x1 (ix2 s l) * rrms fun m => x1 (ix2 s m))

/-- The tile's sums for the convolution's weight `u`: the gradient of the output `2 − u` rows later times the input. -/
noncomputable def tCW (e : Fin 8) (u : Fin 3) (k : Fin 704) : EReal :=
  ∑ s : Fin 256, tN x0 x3 x7 sh e (s.val + (2 - u.val)) k * x2 (ix3 e s k)

variable {x0 x1 x2 x3 x4 x5 x6 x7 sh}

theorem tN_row (e : Fin 8) (s : Fin 256) (k : Fin 704) : tN x0 x3 x7 sh e s.val k = tDC x0 x3 x7 e s k := by
  rw [tN, dif_pos s.isLt]

section Facts

variable {X : Vec Ideal S256x1024 .f32} {W : Vec Ideal S704x1024 .bf16} {v w : Vec Ideal S1x256x704 .bf16}

theorem dcG_of (d : Fin 4) (hX : ∀ s l, X (ix2 s l) = x0 (ix2 s l))
    (hW : ∀ (k : Fin 704) (l : Fin 1024), W (ix2 k l) = x7 (ix2 (⟨704 * d.val + k.val, by omega⟩ : Fin 2816) l))
    (hv : ∀ s k, v (ix3 0 s k) = x3 (ix3 (⟨d.val, by omega⟩ : Fin 8) s k))
    (hw : ∀ s k, w (ix3 0 s k) = x3 (ix3 (⟨4 + d.val, by omega⟩ : Fin 8) s k)) (s : Fin 256) (k : Fin 704) :
    k0_pay20 (k0_pay13 X W) v w (ix2 s k) = tDC x0 x3 x7 ⟨d.val, by omega⟩ s k := by
  rw [pay20_apply, pay13_apply, tDC, dif_pos d.isLt]
  simp only [hX, hW, hv, hw]
  rfl

theorem dcU_of (d : Fin 4) (hX : ∀ s l, X (ix2 s l) = x0 (ix2 s l))
    (hW : ∀ (k : Fin 704) (l : Fin 1024), W (ix2 k l) = x7 (ix2 (⟨704 * d.val + k.val, by omega⟩ : Fin 2816) l))
    (hv : ∀ s k, v (ix3 0 s k) = x3 (ix3 (⟨d.val, by omega⟩ : Fin 8) s k)) (s : Fin 256) (k : Fin 704) :
    k0_pay21 (k0_pay13 X W) v (ix2 s k) = tDC x0 x3 x7 ⟨4 + d.val, by omega⟩ s k := by
  have h : ∀ (h : 4 + d.val - 4 < 4), (⟨4 + d.val - 4, h⟩ : Fin 4) = d := fun _ => Fin.ext (by simp)
  have h' : ∀ (h : 4 + d.val - 4 < 8), (⟨4 + d.val - 4, h⟩ : Fin 8) = ⟨d.val, by omega⟩ := fun _ => Fin.ext (by simp)
  rw [pay21_apply, pay13_apply, tDC, dif_neg (by simp)]
  simp only [hX, hW, hv, h, h']
  rfl

variable {a a1 a2 b : FVec Ideal S256x704 .f32} {e : Fin 8}

theorem n1_of {n : Vec Ideal S1x8x704 .f32} (ha : ∀ s k, a (ix2 s k) = tDC x0 x3 x7 e s k)
    (hn : ∀ r k, n (ix3 0 r k) = sh (ix3 e r k)) (s : Fin 256) (k : Fin 704) :
    k0_pay39 a n (ix2 s k) = tN x0 x3 x7 sh e (s.val + 1) k := by
  rw [pay39_apply, tN]
  by_cases h : s.val + 1 < 256
  · rw [dif_pos h, dif_pos h, ha]
  · rw [dif_neg h, dif_neg h, dif_pos (by omega), hn]

theorem n2_of {n : Vec Ideal S1x8x704 .f32} (ha : ∀ s k, a (ix2 s k) = tDC x0 x3 x7 e s k)
    (hn : ∀ r k, n (ix3 0 r k) = sh (ix3 e r k)) (s : Fin 256) (k : Fin 704) :
    k0_pay40 a n (ix2 s k) = tN x0 x3 x7 sh e (s.val + 2) k := by
  rw [pay40_apply, tN]
  by_cases h : s.val + 2 < 256
  · rw [dif_pos h, dif_pos h, ha]
  · rw [dif_neg h, dif_neg h, dif_pos (by omega), hn]

variable {c : Vec Ideal S1x3x704 .f32}

theorem hh_of (ha : ∀ s k, a (ix2 s k) = tDC x0 x3 x7 e s k) (h1 : ∀ s k, a1 (ix2 s k) = tN x0 x3 x7 sh e (s.val + 1) k)
    (h2 : ∀ s k, a2 (ix2 s k) = tN x0 x3 x7 sh e (s.val + 2) k) (hc : ∀ u k, c (ix3 0 u k) = x6 (ix3 e u k))
    (s : Fin 256) (k : Fin 704) : k0_pay34 a a1 a2 c (ix2 s k) = tHH x0 x3 x6 x7 sh e s k := by
  rw [pay34_apply, ha, h1, h2, hc, hc, hc]; rfl

theorem xe_of {y : FVec Ideal S256x1024 .f32} {u : Vec Ideal S1x1024x704 .bf16} {Y : Fin 256 → Fin 1024 → EReal}
    (hY : ∀ s l, y (ix2 s l) = Y s l) (ha : ∀ s k, a (ix2 s k) = tDC x0 x3 x7 e s k)
    (h1 : ∀ s k, a1 (ix2 s k) = tN x0 x3 x7 sh e (s.val + 1) k)
    (h2 : ∀ s k, a2 (ix2 s k) = tN x0 x3 x7 sh e (s.val + 2) k) (hc : ∀ u k, c (ix3 0 u k) = x6 (ix3 e u k))
    (hu : ∀ l k, u (ix3 0 l k) = x5 (ix3 e l k)) (s : Fin 256) (l : Fin 1024) :
    k0_pay37 y (k0_pay34 a a1 a2 c) u (ix2 s l) = Y s l + tXE x0 x3 x5 x6 x7 sh e s l := by
  rw [pay37_apply, hY, tXE]
  congr 1
  exact Finset.sum_congr rfl fun k _ => by rw [hh_of ha h1 h2 hc, hu]

theorem cb_of {o : Vec Ideal S1x1x704 .f32} {O : Fin 704 → EReal} (ha : ∀ s k, a (ix2 s k) = tDC x0 x3 x7 e s k)
    (ho : ∀ k, o (ix3 0 0 k) = O k) (k : Fin 704) : k0_pay28 a o (ix3 0 0 k) = O k + ∑ s, tDC x0 x3 x7 e s k := by
  rw [pay28_apply, ho]; simp only [ha]

theorem cw_of {o : Vec Ideal S1x1x704 .f32} {O : Fin 704 → EReal} {z : Vec Ideal S1x256x704 .bf16}
    {A : Fin 256 → Fin 704 → EReal} (ha : ∀ s k, a (ix2 s k) = A s k)
    (hz : ∀ s k, z (ix3 0 s k) = x2 (ix3 e s k)) (ho : ∀ k, o (ix3 0 0 k) = O k) (k : Fin 704) :
    k0_pay33 a (k0_pay15 z) o (ix3 0 0 k) = O k + ∑ s, A s k * x2 (ix3 e s k) := by
  rw [pay33_apply, ho]; simp only [ha, pay15_apply, hz]

theorem sh_of (ha : ∀ s k, a (ix2 s k) = tDC x0 x3 x7 e s k) (r : Fin 8) (k : Fin 704) :
    k0_pay35 a (ix3 0 r k) = tDC x0 x3 x7 e ⟨r.val, by omega⟩ k := by
  rw [pay35_apply, ha]

end Facts

end Cert.Ffn

end
-- ==== Proof.Loads.lean ====
/- What a load of one slab of a whole buffer reads, and what a list of written slabs leaves in a buffer. -/
module

public import Idealize.ShloMosaic.Lib.Pointwise
public import Idealize.ShloMosaic.Lib.Pipeline.ValueKit

@[expose] public section

namespace Cert.Ffn

open Idealize.ShloMosaic

variable {lay : RefSig}

/-- A load of the slab `d` of a rank-3 buffer. -/
theorem rd3 {n b b' c : ℕ} {e : EltTy} (m : Memref lay .tc .vmem ⟨3, ![n, b, c]⟩ e) (h : m.IsWhole)
    (x : Vec Ideal ⟨3, ![n, b, c]⟩ e) {d u : ℕ} (inb : ∀ a, (![d, u, 0] : Fin 3 → ℕ) a + (![1, b', c] : Fin 3 → ℕ) a ≤ (![n, b, c] : Fin 3 → ℕ) a)
    (hd : d < n) (r : Fin b') (k : Fin c) (hr : u + r.val < b) :
    View.readAt (Elt Ideal) m.view (Rect.unit (s := ⟨3, ![n, b, c]⟩) ![d, u, 0] ![1, b', c] inb).toLoadRect (h.unread x) (ix3 (0 : Fin 1) r k)
      = x (ix3 ⟨d, hd⟩ ⟨u + r.val, hr⟩ k) := by
  show m.view.read (Elt Ideal) (h.unread x) _ = _
  rw [h.read_unread]
  congr 1
  funext a
  fin_cases a <;> apply Fin.ext <;> simp [Rect.unit, Rect.emb, ix3]

/-- A load of a whole slab, and of one row of a slab. -/
theorem rd3_slab {n b c : ℕ} {e : EltTy} (m : Memref lay .tc .vmem ⟨3, ![n, b, c]⟩ e) (h : m.IsWhole)
    (x : Vec Ideal ⟨3, ![n, b, c]⟩ e) {d : ℕ} (inb : ∀ a, (![d, 0, 0] : Fin 3 → ℕ) a + (![1, b, c] : Fin 3 → ℕ) a ≤ (![n, b, c] : Fin 3 → ℕ) a)
    (hd : d < n) (r : Fin b) (k : Fin c) :
    View.readAt (Elt Ideal) m.view (Rect.unit (s := ⟨3, ![n, b, c]⟩) ![d, 0, 0] ![1, b, c] inb).toLoadRect (h.unread x) (ix3 (0 : Fin 1) r k)
      = x (ix3 ⟨d, hd⟩ r k) := by
  rw [rd3 m h x inb hd r k (by omega)]
  congr 2; exact Fin.ext (Nat.zero_add _)

theorem rd3_row {n b c : ℕ} {e : EltTy} (m : Memref lay .tc .vmem ⟨3, ![n, b, c]⟩ e) (h : m.IsWhole)
    (x : Vec Ideal ⟨3, ![n, b, c]⟩ e) {d u : ℕ} (inb : ∀ a, (![d, u, 0] : Fin 3 → ℕ) a + (![1, 1, c] : Fin 3 → ℕ) a ≤ (![n, b, c] : Fin 3 → ℕ) a)
    (hd : d < n) (hu : u < b) (k : Fin c) :
    View.readAt (Elt Ideal) m.view (Rect.unit (s := ⟨3, ![n, b, c]⟩) ![d, u, 0] ![1, 1, c] inb).toLoadRect (h.unread x) (ix3 (0 : Fin 1) (0 : Fin 1) k)
      = x (ix3 ⟨d, hd⟩ ⟨u, hu⟩ k) :=
  rd3 m h x inb hd 0 k hu

/-- A load of the rows from `o` on of a matrix. -/
theorem rd2 {n b c : ℕ} {e : EltTy} (m : Memref lay .tc .vmem ⟨2, ![n, c]⟩ e) (h : m.IsWhole)
    (x : Vec Ideal ⟨2, ![n, c]⟩ e) {o : ℕ} (inb : ∀ a, (![o, 0] : Fin 2 → ℕ) a + (![b, c] : Fin 2 → ℕ) a ≤ (![n, c] : Fin 2 → ℕ) a)
    (r : Fin b) (k : Fin c) (hr : o + r.val < n) :
    View.readAt (Elt Ideal) m.view (Rect.unit (s := ⟨2, ![n, c]⟩) ![o, 0] ![b, c] inb).toLoadRect (h.unread x) (ix2 r k)
      = x (ix2 ⟨o + r.val, hr⟩ k) := by
  show m.view.read (Elt Ideal) (h.unread x) _ = _
  rw [h.read_unread]
  congr 1
  funext a
  fin_cases a <;> apply Fin.ext <;> simp [Rect.unit, Rect.emb, ix2]

/-- A load of a whole matrix. -/
theorem rd2_full {n c : ℕ} {e : EltTy} (m : Memref lay .tc .vmem ⟨2, ![n, c]⟩ e) (h : m.IsWhole)
    (x : Vec Ideal ⟨2, ![n, c]⟩ e) (inb : ∀ a, (![0, 0] : Fin 2 → ℕ) a + (![n, c] : Fin 2 → ℕ) a ≤ (![n, c] : Fin 2 → ℕ) a) :
    View.readAt (Elt Ideal) m.view (Rect.unit (s := ⟨2, ![n, c]⟩) ![0, 0] ![n, c] inb).toLoadRect (h.unread x) = x := by
  show (fun j => m.view.read (Elt Ideal) (h.unread x) _) = _
  rw [h.read_unread]
  funext j
  congr 1
  funext a
  fin_cases a <;> apply Fin.ext <;> simp [Rect.unit, Rect.emb]

/-- Of a list of written slabs the newest wins at its own slab and leaves the others. -/
theorem canon_slab {n b b' c : ℕ} {e : EltTy} {d u : ℕ} (inb : ∀ a, (![d, u, 0] : Fin 3 → ℕ) a + (![1, b', c] : Fin 3 → ℕ) a ≤ (![n, b, c] : Fin 3 → ℕ) a)
    (w : (Rect.unit (s := ⟨3, ![n, b, c]⟩) ![d, u, 0] ![1, b', c] inb).shape.Idx → Elt Ideal e)
    (L : List (View.Piece (Elt Ideal) ⟨3, ![n, b, c]⟩ e)) (i : Fin n) (r : Fin b) (k : Fin c) :
    View.canon (⟨Rect.unit (s := ⟨3, ![n, b, c]⟩) ![d, u, 0] ![1, b', c] inb, w⟩ :: L) (ix3 i r k)
      = if h : i.val = d ∧ u ≤ r.val ∧ r.val - u < b' then w (ix3 (0 : Fin 1) (⟨r.val - u, h.2.2⟩ : Fin b') k)
        else View.canon L (ix3 i r k) := by
  split_ifs with h
  · refine Eq.trans ?_ (View.canon_cons_emb (Rect.unit (s := ⟨3, ![n, b, c]⟩) ![d, u, 0] ![1, b', c] inb) w L _)
    congr 1
    obtain ⟨h1, h2, h3⟩ := h
    funext a
    fin_cases a <;> apply Fin.ext <;> simp [Rect.unit, Rect.emb, ix3]
    · exact h1
    · omega
  · refine View.canon_cons_of_not_mem _ _ ?_
    rw [Rect.mem_set_unit]
    intro hall
    have h0 : d ≤ i.val ∧ i.val < d + 1 := hall 0
    have h1 : u ≤ r.val ∧ r.val < u + b' := hall 1
    exact h ⟨by omega, by omega, by omega⟩

/-- A list whose newest piece is the whole buffer leaves that piece. -/
theorem canon_slab_miss {n b b' c : ℕ} {e : EltTy} {d u : ℕ} (inb : ∀ a, (![d, u, 0] : Fin 3 → ℕ) a + (![1, b', c] : Fin 3 → ℕ) a ≤ (![n, b, c] : Fin 3 → ℕ) a)
    (w : (Rect.unit (s := ⟨3, ![n, b, c]⟩) ![d, u, 0] ![1, b', c] inb).shape.Idx → Elt Ideal e)
    (L : List (View.Piece (Elt Ideal) ⟨3, ![n, b, c]⟩ e)) (i : Fin n) (r : Fin b) (k : Fin c)
    (h : ¬(i.val = d ∧ u ≤ r.val ∧ r.val - u < b')) :
    View.canon (⟨Rect.unit (s := ⟨3, ![n, b, c]⟩) ![d, u, 0] ![1, b', c] inb, w⟩ :: L) (ix3 i r k) = View.canon L (ix3 i r k) := by
  rw [canon_slab, dif_neg h]

theorem canon_whole3 {n b c : ℕ} {e : EltTy} (inb : ∀ a, (![0, 0, 0] : Fin 3 → ℕ) a + (![n, b, c] : Fin 3 → ℕ) a ≤ (![n, b, c] : Fin 3 → ℕ) a)
    (w : Vec Ideal ⟨3, ![n, b, c]⟩ e) (L : List (View.Piece (Elt Ideal) ⟨3, ![n, b, c]⟩ e)) :
    View.canon (⟨Rect.unit (s := ⟨3, ![n, b, c]⟩) ![0, 0, 0] ![n, b, c] inb, w⟩ :: L) = w := by
  funext j
  refine Eq.trans ?_ (View.canon_cons_emb (Rect.unit (s := ⟨3, ![n, b, c]⟩) ![0, 0, 0] ![n, b, c] inb) w L j)
  congr 1
  funext a
  fin_cases a <;> apply Fin.ext <;> simp [Rect.unit, Rect.emb]

theorem canon_whole2 {n c : ℕ} {e : EltTy} (inb : ∀ a, (![0, 0] : Fin 2 → ℕ) a + (![n, c] : Fin 2 → ℕ) a ≤ (![n, c] : Fin 2 → ℕ) a)
    (w : Vec Ideal ⟨2, ![n, c]⟩ e) (L : List (View.Piece (Elt Ideal) ⟨2, ![n, c]⟩ e)) :
    View.canon (⟨Rect.unit (s := ⟨2, ![n, c]⟩) ![0, 0] ![n, c] inb, w⟩ :: L) = w := by
  funext j
  refine Eq.trans ?_ (View.canon_cons_emb (Rect.unit (s := ⟨2, ![n, c]⟩) ![0, 0] ![n, c] inb) w L j)
  congr 1
  funext a
  fin_cases a <;> apply Fin.ext <;> simp [Rect.unit, Rect.emb]

/-- A load of a slab of a buffer that a list of pieces has written. -/
theorem cov3 {n b b' c : ℕ} {e : EltTy} (m : Memref lay .tc .vmem ⟨3, ![n, b, c]⟩ e)
    (L : List (View.Piece (Elt Ideal) ⟨3, ![n, b, c]⟩ e)) {d u : ℕ}
    (inb : ∀ a, (![d, u, 0] : Fin 3 → ℕ) a + (![1, b', c] : Fin 3 → ℕ) a ≤ (![n, b, c] : Fin 3 → ℕ) a)
    (hd : d < n) (r : Fin b') (k : Fin c) (hr : u + r.val < b) :
    m.view.readCov L (Rect.unit (s := ⟨3, ![n, b, c]⟩) ![d, u, 0] ![1, b', c] inb).toLoadRect (ix3 (0 : Fin 1) r k)
      = View.canon L (ix3 ⟨d, hd⟩ ⟨u + r.val, hr⟩ k) := by
  rw [View.readCov_eq_canon']
  show View.canon L _ = _
  congr 1
  funext a
  fin_cases a <;> apply Fin.ext <;> simp [Rect.unit, Rect.emb, ix3]

/-- The piece that writes one slab, `b'` rows from row `u` of slab `d`. -/
def piece {ι : Type} {n b b' c : ℕ} {e : EltTy} (d u : ι → ℕ)
    (inb : ∀ j a, (![d j, u j, 0] : Fin 3 → ℕ) a + (![1, b', c] : Fin 3 → ℕ) a ≤ (![n, b, c] : Fin 3 → ℕ) a)
    (w : ι → Vec Ideal ⟨3, ![1, b', c]⟩ e) (j : ι) : View.Piece (Elt Ideal) ⟨3, ![n, b, c]⟩ e :=
  ⟨Rect.unit (s := ⟨3, ![n, b, c]⟩) ![d j, u j, 0] ![1, b', c] (inb j), w j⟩

section Pieces

variable {ι : Type} {n b b' c : ℕ} {e : EltTy} {d u : ι → ℕ}
  {inb : ∀ j a, (![d j, u j, 0] : Fin 3 → ℕ) a + (![1, b', c] : Fin 3 → ℕ) a ≤ (![n, b, c] : Fin 3 → ℕ) a}
  {w : ι → Vec Ideal ⟨3, ![1, b', c]⟩ e} {L : List (View.Piece (Elt Ideal) ⟨3, ![n, b, c]⟩ e)}

/-- A row that no slab of the list holds reads what lies below. -/
theorem canon_miss (l : List ι) (i : Fin n) (r : Fin b) (k : Fin c)
    (h : ∀ j ∈ l, ¬(i.val = d j ∧ u j ≤ r.val ∧ r.val - u j < b')) :
    View.canon (l.map (piece d u inb w) ++ L) (ix3 i r k) = View.canon L (ix3 i r k) := by
  induction l with
  | nil => rfl
  | cons j l ih =>
    rw [List.map_cons, List.cons_append, piece, canon_slab, dif_neg (h j List.mem_cons_self)]
    exact ih fun j' hj => h j' (List.mem_cons_of_mem _ hj)

/-- A row of a slab of the list reads that slab, where the list's other slabs do not hold it. -/
theorem canon_hit (l : List ι) (j : ι) (hj : j ∈ l) (i : Fin n) (r : Fin b) (k : Fin c)
    (hi : i.val = d j ∧ u j ≤ r.val ∧ r.val - u j < b')
    (h : ∀ j' ∈ l, j' ≠ j → ¬(i.val = d j' ∧ u j' ≤ r.val ∧ r.val - u j' < b')) :
    View.canon (l.map (piece d u inb w) ++ L) (ix3 i r k) = w j (ix3 (0 : Fin 1) (⟨r.val - u j, hi.2.2⟩ : Fin b') k) := by
  induction l with
  | nil => exact absurd hj List.not_mem_nil
  | cons j' l ih =>
    rw [List.map_cons, List.cons_append, piece, canon_slab]
    by_cases hjj : j' = j
    · subst hjj; rw [dif_pos hi]
    · rw [dif_neg (h j' List.mem_cons_self hjj)]
      exact ih ((List.mem_cons.mp hj).resolve_left fun hh => hjj hh.symm) fun j'' hj'' => h j'' (List.mem_cons_of_mem _ hj'')

end Pieces

/-- Whole slabs, written in the order of `l`. -/
def slabs {n b c : ℕ} {e : EltTy} (l : List (Fin n)) (w : Fin n → Vec Ideal ⟨3, ![1, b, c]⟩ e) :
    List (View.Piece (Elt Ideal) ⟨3, ![n, b, c]⟩ e) :=
  l.map (piece (fun j => j.val) (fun _ => 0)
    (fun j a => by have := j.isLt; fin_cases a <;> simp <;> omega) w)

theorem canon_slabs {n b c : ℕ} {e : EltTy} {l : List (Fin n)} {w : Fin n → Vec Ideal ⟨3, ![1, b, c]⟩ e}
    {L : List (View.Piece (Elt Ideal) ⟨3, ![n, b, c]⟩ e)} (i : Fin n) (hi : i ∈ l) (r : Fin b) (k : Fin c) :
    View.canon (slabs l w ++ L) (ix3 i r k) = w i (ix3 (0 : Fin 1) r k) :=
  canon_hit l i hi i r k ⟨rfl, Nat.zero_le _, r.isLt⟩ fun _ _ hne h => hne (Fin.ext h.1).symm

theorem canon_slabs_miss {n b c : ℕ} {e : EltTy} {l : List (Fin n)} {w : Fin n → Vec Ideal ⟨3, ![1, b, c]⟩ e}
    {L : List (View.Piece (Elt Ideal) ⟨3, ![n, b, c]⟩ e)} (i : Fin n) (hi : i ∉ l) (r : Fin b) (k : Fin c) :
    View.canon (slabs l w ++ L) (ix3 i r k) = View.canon L (ix3 i r k) :=
  canon_miss l i r k fun j hj h => hi (by rw [Fin.ext h.1]; exact hj)

/-- Single rows, row `j.2` of slab `j.1`, written in the order of `l`. -/
def rows {n b c : ℕ} {e : EltTy} (l : List (Fin n × Fin b)) (w : Fin n × Fin b → Vec Ideal ⟨3, ![1, 1, c]⟩ e) :
    List (View.Piece (Elt Ideal) ⟨3, ![n, b, c]⟩ e) :=
  l.map (piece (fun j => j.1.val) (fun j => j.2.val)
    (fun j a => by have := j.1.isLt; have := j.2.isLt; fin_cases a <;> simp <;> omega) w)

theorem canon_rows {n b c : ℕ} {e : EltTy} {l : List (Fin n × Fin b)} {w : Fin n × Fin b → Vec Ideal ⟨3, ![1, 1, c]⟩ e}
    {L : List (View.Piece (Elt Ideal) ⟨3, ![n, b, c]⟩ e)} (i : Fin n) (u : Fin b) (hi : (i, u) ∈ l) (k : Fin c) :
    View.canon (rows l w ++ L) (ix3 i u k) = w (i, u) (ix3 (0 : Fin 1) (0 : Fin 1) k) := by
  refine (canon_hit l (i, u) hi i u k ⟨rfl, le_rfl, by simp⟩ fun j _ hne h => hne ?_).trans ?_
  · exact Prod.ext (Fin.ext h.1.symm) (Fin.ext (by have := h.2.1; have := h.2.2; simp only at *; omega))
  · congr 2; exact Fin.ext (Nat.sub_self _)

theorem canon_rows_miss {n b c : ℕ} {e : EltTy} {l : List (Fin n × Fin b)} {w : Fin n × Fin b → Vec Ideal ⟨3, ![1, 1, c]⟩ e}
    {L : List (View.Piece (Elt Ideal) ⟨3, ![n, b, c]⟩ e)} (i : Fin n) (u : Fin b) (hi : (i, u) ∉ l) (k : Fin c) :
    View.canon (rows l w ++ L) (ix3 i u k) = View.canon L (ix3 i u k) :=
  canon_miss l i u k fun j hj h => hi (by
    have : (i, u) = j := Prod.ext (Fin.ext h.1) (Fin.ext (by have := h.2.1; have := h.2.2; simp only at *; omega))
    rw [this]; exact hj)

end Cert.Ffn

end
-- ==== Proof.Body.lean ====
/- One run of the kernel's body over the slabs that it loads: the same eight steps, one for each block of 704 columns, and
   what the pieces that it stores hold. -/
module

public import proofs.«01_k».proof.Proof.Tile
public import proofs.«01_k».proof.Proof.Loads

@[expose] public section

namespace Cert.Ffn

open Idealize.ShloMosaic Cert.KernelIdeal Cert.KernelIdeal.Gen

/-- What one run loads: the incoming gradient, the activations, the gain, and slab by slab the down weights, the
    convolution's output, the up projection, the convolution's weights, the up weights and the rows after the tile. -/
structure Slabs where
  X : Vec Ideal S256x1024 .f32
  H : Vec Ideal S256x1024 .f32
  G : Vec Ideal S1x1024 .f32
  W : Fin 4 → Vec Ideal S704x1024 .bf16
  V : Fin 8 → Vec Ideal S1x256x704 .bf16
  B : Fin 8 → Vec Ideal S1x256x704 .bf16
  C : Fin 8 → Vec Ideal S1x3x704 .f32
  U : Fin 8 → Vec Ideal S1x1024x704 .bf16
  S : Fin 8 → Vec Ideal S1x8x704 .f32

namespace Slabs

variable (σ : Slabs)

/-- The gradients of the gate's and of the up half's block `d`. -/
noncomputable def gate (d : Fin 4) : FVec Ideal S256x704 .f32 :=
  k0_pay20 (k0_pay13 σ.X (σ.W d)) (σ.V ⟨d.val, by omega⟩) (σ.V ⟨4 + d.val, by omega⟩)

noncomputable def up (d : Fin 4) : FVec Ideal S256x704 .f32 := k0_pay21 (k0_pay13 σ.X (σ.W d)) (σ.V ⟨d.val, by omega⟩)

noncomputable def dc : Fin 8 → FVec Ideal S256x704 .f32 :=
  ![σ.gate 0, σ.gate 1, σ.gate 2, σ.gate 3, σ.up 0, σ.up 1, σ.up 2, σ.up 3]

noncomputable def n1 (e : Fin 8) : FVec Ideal S256x704 .f32 := k0_pay39 (σ.dc e) (σ.S e)

noncomputable def n2 (e : Fin 8) : FVec Ideal S256x704 .f32 := k0_pay40 (σ.dc e) (σ.S e)

/-- The sum over the blocks so far of the up projection's gradient times the up weights. -/
noncomputable def xs (l : List (Fin 8)) : FVec Ideal S256x1024 .f32 :=
  l.foldl (fun y e => k0_pay37 y (k0_pay34 (σ.dc e) (σ.n1 e) (σ.n2 e) (σ.C e)) (σ.U e)) k0_pay12

theorem dc_0 : σ.dc 0 = σ.gate 0 := rfl
theorem dc_1 : σ.dc 1 = σ.gate 1 := rfl
theorem dc_2 : σ.dc 2 = σ.gate 2 := rfl
theorem dc_3 : σ.dc 3 = σ.gate 3 := rfl
theorem dc_4 : σ.dc 4 = σ.up 0 := rfl
theorem dc_5 : σ.dc 5 = σ.up 1 := rfl
theorem dc_6 : σ.dc 6 = σ.up 2 := rfl
theorem dc_7 : σ.dc 7 = σ.up 3 := rfl

/-- What each output's pieces hold, newest first. -/
noncomputable def o8 : Vec Ideal S256x1024 .f32 :=
  k0_pay2 σ.X (k0_pay170 (k0_pay7 σ.G) (k0_pay8 σ.H) (k0_pay9 σ.H) (σ.dc 7) (σ.xs [0, 4, 1, 5, 2, 6, 3]) (σ.n1 7) (σ.n2 7)
    (σ.C 7) (σ.U 7))

noncomputable def o10 : List (View.Piece (Elt Ideal) S8x256x704 .bf16) :=
  slabs [7, 3, 6, 2, 5, 1, 4, 0] fun e => k0_pay36 (σ.dc e) (σ.n1 e) (σ.n2 e) (σ.C e)

noncomputable def o11 : List (View.Piece (Elt Ideal) S4x256x704 .bf16) :=
  slabs [3, 2, 1, 0] fun d => k0_pay19 (σ.V ⟨d.val, by have := d.isLt; omega⟩) (σ.V ⟨4 + d.val, by have := d.isLt; omega⟩)

noncomputable def o13 (O : Fin 8 × Fin 3 → Vec Ideal S1x1x704 .f32) : List (View.Piece (Elt Ideal) S8x3x704 .f32) :=
  rows [(7, 2), (7, 1), (7, 0), (3, 2), (3, 1), (3, 0), (6, 2), (6, 1), (6, 0), (2, 2), (2, 1), (2, 0),
      (5, 2), (5, 1), (5, 0), (1, 2), (1, 1), (1, 0), (4, 2), (4, 1), (4, 0), (0, 2), (0, 1), (0, 0)]
    fun j => k0_pay33 ((![σ.n2 j.1, σ.n1 j.1, σ.dc j.1] : Fin 3 → FVec Ideal S256x704 .f32) j.2) (k0_pay15 (σ.B j.1)) (O j)

noncomputable def o14 (O : Fin 8 → Vec Ideal S1x1x704 .f32) : List (View.Piece (Elt Ideal) S8x1x704 .f32) :=
  slabs [7, 3, 6, 2, 5, 1, 4, 0] fun e => k0_pay28 (σ.dc e) (O e)

noncomputable def o15 (O : Vec Ideal S1x1024 .f32) : Vec Ideal S1x1024 .f32 :=
  k0_pay1 (k0_pay171 (k0_pay9 σ.H) (σ.dc 7) (σ.xs [0, 4, 1, 5, 2, 6, 3]) (σ.n1 7) (σ.n2 7) (σ.C 7) (σ.U 7)) O

/-- The first eight rows of the blocks in `l`, kept for the next tile. -/
noncomputable def os (l : List (Fin 8)) : List (View.Piece (Elt Ideal) S8x8x704 .f32) := slabs l fun e => k0_pay35 (σ.dc e)

/-- The slabs are the ones of these arrays. -/
structure Of (x0 x1 : Vec Ideal S256x1024 .f32) (x2 x3 : Vec Ideal S8x256x704 .bf16) (x4 : Vec Ideal S1x1024 .f32)
    (x5 : Vec Ideal S8x1024x704 .bf16) (x6 : Vec Ideal S8x3x704 .f32) (x7 : Vec Ideal S2816x1024 .bf16)
    (sh : Vec Ideal S8x8x704 .f32) : Prop where
  X : σ.X = x0
  H : σ.H = x1
  G : σ.G = x4
  W : ∀ d k l, σ.W d (ix2 k l) = x7 (ix2 (⟨704 * d.val + k.val, by omega⟩ : Fin 2816) l)
  V : ∀ e s k, σ.V e (ix3 0 s k) = x3 (ix3 e s k)
  B : ∀ e s k, σ.B e (ix3 0 s k) = x2 (ix3 e s k)
  C : ∀ e u k, σ.C e (ix3 0 u k) = x6 (ix3 e u k)
  U : ∀ e l k, σ.U e (ix3 0 l k) = x5 (ix3 e l k)
  S : ∀ e r k, σ.S e (ix3 0 r k) = sh (ix3 e r k)

variable {σ} {x0 x1 : Vec Ideal S256x1024 .f32} {x2 x3 : Vec Ideal S8x256x704 .bf16} {x4 : Vec Ideal S1x1024 .f32}
  {x5 : Vec Ideal S8x1024x704 .bf16} {x6 : Vec Ideal S8x3x704 .f32} {x7 : Vec Ideal S2816x1024 .bf16}
  {sh : Vec Ideal S8x8x704 .f32} (h : σ.Of x0 x1 x2 x3 x4 x5 x6 x7 sh)

include h

theorem Of.gate (d : Fin 4) (s : Fin 256) (k : Fin 704) : σ.gate d (ix2 s k) = tDC x0 x3 x7 ⟨d.val, by omega⟩ s k :=
  dcG_of d (fun _ _ => congrFun h.X _) (h.W d) (h.V _) (h.V _) s k

theorem Of.up (d : Fin 4) (s : Fin 256) (k : Fin 704) : σ.up d (ix2 s k) = tDC x0 x3 x7 ⟨4 + d.val, by omega⟩ s k :=
  dcU_of d (fun _ _ => congrFun h.X _) (h.W d) (h.V _) s k

theorem Of.dc (e : Fin 8) (s : Fin 256) (k : Fin 704) : σ.dc e (ix2 s k) = tDC x0 x3 x7 e s k := by
  fin_cases e
  exacts [h.gate 0 s k, h.gate 1 s k, h.gate 2 s k, h.gate 3 s k, h.up 0 s k, h.up 1 s k, h.up 2 s k, h.up 3 s k]

theorem Of.n1 (e : Fin 8) (s : Fin 256) (k : Fin 704) : σ.n1 e (ix2 s k) = tN x0 x3 x7 sh e (s.val + 1) k :=
  n1_of (h.dc e) (h.S e) s k

theorem Of.n2 (e : Fin 8) (s : Fin 256) (k : Fin 704) : σ.n2 e (ix2 s k) = tN x0 x3 x7 sh e (s.val + 2) k :=
  n2_of (h.dc e) (h.S e) s k

theorem Of.hh (e : Fin 8) (s : Fin 256) (k : Fin 704) :
    k0_pay34 (σ.dc e) (σ.n1 e) (σ.n2 e) (σ.C e) (ix2 s k) = tHH x0 x3 x6 x7 sh e s k :=
  hh_of (h.dc e) (h.n1 e) (h.n2 e) (h.C e) s k

theorem Of.fold (l : List (Fin 8)) (y : FVec Ideal S256x1024 .f32) (s : Fin 256) (m : Fin 1024) :
    l.foldl (fun y e => k0_pay37 y (k0_pay34 (σ.dc e) (σ.n1 e) (σ.n2 e) (σ.C e)) (σ.U e)) y (ix2 s m)
      = l.foldl (fun a e => a + tXE x0 x3 x5 x6 x7 sh e s m) (y (ix2 s m)) := by
  induction l generalizing y with
  | nil => rfl
  | cons e l ih =>
    rw [List.foldl_cons, ih, List.foldl_cons]
    exact congrArg (fun a => List.foldl _ a l)
      (xe_of (Y := fun s m => y (ix2 s m)) (fun _ _ => rfl) (h.dc e) (h.n1 e) (h.n2 e) (h.C e) (h.U e) s m)

theorem Of.xn (s : Fin 256) (m : Fin 1024) :
    k0_pay169 (σ.dc 7) (σ.xs [0, 4, 1, 5, 2, 6, 3]) (σ.n1 7) (σ.n2 7) (σ.C 7) (σ.U 7) (ix2 s m)
      = tXN x0 x3 x5 x6 x7 sh s m := by
  refine (h.fold [0, 4, 1, 5, 2, 6, 3, 7] k0_pay12 s m).trans ?_
  rw [pay12_apply, tXN, Fin.sum_univ_eight]
  simp only [List.foldl_cons, List.foldl_nil, zero_add]
  ac_rfl

theorem Of.o8 (s : Fin 256) (m : Fin 1024) : σ.o8 (ix2 s m) = tDX x0 x1 x3 x4 x5 x6 x7 sh s m := by
  rw [Slabs.o8, pay2_apply, pay170_apply, pay8_apply, pay7_apply, pay9_apply, h.X, h.H, h.G, tDX, h.xn]
  simp only [h.xn, pay9_apply]

theorem Of.o9 (s : Fin 256) (m : Fin 1024) :
    k0_pay10 σ.H σ.G (ix2 m s) = x1 (ix2 s m) * (rrms fun l => x1 (ix2 s l)) * x4 (ix2 0 m) := by
  rw [pay10_apply, h.H, h.G]

theorem Of.o10 (L : List (View.Piece (Elt Ideal) S8x256x704 .bf16)) (e : Fin 8) (s : Fin 256) (k : Fin 704) :
    View.canon (σ.o10 ++ L) (ix3 e s k) = tHH x0 x3 x6 x7 sh e s k := by
  rw [Slabs.o10, canon_slabs e (by revert e; decide) s k, pay36_apply, h.hh]

theorem Of.o11 (L : List (View.Piece (Elt Ideal) S4x256x704 .bf16)) (d : Fin 4) (s : Fin 256) (k : Fin 704) :
    View.canon (σ.o11 ++ L) (ix3 d s k)
      = x3 (ix3 (⟨d.val, by omega⟩ : Fin 8) s k) * lgt (x3 (ix3 (⟨d.val, by omega⟩ : Fin 8) s k))
        * x3 (ix3 (⟨4 + d.val, by omega⟩ : Fin 8) s k) := by
  rw [Slabs.o11, canon_slabs d (by revert d; decide) s k, pay19_apply, h.V, h.V]

theorem Of.o12 (s : Fin 256) (m : Fin 1024) : k0_pay11 σ.X (ix2 s m) = x0 (ix2 s m) := by
  rw [pay11_apply, h.X]

theorem Of.o13 {O : Fin 8 × Fin 3 → Vec Ideal S1x1x704 .f32} {o : Fin 8 → Fin 3 → Fin 704 → EReal}
    (hO : ∀ e u k, O (e, u) (ix3 0 0 k) = o e u k) (L : List (View.Piece (Elt Ideal) S8x3x704 .f32)) (e : Fin 8) (u : Fin 3)
    (k : Fin 704) : View.canon (σ.o13 O ++ L) (ix3 e u k) = o e u k + tCW x0 x2 x3 x7 sh e u k := by
  rw [Slabs.o13, canon_rows e u (by revert e u; decide) k]
  refine cw_of (A := fun s k => tN x0 x3 x7 sh e (s.val + (2 - u.val)) k) (fun s k => ?_) (h.B e) (hO e u) k
  fin_cases u
  exacts [h.n2 e s k, h.n1 e s k, (h.dc e s k).trans (tN_row e s k).symm]

theorem Of.o14 {O : Fin 8 → Vec Ideal S1x1x704 .f32} {o : Fin 8 → Fin 704 → EReal}
    (hO : ∀ e k, O e (ix3 0 0 k) = o e k) (L : List (View.Piece (Elt Ideal) S8x1x704 .f32)) (e : Fin 8)
    (k : Fin 704) : View.canon (σ.o14 O ++ L) (ix3 e (0 : Fin 1) k) = o e k + ∑ s, tDC x0 x3 x7 e s k := by
  rw [Slabs.o14, canon_slabs e (by revert e; decide) 0 k]
  exact cb_of (h.dc e) (hO e) k

theorem Of.o15 (O : Vec Ideal S1x1024 .f32) (m : Fin 1024) :
    σ.o15 O (ix2 0 m) = O (ix2 0 m) + tDG x0 x1 x3 x5 x6 x7 sh m := by
  rw [Slabs.o15, pay1_apply, pay171_apply, h.H, tDG]
  simp only [h.xn, pay9_apply]

theorem Of.os (L : List (View.Piece (Elt Ideal) S8x8x704 .f32)) (l : List (Fin 8)) (e : Fin 8) (he : e ∈ l) (r : Fin 8) (k : Fin 704) :
    View.canon (σ.os l ++ L) (ix3 e r k) = tDC x0 x3 x7 e ⟨r.val, by omega⟩ k := by
  rw [Slabs.os, canon_slabs e he r k]
  exact sh_of (h.dc e) r k

end Slabs

/-- What one run of the body leaves in its outputs and in the scratch, from the blocks it is given, the carried rows `sh`
    and what the accumulators held. -/
structure Made (x0 x1 : Vec Ideal S256x1024 .f32) (x2 x3 : Vec Ideal S8x256x704 .bf16) (x4 : Vec Ideal S1x1024 .f32)
    (x5 : Vec Ideal S8x1024x704 .bf16) (x6 : Vec Ideal S8x3x704 .f32) (x7 : Vec Ideal S2816x1024 .bf16)
    (sh : Vec Ideal S8x8x704 .f32) (o13 : Fin 8 → Fin 3 → Fin 704 → EReal) (o14 : Fin 8 → Fin 704 → EReal)
    (o15 : Fin 1024 → EReal) (y8 : Vec Ideal S256x1024 .f32) (y9 : Vec Ideal S1024x256 .bf16)
    (y10 : Vec Ideal S8x256x704 .bf16) (y11 : Vec Ideal S4x256x704 .bf16) (y12 : Vec Ideal S256x1024 .bf16)
    (y13 : Vec Ideal S8x3x704 .f32) (y14 : Vec Ideal S8x1x704 .f32) (y15 : Vec Ideal S1x1024 .f32)
    (ys : Vec Ideal S8x8x704 .f32) : Prop where
  dx (s : Fin 256) (m : Fin 1024) : y8 (ix2 s m) = tDX x0 x1 x3 x4 x5 x6 x7 sh s m
  xn (s : Fin 256) (m : Fin 1024) : y9 (ix2 m s) = x1 (ix2 s m) * (rrms fun l => x1 (ix2 s l)) * x4 (ix2 0 m)
  dhh (e : Fin 8) (s : Fin 256) (k : Fin 704) : y10 (ix3 e s k) = tHH x0 x3 x6 x7 sh e s k
  act (d : Fin 4) (s : Fin 256) (k : Fin 704) : y11 (ix3 d s k)
    = x3 (ix3 (⟨d.val, by omega⟩ : Fin 8) s k) * lgt (x3 (ix3 (⟨d.val, by omega⟩ : Fin 8) s k))
      * x3 (ix3 (⟨4 + d.val, by omega⟩ : Fin 8) s k)
  dh (s : Fin 256) (m : Fin 1024) : y12 (ix2 s m) = x0 (ix2 s m)
  dcw (e : Fin 8) (u : Fin 3) (k : Fin 704) : y13 (ix3 e u k) = o13 e u k + tCW x0 x2 x3 x7 sh e u k
  dcb (e : Fin 8) (k : Fin 704) : y14 (ix3 e (0 : Fin 1) k) = o14 e k + ∑ s, tDC x0 x3 x7 e s k
  dg (m : Fin 1024) : y15 (ix2 0 m) = o15 m + tDG x0 x1 x3 x5 x6 x7 sh m
  sc (e : Fin 8) (r : Fin 8) (k : Fin 704) : ys (ix3 e r k) = tDC x0 x3 x7 e ⟨r.val, by omega⟩ k

end Cert.Ffn

end
-- ==== Proof.Whole.lean ====
/- The same formulas over the whole arrays of 8192 rows, and that a tile computes its rows of them. The arrays are given
   as functions of their entries: `X` the incoming gradient, `H` the activations, `B` the up projection, `C` the
   convolution's output, `g` the gain, `U` the up weights, `K` the convolution's weights, `D` the down weights. -/
module

public import proofs.«01_k».proof.Proof.Body

@[expose] public section

namespace Cert.Ffn

open Idealize.ShloMosaic Cert.KernelIdeal Cert.KernelIdeal.Gen

/-- The arrays that the kernel is given. -/
structure Arrays where
  X : Fin 8192 → Fin 1024 → EReal
  H : Fin 8192 → Fin 1024 → EReal
  B : Fin 8 → Fin 8192 → Fin 704 → EReal
  C : Fin 8 → Fin 8192 → Fin 704 → EReal
  g : Fin 1024 → EReal
  U : Fin 8 → Fin 1024 → Fin 704 → EReal
  K : Fin 8 → Fin 3 → Fin 704 → EReal
  D : Fin 2816 → Fin 1024 → EReal

namespace Arrays

variable (A : Arrays)

noncomputable def da (d : Fin 4) (r : Fin 8192) (k : Fin 704) : EReal :=
  ∑ l : Fin 1024, A.X r l * A.D ⟨704 * d.val + k.val, by omega⟩ l

/-- The gradient of the convolution's output. -/
noncomputable def dc (e : Fin 8) (r : Fin 8192) (k : Fin 704) : EReal :=
  if h : e.val < 4 then
    A.da ⟨e.val, h⟩ r k * A.C ⟨4 + e.val, by omega⟩ r k
      * (lgt (A.C e r k) + A.C e r k * lgt (A.C e r k) - A.C e r k * lgt (A.C e r k) * lgt (A.C e r k))
  else
    A.da ⟨e.val - 4, by omega⟩ r k * (A.C ⟨e.val - 4, by omega⟩ r k * lgt (A.C ⟨e.val - 4, by omega⟩ r k))

/-- The same, zero past the last row. -/
noncomputable def dn (e : Fin 8) (i : ℕ) (k : Fin 704) : EReal := if h : i < 8192 then A.dc e ⟨i, h⟩ k else 0

/-- The gradient of the up projection. -/
noncomputable def hh (e : Fin 8) (r : Fin 8192) (k : Fin 704) : EReal :=
  A.K e 2 k * A.dc e r k + A.K e 1 k * A.dn e (r.val + 1) k + A.K e 0 k * A.dn e (r.val + 2) k

/-- The gradient of the normalised activations. -/
noncomputable def xn (r : Fin 8192) (l : Fin 1024) : EReal := ∑ e : Fin 8, ∑ k : Fin 704, A.hh e r k * A.U e l k

noncomputable def dx (r : Fin 8192) (l : Fin 1024) : EReal :=
  A.X r l + (rrms (A.H r)) * (A.xn r l * A.g l - A.H r l * (rrms (A.H r)) * Ideal.div
    (∑ m : Fin 1024, A.xn r m * A.g m * (A.H r m * rrms (A.H r))) (Ideal.ofBits .f32 0x44800000#32))

/-- The normalised activations. -/
noncomputable def nx (r : Fin 8192) (l : Fin 1024) : EReal := A.H r l * (rrms (A.H r)) * A.g l

/-- The gated activations. -/
noncomputable def act (d : Fin 4) (r : Fin 8192) (k : Fin 704) : EReal :=
  A.C ⟨d.val, by omega⟩ r k * lgt (A.C ⟨d.val, by omega⟩ r k) * A.C ⟨4 + d.val, by omega⟩ r k

/-- The terms of the three sums over the rows, zero past the last row. -/
noncomputable def fg (l : Fin 1024) (i : ℕ) : EReal := if h : i < 8192 then A.xn ⟨i, h⟩ l * (A.H ⟨i, h⟩ l * rrms (A.H ⟨i, h⟩)) else 0

noncomputable def fw (e : Fin 8) (u : Fin 3) (k : Fin 704) (i : ℕ) : EReal :=
  if h : i < 8192 then A.dn e (i + (2 - u.val)) k * A.B e ⟨i, h⟩ k else 0

end Arrays

/-- Rows `b` to `b + 255` of the arrays as the blocks of one tile, and in the scratch the eight rows after. -/
structure Tile (A : Arrays) (b : ℕ) (x0 x1 : Vec Ideal S256x1024 .f32) (x2 x3 : Vec Ideal S8x256x704 .bf16)
    (x4 : Vec Ideal S1x1024 .f32) (x5 : Vec Ideal S8x1024x704 .bf16) (x6 : Vec Ideal S8x3x704 .f32)
    (x7 : Vec Ideal S2816x1024 .bf16) (sh : Vec Ideal S8x8x704 .f32) : Prop where
  le : b + 256 ≤ 8192
  X (s : Fin 256) (l : Fin 1024) : x0 (ix2 s l) = A.X ⟨b + s.val, by omega⟩ l
  H (s : Fin 256) (l : Fin 1024) : x1 (ix2 s l) = A.H ⟨b + s.val, by omega⟩ l
  B (e : Fin 8) (s : Fin 256) (k : Fin 704) : x2 (ix3 e s k) = A.B e ⟨b + s.val, by omega⟩ k
  C (e : Fin 8) (s : Fin 256) (k : Fin 704) : x3 (ix3 e s k) = A.C e ⟨b + s.val, by omega⟩ k
  g (l : Fin 1024) : x4 (ix2 0 l) = A.g l
  U (e : Fin 8) (l : Fin 1024) (k : Fin 704) : x5 (ix3 e l k) = A.U e l k
  K (e : Fin 8) (u : Fin 3) (k : Fin 704) : x6 (ix3 e u k) = A.K e u k
  D (p : Fin 2816) (l : Fin 1024) : x7 (ix2 p l) = A.D p l
  S (e : Fin 8) (r : Fin 8) (k : Fin 704) : sh (ix3 e r k) = A.dn e (b + 256 + r.val) k

namespace Tile

variable {A : Arrays} {b : ℕ} {x0 x1 : Vec Ideal S256x1024 .f32} {x2 x3 : Vec Ideal S8x256x704 .bf16}
  {x4 : Vec Ideal S1x1024 .f32} {x5 : Vec Ideal S8x1024x704 .bf16} {x6 : Vec Ideal S8x3x704 .f32}
  {x7 : Vec Ideal S2816x1024 .bf16} {sh : Vec Ideal S8x8x704 .f32} (T : Tile A b x0 x1 x2 x3 x4 x5 x6 x7 sh)
include T

theorem da (d : Fin 4) (s : Fin 256) (k : Fin 704) :
    tDA x0 x7 d s k = A.da d ⟨b + s.val, by have := T.le; omega⟩ k := by
  simp only [tDA, Arrays.da, T.X, T.D]

theorem dc (e : Fin 8) (s : Fin 256) (k : Fin 704) :
    tDC x0 x3 x7 e s k = A.dc e ⟨b + s.val, by have := T.le; omega⟩ k := by
  simp only [tDC, Arrays.dc, T.da, T.C]

theorem dn (e : Fin 8) (i : ℕ) (hi : i < 264) (k : Fin 704) : tN x0 x3 x7 sh e i k = A.dn e (b + i) k := by
  have := T.le
  rw [tN]
  split_ifs with h h'
  · rw [T.dc, Arrays.dn, dif_pos (by omega)]
  · rw [T.S]; congr 1; simp only; omega
  · omega

theorem hh (e : Fin 8) (s : Fin 256) (k : Fin 704) :
    tHH x0 x3 x6 x7 sh e s k = A.hh e ⟨b + s.val, by have := T.le; omega⟩ k := by
  simp only [tHH, Arrays.hh, T.K, T.dc, T.dn e (s.val + 1) (by omega), T.dn e (s.val + 2) (by omega), add_assoc]

theorem xn (s : Fin 256) (l : Fin 1024) :
    tXN x0 x3 x5 x6 x7 sh s l = A.xn ⟨b + s.val, by have := T.le; omega⟩ l := by
  simp only [tXN, tXE, Arrays.xn, T.hh, T.U]

theorem rms (s : Fin 256) : (rrms fun m => x1 (ix2 s m)) = rrms (A.H ⟨b + s.val, by have := T.le; omega⟩) := by
  simp only [T.H]

theorem dx (s : Fin 256) (l : Fin 1024) :
    tDX x0 x1 x3 x4 x5 x6 x7 sh s l = A.dx ⟨b + s.val, by have := T.le; omega⟩ l := by
  simp only [tDX, Arrays.dx, T.xn, T.rms]
  simp only [T.H, T.X, T.g]

/-- A sum over the tile's rows. -/
theorem sum (f : ℕ → EReal) : ∑ s : Fin 256, f (b + s.val) = ∑ i ∈ Finset.Ico b (b + 256), f i := by
  rw [Finset.sum_Ico_eq_sum_range, Nat.add_sub_cancel_left, Finset.sum_range]

theorem dg (l : Fin 1024) : tDG x0 x1 x3 x5 x6 x7 sh l = ∑ i ∈ Finset.Ico b (b + 256), A.fg l i := by
  have := T.le
  rw [← T.sum, tDG]
  refine Finset.sum_congr rfl fun s _ => ?_
  rw [Arrays.fg, dif_pos (by omega), T.xn, T.rms, T.H]

theorem cw (e : Fin 8) (u : Fin 3) (k : Fin 704) :
    tCW x0 x2 x3 x7 sh e u k = ∑ i ∈ Finset.Ico b (b + 256), A.fw e u k i := by
  have := T.le
  rw [← T.sum, tCW]
  refine Finset.sum_congr rfl fun s _ => ?_
  rw [Arrays.fw, dif_pos (by omega), T.dn _ _ (by omega), T.B, add_assoc]

theorem cb (e : Fin 8) (k : Fin 704) :
    ∑ s, tDC x0 x3 x7 e s k = ∑ i ∈ Finset.Ico b (b + 256), A.dn e i k := by
  have := T.le
  rw [← T.sum fun i => A.dn e i k]
  refine Finset.sum_congr rfl fun s _ => ?_
  rw [T.dc, Arrays.dn, dif_pos (by omega)]

end Tile

/-- A sum over all the rows. -/
theorem sum_rows (f : ℕ → EReal) : ∑ i ∈ Finset.Ico 0 8192, f i = ∑ r : Fin 8192, f r.val := by
  rw [Finset.sum_Ico_eq_sum_range, Finset.sum_range]; simp

end Cert.Ffn

end
-- ==== Proof.Same.lean ====
/- The eight steps of the body are one step: each payload that the body computes for a later block is the first block's, of
   that block's values. -/
module

public import proofs.«01_k».proof.Proof.Gen.KernelIdeal.Skeleton
public import Idealize.ShloMosaic.Lib.Pointwise

@[expose] public section

namespace Cert.Ffn.Same

open Idealize.ShloMosaic Cert.KernelIdeal Cert.KernelIdeal.Gen

variable (X : Vec Ideal S256x1024 .f32) (W : Vec Ideal S704x1024 .bf16) (V V' B : Vec Ideal S1x256x704 .bf16)
  (C : Vec Ideal S1x3x704 .f32) (U : Vec Ideal S1x1024x704 .bf16) (S : Vec Ideal S1x8x704 .f32) (O : Vec Ideal S1x1x704 .f32)
  (a b b1 b2 : FVec Ideal S256x704 .f32) (y : FVec Ideal S256x1024 .f32)

theorem da0 : k0_pay14 X W = k0_pay13 X W := by
  dsimp only [k0_pay11, k0_pay13, k0_pay14]

theorem da2 : k0_pay52 (k0_pay11 X) W = k0_pay13 X W := by
  dsimp only [k0_pay11, k0_pay13, k0_pay52]

theorem da3 : k0_pay92 (k0_pay11 X) W = k0_pay13 X W := by
  dsimp only [k0_pay11, k0_pay13, k0_pay92]

theorem g1 : k0_pay59 a (k0_pay53 V) (k0_pay54 V') (k0_pay55 V) = k0_pay20 a V V' := by
  dsimp only [k0_pay15, k0_pay16, k0_pay17, k0_pay18, k0_pay20, k0_pay53, k0_pay54, k0_pay55, k0_pay56, k0_pay57, k0_pay59]

theorem u1 : k0_pay60 a (k0_pay53 V) (k0_pay55 V) = k0_pay21 a V := by
  dsimp only [k0_pay15, k0_pay17, k0_pay18, k0_pay21, k0_pay53, k0_pay55, k0_pay56, k0_pay57, k0_pay60]

theorem g2 : k0_pay101 (k0_pay98 a V') (k0_pay99 V) (k0_pay100 V) = k0_pay20 a V V' := by
  dsimp only [k0_pay15, k0_pay16, k0_pay17, k0_pay18, k0_pay20, k0_pay93, k0_pay94, k0_pay95, k0_pay96, k0_pay98, k0_pay99, k0_pay100, k0_pay101]

theorem u2 : k0_pay102 a (k0_pay96 V) = k0_pay21 a V := by
  dsimp only [k0_pay15, k0_pay17, k0_pay18, k0_pay21, k0_pay93, k0_pay95, k0_pay96, k0_pay102]

theorem g3 : k0_pay140 a V V' = k0_pay20 a V V' := by
  dsimp only [k0_pay15, k0_pay16, k0_pay17, k0_pay18, k0_pay20, k0_pay135, k0_pay136, k0_pay137, k0_pay138, k0_pay140]

theorem u3 : k0_pay141 a V = k0_pay21 a V := by
  dsimp only [k0_pay15, k0_pay17, k0_pay18, k0_pay21, k0_pay135, k0_pay137, k0_pay138, k0_pay141]

theorem n1_0 : k0_pay23 a V V' S = k0_pay39 (k0_pay20 a V V') S := by
  dsimp only [k0_pay22, k0_pay23, k0_pay38, k0_pay39]

theorem n2_0 : k0_pay26 (k0_pay22 S) (k0_pay24 a V V') (k0_pay25 a V V') = k0_pay40 (k0_pay20 a V V') S := by
  dsimp only [k0_pay22, k0_pay24, k0_pay25, k0_pay26, k0_pay38, k0_pay40]

theorem n1_1 : k0_pay62 a (k0_pay53 V) (k0_pay54 V') (k0_pay55 V) S = k0_pay39 (k0_pay20 a V V') S := by
  dsimp only [k0_pay15, k0_pay16, k0_pay17, k0_pay18, k0_pay20, k0_pay38, k0_pay39, k0_pay53, k0_pay54, k0_pay55, k0_pay56, k0_pay57, k0_pay59, k0_pay61, k0_pay62]

theorem n2_1 : k0_pay63 a (k0_pay53 V) (k0_pay54 V') (k0_pay55 V) S = k0_pay40 (k0_pay20 a V V') S := by
  dsimp only [k0_pay15, k0_pay16, k0_pay17, k0_pay18, k0_pay20, k0_pay38, k0_pay40, k0_pay53, k0_pay54, k0_pay55, k0_pay56, k0_pay57, k0_pay59, k0_pay61, k0_pay63]

theorem n1_5 : k0_pay79 (k0_pay76 b) (k0_pay77 b) (k0_pay78 S) 7#32 = k0_pay39 b S := by
  dsimp only [k0_pay38, k0_pay39, k0_pay75, k0_pay76, k0_pay77, k0_pay78, k0_pay79]

theorem n2_5 : k0_pay80 b (k0_pay75 S) = k0_pay40 b S := by
  dsimp only [k0_pay38, k0_pay40, k0_pay75, k0_pay80]

theorem n1_2 : k0_pay104 (k0_pay98 a V') (k0_pay99 V) (k0_pay100 V) S = k0_pay39 (k0_pay20 a V V') S := by
  dsimp only [k0_pay15, k0_pay16, k0_pay17, k0_pay18, k0_pay20, k0_pay38, k0_pay39, k0_pay93, k0_pay94, k0_pay95, k0_pay96, k0_pay98, k0_pay99, k0_pay100, k0_pay101, k0_pay103, k0_pay104]

theorem n2_2 : k0_pay105 (k0_pay98 a V') (k0_pay99 V) (k0_pay100 V) S = k0_pay40 (k0_pay20 a V V') S := by
  dsimp only [k0_pay15, k0_pay16, k0_pay17, k0_pay18, k0_pay20, k0_pay38, k0_pay40, k0_pay93, k0_pay94, k0_pay95, k0_pay96, k0_pay98, k0_pay99, k0_pay100, k0_pay101, k0_pay103, k0_pay105]

theorem n1_6 : k0_pay119 b S = k0_pay39 b S := by
  dsimp only [k0_pay38, k0_pay39, k0_pay118, k0_pay119]

theorem n2_6 : k0_pay123 (k0_pay120 b) (k0_pay121 b) (k0_pay122 S) 6#32 = k0_pay40 b S := by
  dsimp only [k0_pay38, k0_pay40, k0_pay118, k0_pay120, k0_pay121, k0_pay122, k0_pay123]

theorem n1_3 : k0_pay146 (k0_pay143 a V V') (k0_pay144 a V V' S) k0_pay145 = k0_pay39 (k0_pay20 a V V') S := by
  dsimp only [k0_pay15, k0_pay16, k0_pay17, k0_pay18, k0_pay20, k0_pay38, k0_pay39, k0_pay135, k0_pay136, k0_pay137, k0_pay138, k0_pay140, k0_pay142, k0_pay143, k0_pay144, k0_pay145, k0_pay146]

theorem n2_3 : k0_pay147 b (k0_pay142 S) = k0_pay40 b S := by
  dsimp only [k0_pay38, k0_pay40, k0_pay142, k0_pay147]

theorem n1_7 : k0_pay158 b S = k0_pay39 b S := by
  dsimp only [k0_pay38, k0_pay39, k0_pay157, k0_pay158]

theorem n2_7 : k0_pay159 b S = k0_pay40 b S := by
  dsimp only [k0_pay38, k0_pay40, k0_pay157, k0_pay159]

theorem w13_00 :
    k0_pay29 (k0_pay22 S) (k0_pay24 a V V') (k0_pay25 a V V') B O
      = k0_pay33 (k0_pay40 (k0_pay20 a V V') S) (k0_pay15 B) O := by
  dsimp only [k0_pay15, k0_pay22, k0_pay24, k0_pay25, k0_pay26, k0_pay27, k0_pay29, k0_pay33, k0_pay38, k0_pay40]

theorem w13_01 : k0_pay32 (k0_pay30 O) (k0_pay31 b B) = k0_pay33 b (k0_pay15 B) O := by
  dsimp only [k0_pay15, k0_pay27, k0_pay30, k0_pay31, k0_pay32, k0_pay33]

theorem w13_02 : k0_pay33 b (k0_pay27 B) O = k0_pay33 b (k0_pay15 B) O := by
  dsimp only [k0_pay15, k0_pay27, k0_pay33]

theorem w13_40 : k0_pay44 b (k0_pay41 B) O = k0_pay33 b (k0_pay15 B) O := by
  dsimp only [k0_pay15, k0_pay33, k0_pay41, k0_pay44]

theorem w13_41 : k0_pay45 b (k0_pay41 B) O = k0_pay33 b (k0_pay15 B) O := by
  dsimp only [k0_pay15, k0_pay33, k0_pay41, k0_pay45]

theorem w13_42 : k0_pay46 b (k0_pay41 B) O = k0_pay33 b (k0_pay15 B) O := by
  dsimp only [k0_pay15, k0_pay33, k0_pay41, k0_pay46]

theorem w13_10 : k0_pay66 b B O = k0_pay33 b (k0_pay15 B) O := by
  dsimp only [k0_pay15, k0_pay33, k0_pay64, k0_pay66]

theorem w13_11 : k0_pay67 b B O = k0_pay33 b (k0_pay15 B) O := by
  dsimp only [k0_pay15, k0_pay33, k0_pay64, k0_pay67]

theorem w13_12 : k0_pay70 (k0_pay68 O) (k0_pay69 b B) = k0_pay33 b (k0_pay15 B) O := by
  dsimp only [k0_pay15, k0_pay33, k0_pay64, k0_pay68, k0_pay69, k0_pay70]

theorem w13_50 : k0_pay84 (k0_pay83 b (k0_pay75 S) B O) = k0_pay33 (k0_pay40 b S) (k0_pay15 B) O := by
  dsimp only [k0_pay15, k0_pay33, k0_pay38, k0_pay40, k0_pay75, k0_pay80, k0_pay81, k0_pay83, k0_pay84]

theorem w13_51 : k0_pay85 b (k0_pay81 B) O = k0_pay33 b (k0_pay15 B) O := by
  dsimp only [k0_pay15, k0_pay33, k0_pay81, k0_pay85]

theorem w13_52 : k0_pay86 b (k0_pay81 B) O = k0_pay33 b (k0_pay15 B) O := by
  dsimp only [k0_pay15, k0_pay33, k0_pay81, k0_pay86]

theorem w13_20 : k0_pay109 b (k0_pay106 B) O = k0_pay33 b (k0_pay15 B) O := by
  dsimp only [k0_pay15, k0_pay33, k0_pay106, k0_pay109]

theorem w13_21 : k0_pay110 b (k0_pay106 B) O = k0_pay33 b (k0_pay15 B) O := by
  dsimp only [k0_pay15, k0_pay33, k0_pay106, k0_pay110]

theorem w13_22 : k0_pay111 b (k0_pay106 B) O = k0_pay33 b (k0_pay15 B) O := by
  dsimp only [k0_pay15, k0_pay33, k0_pay106, k0_pay111]

theorem w13_60 : k0_pay126 (k0_pay120 b) (k0_pay121 b) (k0_pay122 S) 6#32 B O = k0_pay33 (k0_pay40 b S) (k0_pay15 B) O := by
  dsimp only [k0_pay15, k0_pay33, k0_pay38, k0_pay40, k0_pay118, k0_pay120, k0_pay121, k0_pay122, k0_pay123, k0_pay124, k0_pay126]

theorem w13_61 : k0_pay128 (k0_pay127 b B O) = k0_pay33 b (k0_pay15 B) O := by
  dsimp only [k0_pay15, k0_pay33, k0_pay124, k0_pay127, k0_pay128]

theorem w13_62 : k0_pay129 b (k0_pay124 B) O = k0_pay33 b (k0_pay15 B) O := by
  dsimp only [k0_pay15, k0_pay33, k0_pay124, k0_pay129]

theorem w13_30 : k0_pay150 b (k0_pay142 S) B O = k0_pay33 (k0_pay40 b S) (k0_pay15 B) O := by
  dsimp only [k0_pay15, k0_pay33, k0_pay38, k0_pay40, k0_pay142, k0_pay147, k0_pay148, k0_pay150]

theorem w13_31 : k0_pay151 b (k0_pay148 B) O = k0_pay33 b (k0_pay15 B) O := by
  dsimp only [k0_pay15, k0_pay33, k0_pay148, k0_pay151]

theorem w13_32 : k0_pay152 b (k0_pay148 B) O = k0_pay33 b (k0_pay15 B) O := by
  dsimp only [k0_pay15, k0_pay33, k0_pay148, k0_pay152]

theorem w13_70 : k0_pay163 b (k0_pay160 B) O = k0_pay33 b (k0_pay15 B) O := by
  dsimp only [k0_pay15, k0_pay33, k0_pay160, k0_pay163]

theorem w13_71 : k0_pay164 b (k0_pay160 B) O = k0_pay33 b (k0_pay15 B) O := by
  dsimp only [k0_pay15, k0_pay33, k0_pay160, k0_pay164]

theorem w13_72 : k0_pay165 b (k0_pay160 B) O = k0_pay33 b (k0_pay15 B) O := by
  dsimp only [k0_pay15, k0_pay33, k0_pay160, k0_pay165]

theorem w14_4 : k0_pay43 (k0_pay42 b O) = k0_pay28 b O := by
  dsimp only [k0_pay28, k0_pay42, k0_pay43]

theorem w14_1 : k0_pay65 b O = k0_pay28 b O := by
  dsimp only [k0_pay28, k0_pay65]

theorem w14_5 : k0_pay82 b O = k0_pay28 b O := by
  dsimp only [k0_pay28, k0_pay82]

theorem w14_2 : k0_pay108 (k0_pay107 (k0_pay98 a V') (k0_pay99 V) (k0_pay100 V) O) = k0_pay28 (k0_pay20 a V V') O := by
  dsimp only [k0_pay15, k0_pay16, k0_pay17, k0_pay18, k0_pay20, k0_pay28, k0_pay93, k0_pay94, k0_pay95, k0_pay96, k0_pay98, k0_pay99, k0_pay100, k0_pay101, k0_pay107, k0_pay108]

theorem w14_6 : k0_pay125 b O = k0_pay28 b O := by
  dsimp only [k0_pay28, k0_pay125]

theorem w14_3 : k0_pay149 b O = k0_pay28 b O := by
  dsimp only [k0_pay28, k0_pay149]

theorem w14_7 : k0_pay162 b (k0_pay161 O) = k0_pay28 b O := by
  dsimp only [k0_pay28, k0_pay161, k0_pay162]

theorem s_4 : k0_pay49 b = k0_pay35 b := by
  dsimp only [k0_pay35, k0_pay49]

theorem s_1 : k0_pay72 b = k0_pay35 b := by
  dsimp only [k0_pay35, k0_pay72]

theorem s_5 : k0_pay89 (k0_pay88 b) = k0_pay35 b := by
  dsimp only [k0_pay35, k0_pay88, k0_pay89]

theorem s_2 : k0_pay115 b = k0_pay35 b := by
  dsimp only [k0_pay35, k0_pay115]

theorem s_6 : k0_pay131 b = k0_pay35 b := by
  dsimp only [k0_pay35, k0_pay131]

theorem s_3 : k0_pay154 b = k0_pay35 b := by
  dsimp only [k0_pay35, k0_pay154]

theorem s_7 : k0_pay167 b = k0_pay35 b := by
  dsimp only [k0_pay35, k0_pay167]

theorem w10_4 : k0_pay50 b b1 b2 (k0_pay47 C) = k0_pay36 b b1 b2 C := by
  dsimp only [k0_pay34, k0_pay36, k0_pay47, k0_pay48, k0_pay50]

theorem w10_1 : k0_pay73 b b1 b2 C = k0_pay36 b b1 b2 C := by
  dsimp only [k0_pay34, k0_pay36, k0_pay71, k0_pay73]

theorem w10_5 : k0_pay90 (k0_pay87 b b1 b2 C) = k0_pay36 b b1 b2 C := by
  dsimp only [k0_pay34, k0_pay36, k0_pay87, k0_pay90]

theorem w10_2 : k0_pay116 b b1 b2 (k0_pay112 C) (k0_pay113 C) = k0_pay36 b b1 b2 C := by
  dsimp only [k0_pay34, k0_pay36, k0_pay112, k0_pay113, k0_pay114, k0_pay116]

theorem w10_6 : k0_pay132 b b1 b2 C = k0_pay36 b b1 b2 C := by
  dsimp only [k0_pay34, k0_pay36, k0_pay130, k0_pay132]

theorem w10_3 : k0_pay155 (k0_pay153 b b1 b2 C) = k0_pay36 b b1 b2 C := by
  dsimp only [k0_pay34, k0_pay36, k0_pay153, k0_pay155]

theorem w10_7 : k0_pay168 b b1 b2 C = k0_pay36 b b1 b2 C := by
  dsimp only [k0_pay34, k0_pay36, k0_pay166, k0_pay168]

theorem w11_3 : k0_pay139 V V' = k0_pay19 V V' := by
  dsimp only [k0_pay15, k0_pay16, k0_pay17, k0_pay18, k0_pay19, k0_pay135, k0_pay136, k0_pay137, k0_pay138, k0_pay139]

theorem w11_2 : k0_pay97 V V' = k0_pay19 V V' := by
  dsimp only [k0_pay15, k0_pay16, k0_pay17, k0_pay18, k0_pay19, k0_pay93, k0_pay94, k0_pay95, k0_pay96, k0_pay97]

theorem w11_1 : k0_pay58 (k0_pay53 V) (k0_pay54 V') (k0_pay55 V) = k0_pay19 V V' := by
  dsimp only [k0_pay15, k0_pay16, k0_pay17, k0_pay18, k0_pay19, k0_pay53, k0_pay54, k0_pay55, k0_pay56, k0_pay57, k0_pay58]

theorem x_4 : k0_pay51 b y b1 b2 (k0_pay47 C) U = k0_pay37 y (k0_pay34 b b1 b2 C) U := by
  dsimp only [k0_pay34, k0_pay37, k0_pay47, k0_pay48, k0_pay51]

theorem x_1 : k0_pay74 y b b1 b2 C U = k0_pay37 y (k0_pay34 b b1 b2 C) U := by
  dsimp only [k0_pay34, k0_pay37, k0_pay71, k0_pay74]

theorem x_5 : k0_pay91 y (k0_pay87 b b1 b2 C) U = k0_pay37 y (k0_pay34 b b1 b2 C) U := by
  dsimp only [k0_pay34, k0_pay37, k0_pay87, k0_pay91]

theorem x_2 : k0_pay117 y b b1 b2 (k0_pay112 C) (k0_pay113 C) U = k0_pay37 y (k0_pay34 b b1 b2 C) U := by
  dsimp only [k0_pay34, k0_pay37, k0_pay112, k0_pay113, k0_pay114, k0_pay117]

theorem x_6 : k0_pay134 y (k0_pay130 b b1 b2 C) (k0_pay133 U) = k0_pay37 y (k0_pay34 b b1 b2 C) U := by
  dsimp only [k0_pay34, k0_pay37, k0_pay130, k0_pay133, k0_pay134]

theorem x_3 : k0_pay156 y (k0_pay153 b b1 b2 C) U = k0_pay37 y (k0_pay34 b b1 b2 C) U := by
  dsimp only [k0_pay34, k0_pay37, k0_pay153, k0_pay156]

end Cert.Ffn.Same

end
-- ==== Proof.Rest.lean ====
/- What the body leaves in each output and in the scratch at every grid point but the first, from the blocks it is given
   (`x0` … `x7`), what the three accumulators hold (`xo13`, `xo14`, `xo15`) and the scratch (`xs0`). -/
module

public import proofs.«01_k».proof.Proof.Body
public import proofs.«01_k».proof.Proof.Same
public import proofs.«01_k».proof.Proof.Gen.KernelIdeal.Frame

@[expose] public section

set_option maxHeartbeats 4000000

namespace Cert.Ffn.Rest

open Idealize.ShloMosaic Cert.KernelIdeal Cert.KernelIdeal.Gen

variable (c : Dev nD) (i : grid0.Coords) (arg1 : Memref sig .tc .vmem S256x1024 .f32) (harg1 : arg1.IsWhole)
  (arg2 : Memref sig .tc .vmem S256x1024 .f32) (harg2 : arg2.IsWhole) (arg3 : Memref sig .tc .vmem S8x256x704 .bf16)
  (harg3 : arg3.IsWhole) (arg4 : Memref sig .tc .vmem S8x256x704 .bf16) (harg4 : arg4.IsWhole)
  (arg5 : Memref sig .tc .vmem S1x1024 .f32) (harg5 : arg5.IsWhole) (arg6 : Memref sig .tc .vmem S8x1024x704 .bf16)
  (harg6 : arg6.IsWhole) (arg7 : Memref sig .tc .vmem S8x3x704 .f32) (harg7 : arg7.IsWhole)
  (arg8 : Memref sig .tc .vmem S2816x1024 .bf16) (harg8 : arg8.IsWhole) (arg9 : Memref sig .tc .vmem S256x1024 .f32)
  (harg9 : arg9.IsWhole) (arg10 : Memref sig .tc .vmem S1024x256 .bf16) (harg10 : arg10.IsWhole)
  (arg11 : Memref sig .tc .vmem S8x256x704 .bf16) (harg11 : arg11.IsWhole)
  (arg12 : Memref sig .tc .vmem S4x256x704 .bf16) (harg12 : arg12.IsWhole)
  (arg13 : Memref sig .tc .vmem S256x1024 .bf16) (harg13 : arg13.IsWhole) (arg14 : Memref sig .tc .vmem S8x3x704 .f32)
  (harg14 : arg14.IsWhole) (arg15 : Memref sig .tc .vmem S8x1x704 .f32) (harg15 : arg15.IsWhole)
  (arg16 : Memref sig .tc .vmem S1x1024 .f32) (harg16 : arg16.IsWhole) (arg17 : Memref sig .tc .vmem S8x8x704 .f32)
  (harg17 : arg17.IsWhole) (hc0 : ¬cond0_0 i) (x0 : Vec Ideal S256x1024 .f32) (x1 : Vec Ideal S256x1024 .f32)
  (x2 : Vec Ideal S8x256x704 .bf16) (x3 : Vec Ideal S8x256x704 .bf16) (x4 : Vec Ideal S1x1024 .f32)
  (x5 : Vec Ideal S8x1024x704 .bf16) (x6 : Vec Ideal S8x3x704 .f32) (x7 : Vec Ideal S2816x1024 .bf16)
  (xo13 : Vec Ideal S8x3x704 .f32) (xo14 : Vec Ideal S8x1x704 .f32) (xo15 : Vec Ideal S1x1024 .f32)
  (xs0 : Vec Ideal S8x8x704 .f32)

/-- The slabs that the body loads. -/
noncomputable def loads : Slabs where
  X := View.readAt (Elt Ideal) arg1.view (Rect.unit ![0, 0] S256x1024.size inb_S256x1024_S256x1024_0_0).toLoadRect (harg1.unread x0)
  H := View.readAt (Elt Ideal) arg2.view (Rect.unit ![0, 0] S256x1024.size inb_S256x1024_S256x1024_0_0).toLoadRect (harg2.unread x1)
  G := View.readAt (Elt Ideal) arg5.view (Rect.unit ![0, 0] S1x1024.size inb_S1x1024_S1x1024_0_0).toLoadRect (harg5.unread x4)
  W d := View.readAt (Elt Ideal) arg8.view (Rect.unit (s := S2816x1024) ![704 * d.val, 0] ![704, 1024]
    (fun a => by have := d.isLt; fin_cases a <;> simp <;> omega)).toLoadRect (harg8.unread x7)
  V e := View.readAt (Elt Ideal) arg4.view (Rect.unit (s := S8x256x704) ![e.val, 0, 0] ![1, 256, 704]
    (fun a => by have := e.isLt; fin_cases a <;> simp <;> omega)).toLoadRect (harg4.unread x3)
  B e := View.readAt (Elt Ideal) arg3.view (Rect.unit (s := S8x256x704) ![e.val, 0, 0] ![1, 256, 704]
    (fun a => by have := e.isLt; fin_cases a <;> simp <;> omega)).toLoadRect (harg3.unread x2)
  C e := View.readAt (Elt Ideal) arg7.view (Rect.unit (s := S8x3x704) ![e.val, 0, 0] ![1, 3, 704]
    (fun a => by have := e.isLt; fin_cases a <;> simp <;> omega)).toLoadRect (harg7.unread x6)
  U e := View.readAt (Elt Ideal) arg6.view (Rect.unit (s := S8x1024x704) ![e.val, 0, 0] ![1, 1024, 704]
    (fun a => by have := e.isLt; fin_cases a <;> simp <;> omega)).toLoadRect (harg6.unread x5)
  S e := View.readAt (Elt Ideal) arg17.view (Rect.unit (s := S8x8x704) ![e.val, 0, 0] ![1, 8, 704]
    (fun a => by have := e.isLt; fin_cases a <;> simp <;> omega)).toLoadRect (harg17.unread xs0)

/-- What the body loads of the accumulators, row by row. -/
noncomputable def old13 (j : Fin 8 × Fin 3) : Vec Ideal S1x1x704 .f32 :=
  View.readAt (Elt Ideal) arg14.view (Rect.unit (s := S8x3x704) ![j.1.val, j.2.val, 0] ![1, 1, 704]
    (fun a => by have := j.1.isLt; have := j.2.isLt; fin_cases a <;> simp <;> omega)).toLoadRect (harg14.unread xo13)

noncomputable def old14 (e : Fin 8) : Vec Ideal S1x1x704 .f32 :=
  View.readAt (Elt Ideal) arg15.view (Rect.unit (s := S8x1x704) ![e.val, 0, 0] ![1, 1, 704]
    (fun a => by have := e.isLt; fin_cases a <;> simp <;> omega)).toLoadRect (harg15.unread xo14)

noncomputable def old15 : Vec Ideal S1x1024 .f32 :=
  View.readAt (Elt Ideal) arg16.view (Rect.unit ![0, 0] S1x1024.size inb_S1x1024_S1x1024_0_0).toLoadRect (harg16.unread xo15)

theorem loads_of : (loads arg1 harg1 arg2 harg2 arg3 harg3 arg4 harg4 arg5 harg5 arg6 harg6 arg7 harg7 arg8 harg8 arg17 harg17 x0 x1 x2 x3 x4 x5 x6 x7 xs0).Of x0 x1 x2 x3 x4 x5 x6 x7 xs0 where
  X := rd2_full arg1 harg1 x0 _
  H := rd2_full arg2 harg2 x1 _
  G := rd2_full arg5 harg5 x4 _
  W d k l := rd2 arg8 harg8 x7 _ k l _
  V e s k := rd3_slab arg4 harg4 x3 _ e.isLt s k
  B e s k := rd3_slab arg3 harg3 x2 _ e.isLt s k
  C e u k := rd3_slab arg7 harg7 x6 _ e.isLt u k
  U e l k := rd3_slab arg6 harg6 x5 _ e.isLt l k
  S e r k := rd3_slab arg17 harg17 xs0 _ e.isLt r k

set_option maxRecDepth 4096 in
/-- The pieces that the body stores are those of `Slabs`, of the slabs that it loads. -/
theorem pieces :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0).1 = [⟨Rect.unit ![0, 0] S256x1024.size inb_S256x1024_S256x1024_0_0, (loads arg1 harg1 arg2 harg2 arg3 harg3 arg4 harg4 arg5 harg5 arg6 harg6 arg7 harg7 arg8 harg8 arg17 harg17 x0 x1 x2 x3 x4 x5 x6 x7 xs0).o8⟩]
    ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0).2.1 = [⟨Rect.unit ![0, 0] S1024x256.size inb_S1024x256_S1024x256_0_0, k0_pay10 (loads arg1 harg1 arg2 harg2 arg3 harg3 arg4 harg4 arg5 harg5 arg6 harg6 arg7 harg7 arg8 harg8 arg17 harg17 x0 x1 x2 x3 x4 x5 x6 x7 xs0).H (loads arg1 harg1 arg2 harg2 arg3 harg3 arg4 harg4 arg5 harg5 arg6 harg6 arg7 harg7 arg8 harg8 arg17 harg17 x0 x1 x2 x3 x4 x5 x6 x7 xs0).G⟩]
    ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0).2.2.1 = (loads arg1 harg1 arg2 harg2 arg3 harg3 arg4 harg4 arg5 harg5 arg6 harg6 arg7 harg7 arg8 harg8 arg17 harg17 x0 x1 x2 x3 x4 x5 x6 x7 xs0).o10
    ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0).2.2.2.1 = (loads arg1 harg1 arg2 harg2 arg3 harg3 arg4 harg4 arg5 harg5 arg6 harg6 arg7 harg7 arg8 harg8 arg17 harg17 x0 x1 x2 x3 x4 x5 x6 x7 xs0).o11
    ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0).2.2.2.2.1 = [⟨Rect.unit ![0, 0] S256x1024.size inb_S256x1024_S256x1024_0_0, k0_pay11 (loads arg1 harg1 arg2 harg2 arg3 harg3 arg4 harg4 arg5 harg5 arg6 harg6 arg7 harg7 arg8 harg8 arg17 harg17 x0 x1 x2 x3 x4 x5 x6 x7 xs0).X⟩]
    ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0).2.2.2.2.2.1 = (loads arg1 harg1 arg2 harg2 arg3 harg3 arg4 harg4 arg5 harg5 arg6 harg6 arg7 harg7 arg8 harg8 arg17 harg17 x0 x1 x2 x3 x4 x5 x6 x7 xs0).o13 (old13 arg14 harg14 xo13)
    ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0).2.2.2.2.2.2.1 = (loads arg1 harg1 arg2 harg2 arg3 harg3 arg4 harg4 arg5 harg5 arg6 harg6 arg7 harg7 arg8 harg8 arg17 harg17 x0 x1 x2 x3 x4 x5 x6 x7 xs0).o14 (old14 arg15 harg15 xo14)
    ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0).2.2.2.2.2.2.2.1 = [⟨Rect.unit ![0, 0] S1x1024.size inb_S1x1024_S1x1024_0_0, (loads arg1 harg1 arg2 harg2 arg3 harg3 arg4 harg4 arg5 harg5 arg6 harg6 arg7 harg7 arg8 harg8 arg17 harg17 x0 x1 x2 x3 x4 x5 x6 x7 xs0).o15 (old15 arg16 harg16 xo15)⟩]
    ∧ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0).2.2.2.2.2.2.2.2.1 = (loads arg1 harg1 arg2 harg2 arg3 harg3 arg4 harg4 arg5 harg5 arg6 harg6 arg7 harg7 arg8 harg8 arg17 harg17 x0 x1 x2 x3 x4 x5 x6 x7 xs0).os [7, 3, 6, 2, 5, 1, 4, 0] := by
  refine ⟨?_, ?_, ?_, ?_, ?_, ?_, ?_, ?_, ?_⟩ <;> dsimp only [kernelRun0_B] <;> simp only [
    kernelRun0_B.sl.r, kernelRun0_B.sl.r_1, kernelRun0_B.sl.r_10, kernelRun0_B.sl.r_11, kernelRun0_B.sl.r_12,
    kernelRun0_B.sl.r_13, kernelRun0_B.sl.r_14, kernelRun0_B.sl.r_15, kernelRun0_B.sl.r_16, kernelRun0_B.sl.r_17,
    kernelRun0_B.sl.r_18, kernelRun0_B.sl.r_19, kernelRun0_B.sl.r_2, kernelRun0_B.sl.r_20, kernelRun0_B.sl.r_21,
    kernelRun0_B.sl.r_22, kernelRun0_B.sl.r_23, kernelRun0_B.sl.r_24, kernelRun0_B.sl.r_25, kernelRun0_B.sl.r_26,
    kernelRun0_B.sl.r_27, kernelRun0_B.sl.r_28, kernelRun0_B.sl.r_29, kernelRun0_B.sl.r_3, kernelRun0_B.sl.r_30,
    kernelRun0_B.sl.r_31, kernelRun0_B.sl.r_32, kernelRun0_B.sl.r_33, kernelRun0_B.sl.r_34, kernelRun0_B.sl.r_35,
    kernelRun0_B.sl.r_36, kernelRun0_B.sl.r_37, kernelRun0_B.sl.r_38, kernelRun0_B.sl.r_39, kernelRun0_B.sl.r_4,
    kernelRun0_B.sl.r_40, kernelRun0_B.sl.r_41, kernelRun0_B.sl.r_42, kernelRun0_B.sl.r_43, kernelRun0_B.sl.r_44,
    kernelRun0_B.sl.r_45, kernelRun0_B.sl.r_46, kernelRun0_B.sl.r_47, kernelRun0_B.sl.r_48, kernelRun0_B.sl.r_49,
    kernelRun0_B.sl.r_5, kernelRun0_B.sl.r_50, kernelRun0_B.sl.r_51, kernelRun0_B.sl.r_52, kernelRun0_B.sl.r_53,
    kernelRun0_B.sl.r_54, kernelRun0_B.sl.r_55, kernelRun0_B.sl.r_56, kernelRun0_B.sl.r_57, kernelRun0_B.sl.r_58,
    kernelRun0_B.sl.r_59, kernelRun0_B.sl.r_6, kernelRun0_B.sl.r_60, kernelRun0_B.sl.r_61, kernelRun0_B.sl.r_62,
    kernelRun0_B.sl.r_63, kernelRun0_B.sl.r_64, kernelRun0_B.sl.r_65, kernelRun0_B.sl.r_66, kernelRun0_B.sl.r_67,
    kernelRun0_B.sl.r_68, kernelRun0_B.sl.r_69, kernelRun0_B.sl.r_7, kernelRun0_B.sl.r_70, kernelRun0_B.sl.r_71,
    kernelRun0_B.sl.r_72, kernelRun0_B.sl.r_73, kernelRun0_B.sl.r_74, kernelRun0_B.sl.r_75, kernelRun0_B.sl.r_76,
    kernelRun0_B.sl.r_77, kernelRun0_B.sl.r_78, kernelRun0_B.sl.r_79, kernelRun0_B.sl.r_8, kernelRun0_B.sl.r_80,
    kernelRun0_B.sl.r_81, kernelRun0_B.sl.r_82, kernelRun0_B.sl.r_83, kernelRun0_B.sl.r_84, kernelRun0_B.sl.r_85,
    kernelRun0_B.sl.r_86, kernelRun0_B.sl.r_87, kernelRun0_B.sl.r_88, kernelRun0_B.sl.r_9, kernelRun0_B.sl.v104,
    kernelRun0_B.sl.v113, kernelRun0_B.sl.v147, kernelRun0_B.sl.v178, kernelRun0_B.sl.v186, kernelRun0_B.sl.v195,
    kernelRun0_B.sl.v204, kernelRun0_B.sl.v266, kernelRun0_B.sl.v297, kernelRun0_B.sl.v305, kernelRun0_B.sl.v314,
    kernelRun0_B.sl.v323, kernelRun0_B.sl.v357, kernelRun0_B.sl.v388, kernelRun0_B.sl.v396, kernelRun0_B.sl.v405,
    kernelRun0_B.sl.v414, kernelRun0_B.sl.v476, kernelRun0_B.sl.v507, kernelRun0_B.sl.v515, kernelRun0_B.sl.v524,
    kernelRun0_B.sl.v533, kernelRun0_B.sl.v567, kernelRun0_B.sl.v598, kernelRun0_B.sl.v606, kernelRun0_B.sl.v615,
    kernelRun0_B.sl.v624, kernelRun0_B.sl.v683, kernelRun0_B.sl.v714, kernelRun0_B.sl.v722, kernelRun0_B.sl.v731,
    kernelRun0_B.sl.v740, kernelRun0_B.sl.v774, kernelRun0_B.sl.v805, kernelRun0_B.sl.v813, kernelRun0_B.sl.v822,
    kernelRun0_B.sl.v831, Same.da0, Same.da2, Same.da3, Same.g1, Same.u1, Same.g2, Same.u2, Same.g3, Same.u3,
    Same.n1_0, Same.n2_0, Same.n1_1, Same.n2_1, Same.n1_5, Same.n2_5, Same.n1_2, Same.n2_2, Same.n1_6, Same.n2_6,
    Same.n1_3, Same.n2_3, Same.n1_7, Same.n2_7, Same.w13_00, Same.w13_01, Same.w13_02, Same.w13_40, Same.w13_41,
    Same.w13_42, Same.w13_10, Same.w13_11, Same.w13_12, Same.w13_50, Same.w13_51, Same.w13_52, Same.w13_20,
    Same.w13_21, Same.w13_22, Same.w13_60, Same.w13_61, Same.w13_62, Same.w13_30, Same.w13_31, Same.w13_32,
    Same.w13_70, Same.w13_71, Same.w13_72, Same.w14_4, Same.w14_1, Same.w14_5, Same.w14_2, Same.w14_6, Same.w14_3,
    Same.w14_7, Same.s_4, Same.s_1, Same.s_5, Same.s_2, Same.s_6, Same.s_3, Same.s_7, Same.w10_4, Same.w10_1,
    Same.w10_5, Same.w10_2, Same.w10_6, Same.w10_3, Same.w10_7, Same.w11_3, Same.w11_2, Same.w11_1, Same.x_4,
    Same.x_1, Same.x_5, Same.x_2, Same.x_6, Same.x_3, Slabs.o8, Slabs.o10, Slabs.o11, Slabs.o13, Slabs.o14, Slabs.o15,
    Slabs.os, Slabs.xs, Slabs.n1, Slabs.n2, Slabs.gate, Slabs.up, Slabs.dc_0, Slabs.dc_1, Slabs.dc_2, Slabs.dc_3,
    Slabs.dc_4, Slabs.dc_5, Slabs.dc_6, Slabs.dc_7, slabs, rows, piece, List.map_cons, List.map_nil, List.foldl_cons,
    List.foldl_nil, Matrix.cons_val, Matrix.cons_val_zero, Matrix.cons_val_one, loads, old13, old14, old15] <;>
    rfl

/-- What the body leaves in the outputs and in the scratch. -/
theorem made : Made x0 x1 x2 x3 x4 x5 x6 x7 xs0 (fun e u k => xo13 (ix3 e u k)) (fun e k => xo14 (ix3 e 0 k)) (fun m => xo15 (ix2 0 m))
    (out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0) (out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0)
    (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0) (out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0)
    (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0) (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0)
    (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0) (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0)
    (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0) := by
  have h := loads_of arg1 harg1 arg2 harg2 arg3 harg3 arg4 harg4 arg5 harg5 arg6 harg6 arg7 harg7 arg8 harg8 arg17 harg17 x0 x1 x2 x3 x4 x5 x6 x7 xs0
  obtain ⟨p8, p9, p10, p11, p12, p13, p14, p15, ps⟩ := pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo13 xo14 xo15 xs0
  constructor
  · intro s m
    rw [out0_B_8, View.read_writes_junk_eq_canon, p8, canon_whole2]
    exact h.o8 s m
  · intro s m
    rw [out0_B_9, View.read_writes_junk_eq_canon, p9, canon_whole2]
    exact h.o9 s m
  · intro e s k
    rw [out0_B_10, View.read_writes_junk_eq_canon, p10, ← List.append_nil (Slabs.o10 _)]
    exact h.o10 _ e s k
  · intro d s k
    rw [out0_B_11, View.read_writes_junk_eq_canon, p11, ← List.append_nil (Slabs.o11 _)]
    exact h.o11 _ d s k
  · intro s m
    rw [out0_B_12, View.read_writes_junk_eq_canon, p12, canon_whole2]
    exact h.o12 s m
  · intro e u k
    rw [out0_B_13, View.read_writes_junk_eq_canon, p13, ← List.append_nil (Slabs.o13 _ _)]
    exact h.o13 (o := (fun e u k => xo13 (ix3 e u k))) (fun e u k => rd3_row arg14 harg14 xo13 _ e.isLt u.isLt k) _ e u k
  · intro e k
    rw [out0_B_14, View.read_writes_junk_eq_canon, p14, ← List.append_nil (Slabs.o14 _ _)]
    exact h.o14 (o := (fun e k => xo14 (ix3 e 0 k))) (fun e k => rd3_row arg15 harg15 xo14 _ e.isLt (u := 0) (by omega) k) _ e k
  · intro m
    rw [out0_B_15, View.read_writes_junk_eq_canon, p15, canon_whole2]
    exact (h.o15 _ m).trans (congrArg (· + _) ((fun m => congrFun (rd2_full arg16 harg16 xo15 _) _) m))
  · intro e r k
    rw [sout0_B_0, View.read_writes_junk_eq_canon, ps, ← List.append_nil (Slabs.os _ _)]
    exact h.os _ _ e (by revert e; decide) r k

end Cert.Ffn.Rest

end
-- ==== Proof.First.lean ====
/- What the body leaves in each output and in the scratch at the first grid point, from the blocks it is given
   (`x0` … `x7`): there it first stores zeros in the accumulators and in the scratch. -/
module

public import proofs.«01_k».proof.Proof.Body
public import proofs.«01_k».proof.Proof.Same
public import proofs.«01_k».proof.Proof.Gen.KernelIdeal.Frame

@[expose] public section

set_option maxHeartbeats 4000000

namespace Cert.Ffn.First

open Idealize.ShloMosaic Cert.KernelIdeal Cert.KernelIdeal.Gen

variable (c : Dev nD) (i : grid0.Coords) (arg1 : Memref sig .tc .vmem S256x1024 .f32) (harg1 : arg1.IsWhole)
  (arg2 : Memref sig .tc .vmem S256x1024 .f32) (harg2 : arg2.IsWhole) (arg3 : Memref sig .tc .vmem S8x256x704 .bf16)
  (harg3 : arg3.IsWhole) (arg4 : Memref sig .tc .vmem S8x256x704 .bf16) (harg4 : arg4.IsWhole)
  (arg5 : Memref sig .tc .vmem S1x1024 .f32) (harg5 : arg5.IsWhole) (arg6 : Memref sig .tc .vmem S8x1024x704 .bf16)
  (harg6 : arg6.IsWhole) (arg7 : Memref sig .tc .vmem S8x3x704 .f32) (harg7 : arg7.IsWhole)
  (arg8 : Memref sig .tc .vmem S2816x1024 .bf16) (harg8 : arg8.IsWhole) (arg9 : Memref sig .tc .vmem S256x1024 .f32)
  (harg9 : arg9.IsWhole) (arg10 : Memref sig .tc .vmem S1024x256 .bf16) (harg10 : arg10.IsWhole)
  (arg11 : Memref sig .tc .vmem S8x256x704 .bf16) (harg11 : arg11.IsWhole)
  (arg12 : Memref sig .tc .vmem S4x256x704 .bf16) (harg12 : arg12.IsWhole)
  (arg13 : Memref sig .tc .vmem S256x1024 .bf16) (harg13 : arg13.IsWhole) (arg14 : Memref sig .tc .vmem S8x3x704 .f32)
  (harg14 : arg14.IsWhole) (arg15 : Memref sig .tc .vmem S8x1x704 .f32) (harg15 : arg15.IsWhole)
  (arg16 : Memref sig .tc .vmem S1x1024 .f32) (harg16 : arg16.IsWhole) (arg17 : Memref sig .tc .vmem S8x8x704 .f32)
  (harg17 : arg17.IsWhole) (hc0 : cond0_0 i) (x0 : Vec Ideal S256x1024 .f32) (x1 : Vec Ideal S256x1024 .f32)
  (x2 : Vec Ideal S8x256x704 .bf16) (x3 : Vec Ideal S8x256x704 .bf16) (x4 : Vec Ideal S1x1024 .f32)
  (x5 : Vec Ideal S8x1024x704 .bf16) (x6 : Vec Ideal S8x3x704 .f32) (x7 : Vec Ideal S2816x1024 .bf16)

/-- The slabs that the body loads. -/
noncomputable def loads : Slabs where
  X := View.readAt (Elt Ideal) arg1.view (Rect.unit ![0, 0] S256x1024.size inb_S256x1024_S256x1024_0_0).toLoadRect (harg1.unread x0)
  H := View.readAt (Elt Ideal) arg2.view (Rect.unit ![0, 0] S256x1024.size inb_S256x1024_S256x1024_0_0).toLoadRect (harg2.unread x1)
  G := View.readAt (Elt Ideal) arg5.view (Rect.unit ![0, 0] S1x1024.size inb_S1x1024_S1x1024_0_0).toLoadRect (harg5.unread x4)
  W d := View.readAt (Elt Ideal) arg8.view (Rect.unit (s := S2816x1024) ![704 * d.val, 0] ![704, 1024]
    (fun a => by have := d.isLt; fin_cases a <;> simp <;> omega)).toLoadRect (harg8.unread x7)
  V e := View.readAt (Elt Ideal) arg4.view (Rect.unit (s := S8x256x704) ![e.val, 0, 0] ![1, 256, 704]
    (fun a => by have := e.isLt; fin_cases a <;> simp <;> omega)).toLoadRect (harg4.unread x3)
  B e := View.readAt (Elt Ideal) arg3.view (Rect.unit (s := S8x256x704) ![e.val, 0, 0] ![1, 256, 704]
    (fun a => by have := e.isLt; fin_cases a <;> simp <;> omega)).toLoadRect (harg3.unread x2)
  C e := View.readAt (Elt Ideal) arg7.view (Rect.unit (s := S8x3x704) ![e.val, 0, 0] ![1, 3, 704]
    (fun a => by have := e.isLt; fin_cases a <;> simp <;> omega)).toLoadRect (harg7.unread x6)
  U e := View.readAt (Elt Ideal) arg6.view (Rect.unit (s := S8x1024x704) ![e.val, 0, 0] ![1, 1024, 704]
    (fun a => by have := e.isLt; fin_cases a <;> simp <;> omega)).toLoadRect (harg6.unread x5)
  S := ![
    kernelRun0_A.sl.v56 c arg17,
    kernelRun0_A.sl.v266 c arg1 harg1 arg4 harg4 arg8 harg8 arg17 x0 x3 x7,
    kernelRun0_A.sl.v476 c arg1 harg1 arg4 harg4 arg8 harg8 arg17 x0 x3 x7,
    kernelRun0_A.sl.v683 c arg1 harg1 arg4 harg4 arg8 harg8 arg17 x0 x3 x7,
    kernelRun0_A.sl.v147 c arg1 harg1 arg4 harg4 arg8 harg8 arg17 x0 x3 x7,
    kernelRun0_A.sl.v357 c arg1 harg1 arg4 harg4 arg8 harg8 arg17 x0 x3 x7,
    kernelRun0_A.sl.v567 c arg1 harg1 arg4 harg4 arg8 harg8 arg17 x0 x3 x7,
    kernelRun0_A.sl.v774 c arg1 harg1 arg4 harg4 arg8 harg8 arg17 x0 x3 x7]

/-- What the body loads of the accumulators, row by row. -/
noncomputable def old13 (j : Fin 8 × Fin 3) : Vec Ideal S1x1x704 .f32 :=
  (![
    ![ kernelRun0_A.sl.v95 c arg14,
      kernelRun0_A.sl.v104 c arg1 harg1 arg3 harg3 arg4 harg4 arg8 harg8 arg14 arg17 x0 x2 x3 x7,
      kernelRun0_A.sl.v113 c arg1 harg1 arg3 harg3 arg4 harg4 arg8 harg8 arg14 arg17 x0 x2 x3 x7],
    ![ kernelRun0_A.sl.v305 c arg1 harg1 arg3 harg3 arg4 harg4 arg8 harg8 arg14 arg17 x0 x2 x3 x7,
      kernelRun0_A.sl.v314 c arg1 harg1 arg3 harg3 arg4 harg4 arg8 harg8 arg14 arg17 x0 x2 x3 x7,
      kernelRun0_A.sl.v323 c arg1 harg1 arg3 harg3 arg4 harg4 arg8 harg8 arg14 arg17 x0 x2 x3 x7],
    ![ kernelRun0_A.sl.v515 c arg1 harg1 arg3 harg3 arg4 harg4 arg8 harg8 arg14 arg17 x0 x2 x3 x7,
      kernelRun0_A.sl.v524 c arg1 harg1 arg3 harg3 arg4 harg4 arg8 harg8 arg14 arg17 x0 x2 x3 x7,
      kernelRun0_A.sl.v533 c arg1 harg1 arg3 harg3 arg4 harg4 arg8 harg8 arg14 arg17 x0 x2 x3 x7],
    ![ kernelRun0_A.sl.v722 c arg1 harg1 arg3 harg3 arg4 harg4 arg8 harg8 arg14 arg17 x0 x2 x3 x7,
      kernelRun0_A.sl.v731 c arg1 harg1 arg3 harg3 arg4 harg4 arg8 harg8 arg14 arg17 x0 x2 x3 x7,
      kernelRun0_A.sl.v740 c arg1 harg1 arg3 harg3 arg4 harg4 arg8 harg8 arg14 arg17 x0 x2 x3 x7],
    ![ kernelRun0_A.sl.v186 c arg1 harg1 arg3 harg3 arg4 harg4 arg8 harg8 arg14 arg17 x0 x2 x3 x7,
      kernelRun0_A.sl.v195 c arg1 harg1 arg3 harg3 arg4 harg4 arg8 harg8 arg14 arg17 x0 x2 x3 x7,
      kernelRun0_A.sl.v204 c arg1 harg1 arg3 harg3 arg4 harg4 arg8 harg8 arg14 arg17 x0 x2 x3 x7],
    ![ kernelRun0_A.sl.v396 c arg1 harg1 arg3 harg3 arg4 harg4 arg8 harg8 arg14 arg17 x0 x2 x3 x7,
      kernelRun0_A.sl.v405 c arg1 harg1 arg3 harg3 arg4 harg4 arg8 harg8 arg14 arg17 x0 x2 x3 x7,
      kernelRun0_A.sl.v414 c arg1 harg1 arg3 harg3 arg4 harg4 arg8 harg8 arg14 arg17 x0 x2 x3 x7],
    ![ kernelRun0_A.sl.v606 c arg1 harg1 arg3 harg3 arg4 harg4 arg8 harg8 arg14 arg17 x0 x2 x3 x7,
      kernelRun0_A.sl.v615 c arg1 harg1 arg3 harg3 arg4 harg4 arg8 harg8 arg14 arg17 x0 x2 x3 x7,
      kernelRun0_A.sl.v624 c arg1 harg1 arg3 harg3 arg4 harg4 arg8 harg8 arg14 arg17 x0 x2 x3 x7],
    ![ kernelRun0_A.sl.v813 c arg1 harg1 arg3 harg3 arg4 harg4 arg8 harg8 arg14 arg17 x0 x2 x3 x7,
      kernelRun0_A.sl.v822 c arg1 harg1 arg3 harg3 arg4 harg4 arg8 harg8 arg14 arg17 x0 x2 x3 x7,
      kernelRun0_A.sl.v831 c arg1 harg1 arg3 harg3 arg4 harg4 arg8 harg8 arg14 arg17 x0 x2 x3 x7] ] : Fin 8 → Fin 3 → Vec Ideal S1x1x704 .f32) j.1 j.2

noncomputable def old14 : Fin 8 → Vec Ideal S1x1x704 .f32 := ![
    kernelRun0_A.sl.v87 c arg15,
    kernelRun0_A.sl.v297 c arg1 harg1 arg4 harg4 arg8 harg8 arg15 x0 x3 x7,
    kernelRun0_A.sl.v507 c arg1 harg1 arg4 harg4 arg8 harg8 arg15 x0 x3 x7,
    kernelRun0_A.sl.v714 c arg1 harg1 arg4 harg4 arg8 harg8 arg15 x0 x3 x7,
    kernelRun0_A.sl.v178 c arg1 harg1 arg4 harg4 arg8 harg8 arg15 x0 x3 x7,
    kernelRun0_A.sl.v388 c arg1 harg1 arg4 harg4 arg8 harg8 arg15 x0 x3 x7,
    kernelRun0_A.sl.v598 c arg1 harg1 arg4 harg4 arg8 harg8 arg15 x0 x3 x7,
    kernelRun0_A.sl.v805 c arg1 harg1 arg4 harg4 arg8 harg8 arg15 x0 x3 x7]

noncomputable def old15 : Vec Ideal S1x1024 .f32 := kernelRun0_A.sl.v880 c arg16

/- At the first point each of these is still the zero that the body stores first: the pieces stored since then are of
   other rows. -/
theorem old13_zero (e : Fin 8) (u : Fin 3) (k : Fin 704) : old13 c arg1 harg1 arg3 harg3 arg4 harg4 arg8 harg8 arg14 arg17 x0 x2 x3 x7 (e, u) (ix3 0 0 k) = 0 := by
  fin_cases e <;> fin_cases u <;> dsimp only [old13, Matrix.cons_val] <;> simp only [kernelRun0_A.sl.v95, kernelRun0_A.sl.v104, kernelRun0_A.sl.v113, kernelRun0_A.sl.v305, kernelRun0_A.sl.v314, kernelRun0_A.sl.v323, kernelRun0_A.sl.v515, kernelRun0_A.sl.v524, kernelRun0_A.sl.v533, kernelRun0_A.sl.v722, kernelRun0_A.sl.v731, kernelRun0_A.sl.v740, kernelRun0_A.sl.v186, kernelRun0_A.sl.v195, kernelRun0_A.sl.v204, kernelRun0_A.sl.v396, kernelRun0_A.sl.v405, kernelRun0_A.sl.v414, kernelRun0_A.sl.v606, kernelRun0_A.sl.v615, kernelRun0_A.sl.v624, kernelRun0_A.sl.v813, kernelRun0_A.sl.v822, kernelRun0_A.sl.v831] <;>
    refine Eq.trans (cov3 arg14 _ _ (by decide) 0 k (by decide)) ?_ <;> simp only [kernelRun0_A.sl.H13_1, kernelRun0_A.sl.H13_10, kernelRun0_A.sl.H13_11, kernelRun0_A.sl.H13_12, kernelRun0_A.sl.H13_13, kernelRun0_A.sl.H13_14, kernelRun0_A.sl.H13_15, kernelRun0_A.sl.H13_16, kernelRun0_A.sl.H13_17, kernelRun0_A.sl.H13_18, kernelRun0_A.sl.H13_19, kernelRun0_A.sl.H13_2, kernelRun0_A.sl.H13_20, kernelRun0_A.sl.H13_21, kernelRun0_A.sl.H13_22, kernelRun0_A.sl.H13_23, kernelRun0_A.sl.H13_24, kernelRun0_A.sl.H13_3, kernelRun0_A.sl.H13_4, kernelRun0_A.sl.H13_5, kernelRun0_A.sl.H13_6, kernelRun0_A.sl.H13_7, kernelRun0_A.sl.H13_8, kernelRun0_A.sl.H13_9, canon_slab] <;>
    simp [canon_whole3, pay4_apply]

theorem old14_zero (e : Fin 8) (k : Fin 704) : old14 c arg1 harg1 arg4 harg4 arg8 harg8 arg15 x0 x3 x7 e (ix3 0 0 k) = 0 := by
  fin_cases e <;> dsimp only [old14, Matrix.cons_val] <;> simp only [kernelRun0_A.sl.v87, kernelRun0_A.sl.v297, kernelRun0_A.sl.v507, kernelRun0_A.sl.v714, kernelRun0_A.sl.v178, kernelRun0_A.sl.v388, kernelRun0_A.sl.v598, kernelRun0_A.sl.v805] <;>
    refine Eq.trans (cov3 arg15 _ _ (by decide) 0 k (by decide)) ?_ <;> simp only [kernelRun0_A.sl.H14_1, kernelRun0_A.sl.H14_2, kernelRun0_A.sl.H14_3, kernelRun0_A.sl.H14_4, kernelRun0_A.sl.H14_5, kernelRun0_A.sl.H14_6, kernelRun0_A.sl.H14_7, kernelRun0_A.sl.H14_8, canon_slab] <;>
    simp [canon_whole3, pay5_apply]

theorem old15_zero (m : Fin 1024) : old15 c arg16 (ix2 0 m) = 0 := by
  rw [old15, kernelRun0_A.sl.v880, View.readCov_eq_canon']
  exact (congrFun (canon_whole2 _ _ _) _).trans (pay6_apply _)

theorem carried_zero (e : Fin 8) (r : Fin 8) (k : Fin 704) : (loads c arg1 harg1 arg2 harg2 arg3 harg3 arg4 harg4 arg5 harg5 arg6 harg6 arg7 harg7 arg8 harg8 arg17 x0 x1 x2 x3 x4 x5 x6 x7).S e (ix3 0 r k) = 0 := by
  fin_cases e <;> dsimp only [loads, Matrix.cons_val] <;> simp only [kernelRun0_A.sl.v56, kernelRun0_A.sl.v266, kernelRun0_A.sl.v476, kernelRun0_A.sl.v683, kernelRun0_A.sl.v147, kernelRun0_A.sl.v357, kernelRun0_A.sl.v567, kernelRun0_A.sl.v774] <;>
    refine Eq.trans (cov3 arg17 _ _ (by decide) r k (by omega)) ?_ <;> simp only [kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, canon_slab] <;>
    simp [canon_whole3, pay3_apply]

theorem loads_of : (loads c arg1 harg1 arg2 harg2 arg3 harg3 arg4 harg4 arg5 harg5 arg6 harg6 arg7 harg7 arg8 harg8 arg17 x0 x1 x2 x3 x4 x5 x6 x7).Of x0 x1 x2 x3 x4 x5 x6 x7 (fun _ => 0) where
  X := rd2_full arg1 harg1 x0 _
  H := rd2_full arg2 harg2 x1 _
  G := rd2_full arg5 harg5 x4 _
  W d k l := rd2 arg8 harg8 x7 _ k l _
  V e s k := rd3_slab arg4 harg4 x3 _ e.isLt s k
  B e s k := rd3_slab arg3 harg3 x2 _ e.isLt s k
  C e u k := rd3_slab arg7 harg7 x6 _ e.isLt u k
  U e l k := rd3_slab arg6 harg6 x5 _ e.isLt l k
  S e r k := carried_zero c arg1 harg1 arg2 harg2 arg3 harg3 arg4 harg4 arg5 harg5 arg6 harg6 arg7 harg7 arg8 harg8 arg17 x0 x1 x2 x3 x4 x5 x6 x7 e r k

set_option maxRecDepth 4096 in
/-- The pieces that the body stores are those of `Slabs`, of the slabs that it loads. -/
theorem pieces :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1 = [⟨Rect.unit ![0, 0] S256x1024.size inb_S256x1024_S256x1024_0_0, (loads c arg1 harg1 arg2 harg2 arg3 harg3 arg4 harg4 arg5 harg5 arg6 harg6 arg7 harg7 arg8 harg8 arg17 x0 x1 x2 x3 x4 x5 x6 x7).o8⟩]
    ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1 = [⟨Rect.unit ![0, 0] S1024x256.size inb_S1024x256_S1024x256_0_0, k0_pay10 (loads c arg1 harg1 arg2 harg2 arg3 harg3 arg4 harg4 arg5 harg5 arg6 harg6 arg7 harg7 arg8 harg8 arg17 x0 x1 x2 x3 x4 x5 x6 x7).H (loads c arg1 harg1 arg2 harg2 arg3 harg3 arg4 harg4 arg5 harg5 arg6 harg6 arg7 harg7 arg8 harg8 arg17 x0 x1 x2 x3 x4 x5 x6 x7).G⟩]
    ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.1 = (loads c arg1 harg1 arg2 harg2 arg3 harg3 arg4 harg4 arg5 harg5 arg6 harg6 arg7 harg7 arg8 harg8 arg17 x0 x1 x2 x3 x4 x5 x6 x7).o10
    ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.1 = (loads c arg1 harg1 arg2 harg2 arg3 harg3 arg4 harg4 arg5 harg5 arg6 harg6 arg7 harg7 arg8 harg8 arg17 x0 x1 x2 x3 x4 x5 x6 x7).o11
    ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.1 = [⟨Rect.unit ![0, 0] S256x1024.size inb_S256x1024_S256x1024_0_0, k0_pay11 (loads c arg1 harg1 arg2 harg2 arg3 harg3 arg4 harg4 arg5 harg5 arg6 harg6 arg7 harg7 arg8 harg8 arg17 x0 x1 x2 x3 x4 x5 x6 x7).X⟩]
    ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.1 = (loads c arg1 harg1 arg2 harg2 arg3 harg3 arg4 harg4 arg5 harg5 arg6 harg6 arg7 harg7 arg8 harg8 arg17 x0 x1 x2 x3 x4 x5 x6 x7).o13 (old13 c arg1 harg1 arg3 harg3 arg4 harg4 arg8 harg8 arg14 arg17 x0 x2 x3 x7) ++ [⟨Rect.unit ![0, 0, 0] S8x3x704.size inb_S8x3x704_S8x3x704_0_0_0, k0_pay4 (F := Ideal)⟩]
    ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.1 = (loads c arg1 harg1 arg2 harg2 arg3 harg3 arg4 harg4 arg5 harg5 arg6 harg6 arg7 harg7 arg8 harg8 arg17 x0 x1 x2 x3 x4 x5 x6 x7).o14 (old14 c arg1 harg1 arg4 harg4 arg8 harg8 arg15 x0 x3 x7) ++ [⟨Rect.unit ![0, 0, 0] S8x1x704.size inb_S8x1x704_S8x1x704_0_0_0, k0_pay5 (F := Ideal)⟩]
    ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.2.1 = [⟨Rect.unit ![0, 0] S1x1024.size inb_S1x1024_S1x1024_0_0, (loads c arg1 harg1 arg2 harg2 arg3 harg3 arg4 harg4 arg5 harg5 arg6 harg6 arg7 harg7 arg8 harg8 arg17 x0 x1 x2 x3 x4 x5 x6 x7).o15 (old15 c arg16)⟩,
        ⟨Rect.unit ![0, 0] S1x1024.size inb_S1x1024_S1x1024_0_0, k0_pay6 (F := Ideal)⟩]
    ∧ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.2.2.1 = (loads c arg1 harg1 arg2 harg2 arg3 harg3 arg4 harg4 arg5 harg5 arg6 harg6 arg7 harg7 arg8 harg8 arg17 x0 x1 x2 x3 x4 x5 x6 x7).os [7, 3, 6, 2, 5, 1, 4, 0] ++ [⟨Rect.unit ![0, 0, 0] S8x8x704.size inb_S8x8x704_S8x8x704_0_0_0, k0_pay3 (F := Ideal)⟩] := by
  refine ⟨?_, ?_, ?_, ?_, ?_, ?_, ?_, ?_, ?_⟩ <;> dsimp only [kernelRun0_A] <;> simp only [
    kernelRun0_A.sl.H13_1, kernelRun0_A.sl.H13_10, kernelRun0_A.sl.H13_11, kernelRun0_A.sl.H13_12,
    kernelRun0_A.sl.H13_13, kernelRun0_A.sl.H13_14, kernelRun0_A.sl.H13_15, kernelRun0_A.sl.H13_16,
    kernelRun0_A.sl.H13_17, kernelRun0_A.sl.H13_18, kernelRun0_A.sl.H13_19, kernelRun0_A.sl.H13_2,
    kernelRun0_A.sl.H13_20, kernelRun0_A.sl.H13_21, kernelRun0_A.sl.H13_22, kernelRun0_A.sl.H13_23,
    kernelRun0_A.sl.H13_24, kernelRun0_A.sl.H13_3, kernelRun0_A.sl.H13_4, kernelRun0_A.sl.H13_5,
    kernelRun0_A.sl.H13_6, kernelRun0_A.sl.H13_7, kernelRun0_A.sl.H13_8, kernelRun0_A.sl.H13_9, kernelRun0_A.sl.H14_1,
    kernelRun0_A.sl.H14_2, kernelRun0_A.sl.H14_3, kernelRun0_A.sl.H14_4, kernelRun0_A.sl.H14_5, kernelRun0_A.sl.H14_6,
    kernelRun0_A.sl.H14_7, kernelRun0_A.sl.H14_8, kernelRun0_A.sl.H15_1, kernelRun0_A.sl.HS0_1, kernelRun0_A.sl.HS0_2,
    kernelRun0_A.sl.HS0_3, kernelRun0_A.sl.HS0_4, kernelRun0_A.sl.HS0_5, kernelRun0_A.sl.HS0_6, kernelRun0_A.sl.HS0_7,
    kernelRun0_A.sl.HS0_8, kernelRun0_A.sl.r, kernelRun0_A.sl.r_1, kernelRun0_A.sl.r_10, kernelRun0_A.sl.r_11,
    kernelRun0_A.sl.r_12, kernelRun0_A.sl.r_13, kernelRun0_A.sl.r_14, kernelRun0_A.sl.r_15, kernelRun0_A.sl.r_16,
    kernelRun0_A.sl.r_17, kernelRun0_A.sl.r_18, kernelRun0_A.sl.r_19, kernelRun0_A.sl.r_2, kernelRun0_A.sl.r_20,
    kernelRun0_A.sl.r_21, kernelRun0_A.sl.r_22, kernelRun0_A.sl.r_23, kernelRun0_A.sl.r_24, kernelRun0_A.sl.r_25,
    kernelRun0_A.sl.r_26, kernelRun0_A.sl.r_27, kernelRun0_A.sl.r_28, kernelRun0_A.sl.r_29, kernelRun0_A.sl.r_3,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_4, kernelRun0_A.sl.r_40, kernelRun0_A.sl.r_41, kernelRun0_A.sl.r_42, kernelRun0_A.sl.r_43,
    kernelRun0_A.sl.r_44, kernelRun0_A.sl.r_45, kernelRun0_A.sl.r_46, kernelRun0_A.sl.r_47, kernelRun0_A.sl.r_48,
    kernelRun0_A.sl.r_49, kernelRun0_A.sl.r_5, kernelRun0_A.sl.r_50, kernelRun0_A.sl.r_51, kernelRun0_A.sl.r_52,
    kernelRun0_A.sl.r_53, kernelRun0_A.sl.r_54, kernelRun0_A.sl.r_55, kernelRun0_A.sl.r_56, kernelRun0_A.sl.r_57,
    kernelRun0_A.sl.r_58, kernelRun0_A.sl.r_59, kernelRun0_A.sl.r_6, kernelRun0_A.sl.r_60, kernelRun0_A.sl.r_61,
    kernelRun0_A.sl.r_62, kernelRun0_A.sl.r_63, kernelRun0_A.sl.r_64, kernelRun0_A.sl.r_65, kernelRun0_A.sl.r_66,
    kernelRun0_A.sl.r_67, kernelRun0_A.sl.r_68, kernelRun0_A.sl.r_69, kernelRun0_A.sl.r_7, kernelRun0_A.sl.r_70,
    kernelRun0_A.sl.r_71, kernelRun0_A.sl.r_72, kernelRun0_A.sl.r_73, kernelRun0_A.sl.r_74, kernelRun0_A.sl.r_75,
    kernelRun0_A.sl.r_76, kernelRun0_A.sl.r_77, kernelRun0_A.sl.r_78, kernelRun0_A.sl.r_79, kernelRun0_A.sl.r_8,
    kernelRun0_A.sl.r_80, kernelRun0_A.sl.r_81, kernelRun0_A.sl.r_82, kernelRun0_A.sl.r_83, kernelRun0_A.sl.r_84,
    kernelRun0_A.sl.r_85, kernelRun0_A.sl.r_86, kernelRun0_A.sl.r_87, kernelRun0_A.sl.r_88, kernelRun0_A.sl.r_9,
    Same.da0, Same.da2, Same.da3, Same.g1, Same.u1, Same.g2, Same.u2, Same.g3, Same.u3, Same.n1_0, Same.n2_0,
    Same.n1_1, Same.n2_1, Same.n1_5, Same.n2_5, Same.n1_2, Same.n2_2, Same.n1_6, Same.n2_6, Same.n1_3, Same.n2_3,
    Same.n1_7, Same.n2_7, Same.w13_00, Same.w13_01, Same.w13_02, Same.w13_40, Same.w13_41, Same.w13_42, Same.w13_10,
    Same.w13_11, Same.w13_12, Same.w13_50, Same.w13_51, Same.w13_52, Same.w13_20, Same.w13_21, Same.w13_22,
    Same.w13_60, Same.w13_61, Same.w13_62, Same.w13_30, Same.w13_31, Same.w13_32, Same.w13_70, Same.w13_71,
    Same.w13_72, Same.w14_4, Same.w14_1, Same.w14_5, Same.w14_2, Same.w14_6, Same.w14_3, Same.w14_7, Same.s_4,
    Same.s_1, Same.s_5, Same.s_2, Same.s_6, Same.s_3, Same.s_7, Same.w10_4, Same.w10_1, Same.w10_5, Same.w10_2,
    Same.w10_6, Same.w10_3, Same.w10_7, Same.w11_3, Same.w11_2, Same.w11_1, Same.x_4, Same.x_1, Same.x_5, Same.x_2,
    Same.x_6, Same.x_3, Slabs.o8, Slabs.o10, Slabs.o11, Slabs.o13, Slabs.o14, Slabs.o15, Slabs.os, Slabs.xs, Slabs.n1,
    Slabs.n2, Slabs.gate, Slabs.up, Slabs.dc_0, Slabs.dc_1, Slabs.dc_2, Slabs.dc_3, Slabs.dc_4, Slabs.dc_5,
    Slabs.dc_6, Slabs.dc_7, slabs, rows, piece, List.map_cons, List.map_nil, List.foldl_cons, List.foldl_nil,
    Matrix.cons_val, Matrix.cons_val_zero, Matrix.cons_val_one, loads, old13, old14, old15, List.cons_append,
    List.nil_append] <;>
    rfl

/-- What the body leaves in the outputs and in the scratch. -/
theorem made : Made x0 x1 x2 x3 x4 x5 x6 x7 (fun _ => 0) (fun _ _ _ => 0) (fun _ _ => 0) (fun _ => 0)
    (out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)
    (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)
    (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)
    (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)
    (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) := by
  have h := loads_of c arg1 harg1 arg2 harg2 arg3 harg3 arg4 harg4 arg5 harg5 arg6 harg6 arg7 harg7 arg8 harg8 arg17 x0 x1 x2 x3 x4 x5 x6 x7
  obtain ⟨p8, p9, p10, p11, p12, p13, p14, p15, ps⟩ := pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7
  constructor
  · intro s m
    rw [out0_A_8, View.read_writes_junk_eq_canon, p8, canon_whole2]
    exact h.o8 s m
  · intro s m
    rw [out0_A_9, View.read_writes_junk_eq_canon, p9, canon_whole2]
    exact h.o9 s m
  · intro e s k
    rw [out0_A_10, View.read_writes_junk_eq_canon, p10, ← List.append_nil (Slabs.o10 _)]
    exact h.o10 _ e s k
  · intro d s k
    rw [out0_A_11, View.read_writes_junk_eq_canon, p11, ← List.append_nil (Slabs.o11 _)]
    exact h.o11 _ d s k
  · intro s m
    rw [out0_A_12, View.read_writes_junk_eq_canon, p12, canon_whole2]
    exact h.o12 s m
  · intro e u k
    rw [out0_A_13, View.read_writes_junk_eq_canon, p13]
    exact h.o13 (o := (fun _ _ _ => 0)) (old13_zero c arg1 harg1 arg3 harg3 arg4 harg4 arg8 harg8 arg14 arg17 x0 x2 x3 x7) _ e u k
  · intro e k
    rw [out0_A_14, View.read_writes_junk_eq_canon, p14]
    exact h.o14 (o := (fun _ _ => 0)) (old14_zero c arg1 harg1 arg4 harg4 arg8 harg8 arg15 x0 x3 x7) _ e k
  · intro m
    rw [out0_A_15, View.read_writes_junk_eq_canon, p15, canon_whole2]
    exact (h.o15 _ m).trans (congrArg (· + _) ((old15_zero c arg16) m))
  · intro e r k
    rw [sout0_A_0, View.read_writes_junk_eq_canon, ps]
    exact h.os _ _ e (by revert e; decide) r k

end Cert.Ffn.First

end
-- ==== Proof.State.lean ====
/- What the pipeline's outputs hold after each grid point, over the whole arrays: point `t` has tile `31 − t`, and the
   accumulators the sums over the rows from that tile's first on. -/
module

public import proofs.«01_k».proof.Proof.Whole
public import proofs.«01_k».proof.Proof.Rest
public import proofs.«01_k».proof.Proof.First
public import proofs.«01_k».proof.Proof.Gen.KernelIdeal.Value
public import Idealize.ShloMosaic.Lib.Pipeline.ValueKit

@[expose] public section

set_option maxHeartbeats 1000000
set_option maxRecDepth 16384

namespace Cert.Ffn

open Idealize.ShloMosaic Cert.KernelIdeal Cert.KernelIdeal.Gen

variable (m : (ℓ : Loc nD τ sig) → Buf (Elt Ideal) ℓ) (c : Dev nD)

/-- The arrays at the kernel's launch. -/
noncomputable def arrays : Arrays where
  X r l := V m c (Pipeline.arrRef spec0 0) (ix2 r l : S8192x1024.Idx)
  H r l := V m c (Pipeline.arrRef spec0 1) (ix2 r l : S8192x1024.Idx)
  B e r k := V m c (Pipeline.arrRef spec0 2) (ix3 e r k : S8x8192x704.Idx)
  C e r k := V m c (Pipeline.arrRef spec0 3) (ix3 e r k : S8x8192x704.Idx)
  g l := V m c (Pipeline.arrRef spec0 4) (ix2 0 l : S1x1024.Idx)
  U e l k := V m c (Pipeline.arrRef spec0 5) (ix3 e l k : S8x1024x704.Idx)
  K e u k := V m c (Pipeline.arrRef spec0 6) (ix3 e u k : S8x3x704.Idx)
  D p l := V m c (Pipeline.arrRef spec0 7) (ix2 p l : S2816x1024.Idx)

theorem idx : ∀ t : Fin grid0.N,
    (win0_0.index t = ![31 - t.val, 0] ∧ win0_1.index t = ![31 - t.val, 0] ∧ win0_2.index t = ![0, 31 - t.val, 0]
      ∧ win0_3.index t = ![0, 31 - t.val, 0] ∧ win0_4.index t = ![0, 0] ∧ win0_5.index t = ![0, 0, 0]
      ∧ win0_6.index t = ![0, 0, 0] ∧ win0_7.index t = ![0, 0])
    ∧ win0_8.index t = ![31 - t.val, 0] ∧ win0_9.index t = ![0, 31 - t.val] ∧ win0_10.index t = ![0, 31 - t.val, 0]
      ∧ win0_11.index t = ![0, 31 - t.val, 0] ∧ win0_12.index t = ![31 - t.val, 0] ∧ win0_13.index t = ![0, 0, 0]
      ∧ win0_14.index t = ![0, 0, 0] ∧ win0_15.index t = ![0, 0] := by
  decide +kernel

/-- The blocks of point `t`. -/
theorem tile (t : Fin cfg0.N) (sh : Vec Ideal S8x8x704 .f32)
    (hS : ∀ e r k, sh (ix3 e r k) = (arrays m c).dn e (256 * (31 - t.val) + 256 + r.val) k) :
    Tile (arrays m c) (256 * (31 - t.val)) (iblk m c 0 t) (iblk m c 1 t) (iblk m c 2 t) (iblk m c 3 t) (iblk m c 4 t)
      (iblk m c 5 t) (iblk m c 6 t) (iblk m c 7 t) sh where
  le := by omega
  X s l := by dsimp only [arrays]; blk_ext [iblk, idx t]
  H s l := by dsimp only [arrays]; blk_ext [iblk, idx t]
  B e s k := by dsimp only [arrays]; blk_ext [iblk, idx t]
  C e s k := by dsimp only [arrays]; blk_ext [iblk, idx t]
  g l := by dsimp only [arrays]; blk_ext [iblk, idx t]
  U e l k := by dsimp only [arrays]; blk_ext [iblk, idx t]
  K e u k := by dsimp only [arrays]; blk_ext [iblk, idx t]
  D p l := by dsimp only [arrays]; blk_ext [iblk, idx t]
  S := hS

/-- What the accumulators and the scratch hold before a point whose tile ends at row `b`. -/
structure Before (A : Arrays) (b : ℕ) (sh : Vec Ideal S8x8x704 .f32) (o13 : Fin 8 → Fin 3 → Fin 704 → EReal)
    (o14 : Fin 8 → Fin 704 → EReal) (o15 : Fin 1024 → EReal) : Prop where
  sc (e : Fin 8) (r : Fin 8) (k : Fin 704) : sh (ix3 e r k) = A.dn e (b + r.val) k
  dcw (e : Fin 8) (u : Fin 3) (k : Fin 704) : o13 e u k = ∑ i ∈ Finset.Ico b 8192, A.fw e u k i
  dcb (e : Fin 8) (k : Fin 704) : o14 e k = ∑ i ∈ Finset.Ico b 8192, A.dn e i k
  dg (l : Fin 1024) : o15 l = ∑ i ∈ Finset.Ico b 8192, A.fg l i

/-- What point `t` leaves, and before it. -/
def Point (t : Fin cfg0.N) : Prop :=
  ∃ sh o13 o14 o15, Before (arrays m c) (256 * (31 - t.val) + 256) sh o13 o14 o15
    ∧ Made (iblk m c 0 t) (iblk m c 1 t) (iblk m c 2 t) (iblk m c 3 t) (iblk m c 4 t) (iblk m c 5 t) (iblk m c 6 t)
      (iblk m c 7 t) sh o13 o14 o15 (outsAt0 m c t.val t.isLt).1
      (outsAt0 m c t.val t.isLt).2.1 (outsAt0 m c t.val t.isLt).2.2.1 (outsAt0 m c t.val t.isLt).2.2.2.1
      (outsAt0 m c t.val t.isLt).2.2.2.2.1 (outsAt0 m c t.val t.isLt).2.2.2.2.2.1
      (outsAt0 m c t.val t.isLt).2.2.2.2.2.2.1 (outsAt0 m c t.val t.isLt).2.2.2.2.2.2.2.1
      (outsAt0 m c t.val t.isLt).2.2.2.2.2.2.2.2

theorem ico (b : ℕ) (h : b + 256 ≤ 8192) (f : ℕ → EReal) :
    ∑ i ∈ Finset.Ico (b + 256) 8192, f i + ∑ i ∈ Finset.Ico b (b + 256), f i = ∑ i ∈ Finset.Ico b 8192, f i := by
  rw [add_comm, Finset.sum_Ico_consecutive _ (by omega) h]

variable {m c}

/-- What a point leaves is what the next one finds. -/
theorem Point.after {t : Fin cfg0.N} (P : Point m c t) :
    Before (arrays m c) (256 * (31 - t.val)) (outsAt0 m c t.val t.isLt).2.2.2.2.2.2.2.2
      (fun e u k => (outsAt0 m c t.val t.isLt).2.2.2.2.2.1 (ix3 e u k))
      (fun e k => (outsAt0 m c t.val t.isLt).2.2.2.2.2.2.1 (ix3 e 0 k))
      (fun l => (outsAt0 m c t.val t.isLt).2.2.2.2.2.2.2.1 (ix2 0 l)) := by
  obtain ⟨sh, o13, o14, o15, B, M⟩ := P
  have T := tile m c t sh B.sc
  have hle := T.le
  refine ⟨fun e r k => ?_, fun e u k => ?_, fun e k => ?_, fun l => ?_⟩
  · rw [M.sc, T.dc, Arrays.dn, dif_pos (by omega)]
  · rw [M.dcw, B.dcw, T.cw]; exact ico _ hle _
  · rw [M.dcb, B.dcb, T.cb]; exact ico _ hle _
  · rw [M.dg, B.dg, T.dg]; exact ico _ hle _

end Cert.Ffn

end
-- ==== Proof.Sweep.lean ====
/- Every grid point leaves what `Point` says, by induction over the points. -/
module

public import proofs.«01_k».proof.Proof.State
public import proofs.«01_k».proof.Proof.Rest
public import proofs.«01_k».proof.Proof.First

@[expose] public section

set_option maxHeartbeats 1000000
set_option maxRecDepth 16384

namespace Cert.Ffn

open Idealize.ShloMosaic Cert.KernelIdeal Cert.KernelIdeal.Gen

variable (m : (ℓ : Loc nD τ sig) → Buf (Elt Ideal) ℓ) (c : Dev nD)

/-- What the body leaves, read off the tuple of the outputs' contents. -/
theorem Made.of {x0 x1 x2 x3 x4 x5 x6 x7 sh o13 o14 o15 y8 y9 y10 y11 y12 y13 y14 y15 ys}
    (M : Made x0 x1 x2 x3 x4 x5 x6 x7 sh o13 o14 o15 y8 y9 y10 y11 y12 y13 y14 y15 ys) {y}
    (h : y = (y8, y9, y10, y11, y12, y13, y14, y15, ys)) :
    Made x0 x1 x2 x3 x4 x5 x6 x7 sh o13 o14 o15 y.1 y.2.1 y.2.2.1 y.2.2.2.1 y.2.2.2.2.1 y.2.2.2.2.2.1 y.2.2.2.2.2.2.1
      y.2.2.2.2.2.2.2.1 y.2.2.2.2.2.2.2.2 := by
  subst h; exact M

theorem start (t : Fin cfg0.N) (h : t.val % 32 = 0) (hb : 256 * (31 - t.val) + 256 = 8192) : Point m c t := by
  refine ⟨fun _ => 0, fun _ _ _ => 0, fun _ _ => 0, fun _ => 0, ⟨fun e r k => ?_, fun e u k => ?_, fun e k => ?_, fun l => ?_⟩, ?_⟩
  · rw [Arrays.dn, dif_neg (by omega)]
  · rw [hb, Finset.Ico_self, Finset.sum_empty]
  · rw [hb, Finset.Ico_self, Finset.sum_empty]
  · rw [hb, Finset.Ico_self, Finset.sum_empty]
  · refine Made.of ?_ (outsAt0_A m c t h)
    apply First.made

theorem next (t : Fin cfg0.N) (h : ¬t.val % 32 = 0)
    (P : Point m c ⟨t.val - 1, Nat.lt_of_le_of_lt (Nat.sub_le _ _) t.isLt⟩) : Point m c t := by
  have hN : t.val < 32 := t.isLt
  have B := P.after
  have hb : 256 * (31 - (t.val - 1)) = 256 * (31 - t.val) + 256 := by omega
  dsimp only at B
  rw [hb] at B
  refine ⟨_, _, _, _, B, ?_⟩
  refine Made.of ?_ (outsAt0_B m c t h)
  apply Rest.made

theorem point (t : Fin cfg0.N) : Point m c t := by
  have hN : t.val < 32 := t.isLt
  induction hn : t.val generalizing t with
  | zero => exact start m c t (by rw [hn]) (by rw [hn])
  | succ n ih => exact next m c t (by omega) (ih _ (by show t.val - 1 < 32; omega) (by show t.val - 1 = n; omega))

end Cert.Ffn

end
-- ==== Proof.Results.lean ====
/- The arrays that the kernel leaves, over the arrays it is given. -/
module

public import proofs.«01_k».proof.Proof.Sweep

@[expose] public section

set_option maxHeartbeats 1000000
set_option maxRecDepth 16384

namespace Cert.Ffn

open Idealize.ShloMosaic Cert.KernelIdeal Cert.KernelIdeal.Gen

variable (m : (ℓ : Loc nD τ sig) → Buf (Elt Ideal) ℓ) (c : Dev nD)

theorem idx2 {a b : ℕ} (y : (⟨2, ![a, b]⟩ : Shape).Idx) : ∃ s l, y = ix2 s l := ⟨y 0, y 1, eq_ix2 y⟩

theorem idx3 {a b d : ℕ} (y : (⟨3, ![a, b, d]⟩ : Shape).Idx) : ∃ e s l, y = ix3 e s l := ⟨y 0, y 1, y 2, eq_ix3 y⟩

theorem fin_one (u : Fin 1) : u = 0 := Subsingleton.elim _ _

theorem out8 : (dats m 0 c).arrAt 8 cfg0.N = fun i : S8192x1024.Idx => (arrays m c).dx (i 0) (i 1) := by
  refine (dats m 0 c).arrAt_eq_of_covers 8 _ (by decide +kernel) fun t hf y => ?_
  blk_simp
  rw [after0_8]
  obtain ⟨sh, o13, o14, o15, B, M⟩ := point m c t
  obtain ⟨s, l, rfl⟩ := idx2 y
  rw [M.dx, (tile m c t sh B.sc).dx]
  congr 1 <;> apply Fin.ext <;> blk_simp [idx t] <;> (try dsimp only) <;> omega

theorem out9 : (dats m 0 c).arrAt 9 cfg0.N = fun i : S1024x8192.Idx => (arrays m c).nx (i 1) (i 0) := by
  refine (dats m 0 c).arrAt_eq_of_covers 9 _ (by decide +kernel) fun t hf y => ?_
  blk_simp
  rw [after0_9]
  obtain ⟨sh, o13, o14, o15, B, M⟩ := point m c t
  obtain ⟨l, s, rfl⟩ := idx2 y
  have T := tile m c t sh B.sc
  rw [M.xn, T.rms, T.H, T.g]
  show (arrays m c).nx _ _ = _
  congr 1 <;> apply Fin.ext <;> blk_simp [idx t] <;> (try dsimp only) <;> omega

theorem out10 : (dats m 0 c).arrAt 10 cfg0.N = fun i : S8x8192x704.Idx => (arrays m c).hh (i 0) (i 1) (i 2) := by
  refine (dats m 0 c).arrAt_eq_of_covers 10 _ (by decide +kernel) fun t hf y => ?_
  blk_simp
  rw [after0_10]
  obtain ⟨sh, o13, o14, o15, B, M⟩ := point m c t
  obtain ⟨e, s, k, rfl⟩ := idx3 y
  rw [M.dhh, (tile m c t sh B.sc).hh]
  congr 1 <;> apply Fin.ext <;> blk_simp [idx t] <;> (try dsimp only) <;> omega

theorem out11 : (dats m 0 c).arrAt 11 cfg0.N = fun i : S4x8192x704.Idx => (arrays m c).act (i 0) (i 1) (i 2) := by
  refine (dats m 0 c).arrAt_eq_of_covers 11 _ (by decide +kernel) fun t hf y => ?_
  blk_simp
  rw [after0_11]
  obtain ⟨sh, o13, o14, o15, B, M⟩ := point m c t
  obtain ⟨e, s, k, rfl⟩ := idx3 y
  have T := tile m c t sh B.sc
  rw [M.act, T.C, T.C]
  show (arrays m c).act e _ _ = _
  congr 1 <;> apply Fin.ext <;> blk_simp [idx t] <;> (try dsimp only) <;> omega

theorem out12 : (dats m 0 c).arrAt 12 cfg0.N = fun i : S8192x1024.Idx => (arrays m c).X (i 0) (i 1) := by
  refine (dats m 0 c).arrAt_eq_of_covers 12 _ (by decide +kernel) fun t hf y => ?_
  blk_simp
  rw [after0_12]
  obtain ⟨sh, o13, o14, o15, B, M⟩ := point m c t
  obtain ⟨s, l, rfl⟩ := idx2 y
  rw [M.dh, (tile m c t sh B.sc).X]
  congr 1 <;> apply Fin.ext <;> blk_simp [idx t] <;> (try dsimp only) <;> omega

/-- The last point, whose tile is the first. -/
def last : Fin cfg0.N := ⟨31, by decide⟩

theorem last_row : 256 * (31 - last.val) = 0 := rfl

theorem out13 : (dats m 0 c).arrAt 13 cfg0.N
    = fun i : S8x3x704.Idx => ∑ r : Fin 8192, (arrays m c).fw (i 0) (i 1) (i 2) r.val := by
  refine (dats m 0 c).arrAt_eq_of_after_last 13 last (by decide +kernel) _ fun j => ?_
  blk_simp
  rw [after0_13]
  have B := (point m c last).after
  rw [last_row] at B
  obtain ⟨e, u, k, rfl⟩ := idx3 j
  exact (B.dcw e u k).trans (sum_rows _)

theorem out14 : (dats m 0 c).arrAt 14 cfg0.N
    = fun i : S8x1x704.Idx => ∑ r : Fin 8192, (arrays m c).dn (i 0) r.val (i 2) := by
  refine (dats m 0 c).arrAt_eq_of_after_last 14 last (by decide +kernel) _ fun j => ?_
  blk_simp
  rw [after0_14]
  have B := (point m c last).after
  rw [last_row] at B
  obtain ⟨e, u, k, rfl⟩ := idx3 j
  rw [fin_one u]
  exact (B.dcb e k).trans (sum_rows _)

theorem out15 : (dats m 0 c).arrAt 15 cfg0.N = fun i : S1x1024.Idx => ∑ r : Fin 8192, (arrays m c).fg (i 1) r.val := by
  refine (dats m 0 c).arrAt_eq_of_after_last 15 last (by decide +kernel) _ fun j => ?_
  blk_simp
  rw [after0_15]
  have B := (point m c last).after
  rw [last_row] at B
  obtain ⟨u, l, rfl⟩ := idx2 j
  rw [fin_one u]
  exact (B.dg l).trans (sum_rows _)

end Cert.Ffn

end
-- ==== Proof.Maths.lean ====
/- The layer's backward pass over the arguments, as the reference computes it. -/
module

public import proofs.«01_k».proof.Proof.Reals

@[expose] public section

namespace Cert.Ffn

open Idealize.ShloMosaic

/-- The arguments: the activations, the norm's weights, the up projection, the convolution's weights and bias, the down
    projection, and the gradient of the layer's output. -/
structure Params where
  h : Fin 8192 → Fin 1024 → EReal
  g : Fin 1024 → EReal
  U : Fin 1024 → Fin 5632 → EReal
  K : Fin 3 → Fin 5632 → EReal
  b : Fin 5632 → EReal
  D : Fin 2816 → Fin 1024 → EReal
  X : Fin 8192 → Fin 1024 → EReal

namespace Params

variable (P : Params)

/-- The normalised activations. -/
noncomputable def n (r : Fin 8192) (l : Fin 1024) : EReal := P.h r l * rrms (P.h r) * P.g l

/-- The up projection, and the rows one and two before, zero before the first. -/
noncomputable def up (r : Fin 8192) (j : Fin 5632) : EReal := ∑ l : Fin 1024, P.n r l * P.U l j

noncomputable def up1 (r : Fin 8192) (j : Fin 5632) : EReal :=
  if h : 1 + r.val < 2 then 0 else P.up ⟨1 + r.val - 2, by omega⟩ j

noncomputable def up2 (r : Fin 8192) (j : Fin 5632) : EReal :=
  if h : r.val < 2 then 0 else P.up ⟨r.val - 2, by omega⟩ j

/-- The convolution. -/
noncomputable def cv (r : Fin 8192) (j : Fin 5632) : EReal :=
  P.b j + P.up2 r j * P.K 0 j + P.up1 r j * P.K 1 j + P.up r j * P.K 2 j

/-- The gated activations. -/
noncomputable def act (r : Fin 8192) (p : Fin 2816) : EReal :=
  P.cv r ⟨p.val, by omega⟩ * lgt (P.cv r ⟨p.val, by omega⟩) * P.cv r ⟨2816 + p.val, by omega⟩

/-- Their gradient. -/
noncomputable def da (r : Fin 8192) (p : Fin 2816) : EReal := ∑ l : Fin 1024, P.X r l * P.D p l

/-- The gradient of the convolution's output. -/
noncomputable def dv (r : Fin 8192) (j : Fin 5632) : EReal :=
  if h : j.val < 2816 then
    P.da r ⟨j.val, h⟩ * P.cv r ⟨2816 + j.val, by omega⟩ * lgt (P.cv r j)
      + P.cv r j * (P.da r ⟨j.val, h⟩ * P.cv r ⟨2816 + j.val, by omega⟩) * (lgt (P.cv r j) * (1 - lgt (P.cv r j)))
  else
    P.cv r ⟨j.val - 2816, by omega⟩ * lgt (P.cv r ⟨j.val - 2816, by omega⟩) * P.da r ⟨j.val - 2816, by omega⟩

/-- The same, zero past the last row. -/
noncomputable def dm (i : ℕ) (j : Fin 5632) : EReal := if h : i < 8192 then P.dv ⟨i, h⟩ j else 0

/-- The gradient of the up projection. -/
noncomputable def du (r : Fin 8192) (j : Fin 5632) : EReal :=
  P.dv r j * P.K 2 j + P.dm (r.val + 1) j * P.K 1 j + P.dm (r.val + 2) j * P.K 0 j

/-- The gradient of the normalised activations. -/
noncomputable def dn (r : Fin 8192) (l : Fin 1024) : EReal := ∑ j : Fin 5632, P.du r j * P.U l j

/-- What the reciprocal root mean square passes on to a row. -/
noncomputable def dr (r : Fin 8192) : EReal :=
  Ideal.div ((∑ l : Fin 1024, P.h r l * (P.dn r l * P.g l)) * (Ideal.ofBits .f32 0xBF000000#32
    * Ideal.div (rrms (P.h r)) (Ideal.div (∑ l : Fin 1024, P.h r l * P.h r l) (Ideal.ofBits .f32 0x44800000#32)
      + Ideal.ofBits .f32 0x358637BD#32))) (Ideal.ofBits .f32 0x44800000#32)

/-- The gradients of the layer's input, of the convolution's weights and bias and of the norm's weights. -/
noncomputable def dx (r : Fin 8192) (l : Fin 1024) : EReal :=
  P.X r l + (P.dn r l * P.g l * rrms (P.h r) + P.h r l * P.dr r + P.dr r * P.h r l)

noncomputable def dw (u : Fin 3) (j : Fin 5632) : EReal :=
  ![∑ r : Fin 8192, P.up2 r j * P.dv r j, ∑ r : Fin 8192, P.up1 r j * P.dv r j, ∑ r : Fin 8192, P.up r j * P.dv r j] u

noncomputable def db (j : Fin 5632) : EReal := ∑ r : Fin 8192, P.dv r j

noncomputable def dg (l : Fin 1024) : EReal := ∑ r : Fin 8192, P.h r l * rrms (P.h r) * P.dn r l

end Params

/-- The column of lane `k` of block `e`. -/
def col (e : Fin 8) (k : Fin 704) : Fin 5632 := ⟨e.val * 704 + k.val, by omega⟩

def colHalf (e : Fin 4) (k : Fin 704) : Fin 2816 := ⟨e.val * 704 + k.val, by omega⟩

end Cert.Ffn

end
-- ==== Proof.Equation.lean ====
/- What the kernel computes over its arrays is what the reference computes over the arguments the arrays are made of. -/
module

public import proofs.«01_k».proof.Proof.Maths
public import proofs.«01_k».proof.Proof.Whole

@[expose] public section

set_option maxRecDepth 16384

namespace Cert.Ffn

open Idealize.ShloMosaic

namespace Params

/-- The kernel's arrays, of the arguments. -/
noncomputable def arrays (P : Params) : Arrays where
  X := P.X
  H := P.h
  B e r k := P.up r (col e k)
  C e r k := P.cv r (col e k)
  g := P.g
  U e l k := P.U l (col e k)
  K e u k := P.K u (col e k)
  D := P.D

/-- The arguments are real numbers. -/
structure Finite (P : Params) : Prop where
  h (r : Fin 8192) (l : Fin 1024) : IsR (P.h r l)
  g (l : Fin 1024) : IsR (P.g l)
  U (l : Fin 1024) (j : Fin 5632) : IsR (P.U l j)
  K (u : Fin 3) (j : Fin 5632) : IsR (P.K u j)
  b (j : Fin 5632) : IsR (P.b j)
  D (p : Fin 2816) (l : Fin 1024) : IsR (P.D p l)
  X (r : Fin 8192) (l : Fin 1024) : IsR (P.X r l)

namespace Finite

variable {P : Params} (F : P.Finite)
include F

theorem up (r : Fin 8192) (j : Fin 5632) : IsR (P.up r j) :=
  IsR.sum _ _ fun l _ => (((F.h r l).mul (IsR.rrms (F.h r))).mul (F.g l)).mul (F.U l j)

theorem up1 (r : Fin 8192) (j : Fin 5632) : IsR (P.up1 r j) := by
  unfold Params.up1; split
  · exact IsR.zero
  · exact F.up _ _

theorem up2 (r : Fin 8192) (j : Fin 5632) : IsR (P.up2 r j) := by
  unfold Params.up2; split
  · exact IsR.zero
  · exact F.up _ _

theorem cv (r : Fin 8192) (j : Fin 5632) : IsR (P.cv r j) :=
  (((F.b j).add ((F.up2 r j).mul (F.K 0 j))).add ((F.up1 r j).mul (F.K 1 j))).add ((F.up r j).mul (F.K 2 j))

theorem da (r : Fin 8192) (p : Fin 2816) : IsR (P.da r p) := IsR.sum _ _ fun l _ => (F.X r l).mul (F.D p l)

theorem dv (r : Fin 8192) (j : Fin 5632) : IsR (P.dv r j) := by
  have s := fun j => (F.cv r j).lgt
  unfold Params.dv; split
  · exact (((F.da _ _).mul (F.cv _ _)).mul (s _)).add
      (((F.cv _ _).mul ((F.da _ _).mul (F.cv _ _))).mul ((s _).mul (IsR.one.sub (s _))))
  · exact ((F.cv _ _).mul (s _)).mul (F.da _ _)

theorem dm (i : ℕ) (j : Fin 5632) : IsR (P.dm i j) := by
  unfold Params.dm; split
  · exact F.dv _ _
  · exact IsR.zero

theorem dn (r : Fin 8192) (l : Fin 1024) : IsR (P.dn r l) :=
  IsR.sum _ _ fun j _ => ((((F.dv r j).mul (F.K 2 j)).add ((F.dm _ j).mul (F.K 1 j))).add ((F.dm _ j).mul (F.K 0 j))).mul (F.U l j)

theorem dc_eq (e : Fin 8) (r : Fin 8192) (k : Fin 704) : P.arrays.dc e r k = P.dv r (col e k) := by
  have ha (d : Fin 4) (p : Fin 2816) (h : p.val = d.val * 704 + k.val) : P.arrays.da d r k = P.da r p := by
    unfold Arrays.da Params.da
    refine Finset.sum_congr rfl fun l _ => congrArg (fun q => P.X r l * P.D q l) (Fin.ext ?_)
    dsimp only; omega
  have hc (d : Fin 8) (j : Fin 5632) (h : j.val = d.val * 704 + k.val) : P.arrays.C d r k = P.cv r j :=
    congrArg (P.cv r) (Fin.ext h.symm)
  unfold Arrays.dc Params.dv
  by_cases he : e.val < 4
  · have hj : (col e k).val < 2816 := by dsimp only [col]; omega
    rw [dif_pos he, dif_pos hj, ha ⟨e.val, he⟩ ⟨(col e k).val, hj⟩ rfl, hc e (col e k) rfl,
      hc ⟨4 + e.val, by omega⟩ ⟨2816 + (col e k).val, by omega⟩ (by dsimp only [col]; omega)]
    exact gate_eq (F.da _ _) (F.cv _ _) (F.cv _ _)
  · have hj : ¬(col e k).val < 2816 := by dsimp only [col]; omega
    rw [dif_neg he, dif_neg hj,
      ha ⟨e.val - 4, by omega⟩ ⟨(col e k).val - 2816, by omega⟩ (by dsimp only [col]; omega),
      hc ⟨e.val - 4, by omega⟩ ⟨(col e k).val - 2816, by omega⟩ (by dsimp only [col]; omega), mul_comm]

theorem dn_eq (e : Fin 8) (i : ℕ) (k : Fin 704) : P.arrays.dn e i k = P.dm i (col e k) := by
  unfold Arrays.dn Params.dm
  by_cases h : i < 8192
  · rw [dif_pos h, dif_pos h, F.dc_eq]
  · rw [dif_neg h, dif_neg h]

theorem hh_eq (e : Fin 8) (r : Fin 8192) (k : Fin 704) : P.arrays.hh e r k = P.du r (col e k) := by
  unfold Arrays.hh Params.du
  rw [F.dc_eq, F.dn_eq, F.dn_eq, mul_comm (P.arrays.K e 2 k), mul_comm (P.arrays.K e 1 k), mul_comm (P.arrays.K e 0 k)]
  rfl

end Finite

/-- A sum over the blocks and their lanes is the sum over the columns. -/
theorem sum_cols (f : Fin 5632 → EReal) : ∑ e : Fin 8, ∑ k : Fin 704, f (col e k) = ∑ j : Fin 5632, f j := by
  rw [← Fintype.sum_prod_type']
  refine Fintype.sum_equiv (finProdFinEquiv.trans (finCongr (by norm_num))) _ _ fun x => congrArg f (Fin.ext ?_)
  simp [col, finProdFinEquiv]; ring

/-- A sum against the values some rows on is the sum against the other factor as many rows before. -/
theorem sum_shift (s : ℕ) (a b : ℕ → EReal) (ha : ∀ i, 8192 ≤ i → a i = 0) :
    ∑ i ∈ Finset.range 8192, a (i + s) * b i = ∑ i ∈ Finset.range 8192, (if i < s then 0 else b (i - s)) * a i := by
  have h₁ := Finset.sum_range_add (fun i => (if i < s then 0 else b (i - s)) * a i) s 8192
  have h₂ := Finset.sum_range_add (fun i => (if i < s then 0 else b (i - s)) * a i) 8192 s
  rw [Finset.sum_eq_zero (s := Finset.range s) fun i hi => by
    rw [if_pos (Finset.mem_range.1 hi), zero_mul], zero_add] at h₁
  rw [Finset.sum_eq_zero (s := Finset.range s) fun i hi => by rw [ha _ (by omega), mul_zero], add_zero] at h₂
  rw [← h₂, add_comm 8192 s, h₁]
  refine Finset.sum_congr rfl fun i _ => ?_
  rw [if_neg (by omega), Nat.add_sub_cancel_left, add_comm s i, mul_comm]

namespace Finite

variable {P : Params} (F : P.Finite)
include F

theorem xn_eq (r : Fin 8192) (l : Fin 1024) : P.arrays.xn r l = P.dn r l := by
  unfold Arrays.xn Params.dn
  rw [← sum_cols]
  simp only [F.hh_eq]; rfl

theorem dx_eq (r : Fin 8192) (l : Fin 1024) : P.arrays.dx r l = P.dx r l := by
  unfold Arrays.dx Params.dx Params.dr
  simp only [F.xn_eq]
  exact congrArg (P.X r l + ·) (rms_eq (F.h r) (fun k => (F.dn r k).mul (F.g k)) l)

theorem act_eq (d : Fin 4) (r : Fin 8192) (k : Fin 704) : P.arrays.act d r k = P.act r (colHalf d k) := by
  unfold Arrays.act Params.act
  have h : P.arrays.C ⟨4 + d.val, by omega⟩ r k = P.cv r ⟨2816 + (colHalf d k).val, by omega⟩ :=
    congrArg (P.cv r) (Fin.ext (by dsimp only [col, colHalf]; omega))
  rw [h]; rfl

theorem db_eq (e : Fin 8) (k : Fin 704) : ∑ r : Fin 8192, P.arrays.dn e r.val k = P.db (col e k) := by
  refine Finset.sum_congr rfl fun r _ => ?_
  rw [F.dn_eq, Params.dm, dif_pos r.isLt]

theorem dg_eq (l : Fin 1024) : ∑ r : Fin 8192, P.arrays.fg l r.val = P.dg l := by
  refine Finset.sum_congr rfl fun r _ => ?_
  rw [Arrays.fg, dif_pos r.isLt, F.xn_eq, mul_comm]; rfl

theorem dw_eq (e : Fin 8) (u : Fin 3) (k : Fin 704) : ∑ r : Fin 8192, P.arrays.fw e u k r.val = P.dw u (col e k) := by
  let b (i : ℕ) : EReal := if h : i < 8192 then P.up ⟨i, h⟩ (col e k) else 0
  have hL : ∑ r : Fin 8192, P.arrays.fw e u k r.val
      = ∑ i ∈ Finset.range 8192, (if i < 2 - u.val then 0 else b (i - (2 - u.val))) * P.dm i (col e k) := by
    rw [← sum_shift (2 - u.val) (fun i => P.dm i (col e k)) b fun i hi => dif_neg (by omega), ← Fin.sum_univ_eq_sum_range
      (fun i => P.dm (i + (2 - u.val)) (col e k) * b i)]
    refine Finset.sum_congr rfl fun r _ => ?_
    rw [Arrays.fw, dif_pos r.isLt, F.dn_eq]
    refine congrArg (P.dm _ _ * ·) ?_
    show P.up r (col e k) = dite (r.val < 8192) (fun h => P.up ⟨r.val, h⟩ (col e k)) fun _ => 0
    rw [dif_pos r.isLt]
  rw [hL, ← Fin.sum_univ_eq_sum_range (fun i => (if i < 2 - u.val then 0 else b (i - (2 - u.val))) * P.dm i (col e k))]
  have hm (r : Fin 8192) : P.dm r.val (col e k) = P.dv r (col e k) := dif_pos r.isLt
  simp only [hm]
  fin_cases u
  · show ∑ r : Fin 8192, (if r.val < 2 then 0 else b (r.val - 2)) * P.dv r (col e k)
      = ∑ r : Fin 8192, P.up2 r (col e k) * P.dv r (col e k)
    refine Finset.sum_congr rfl fun r _ => congrArg (· * P.dv r (col e k)) ?_
    show (if r.val < 2 then 0 else b (r.val - 2)) = P.up2 r (col e k)
    unfold Params.up2
    split
    · rfl
    · exact dif_pos (by omega)
  · show ∑ r : Fin 8192, (if r.val < 1 then 0 else b (r.val - 1)) * P.dv r (col e k)
      = ∑ r : Fin 8192, P.up1 r (col e k) * P.dv r (col e k)
    refine Finset.sum_congr rfl fun r _ => congrArg (· * P.dv r (col e k)) ?_
    show (if r.val < 1 then 0 else b (r.val - 1)) = P.up1 r (col e k)
    unfold Params.up1
    by_cases h : r.val < 1
    · rw [if_pos h, dif_pos (by omega)]
    · rw [if_neg h, dif_neg (by omega)]
      simp only [show 1 + r.val - 2 = r.val - 1 by omega]
      exact dif_pos (by omega)
  · show ∑ r : Fin 8192, (if r.val < 0 then 0 else b (r.val - 0)) * P.dv r (col e k)
      = ∑ r : Fin 8192, P.up r (col e k) * P.dv r (col e k)
    refine Finset.sum_congr rfl fun r _ => congrArg (· * P.dv r (col e k)) ?_
    show (if r.val < 0 then 0 else b (r.val - 0)) = P.up r (col e k)
    rw [if_neg (by omega)]
    exact dif_pos r.isLt

end Finite

end Params

end Cert.Ffn

end
-- ==== Proof.Entry.lean ====
/- The arrays at the kernel's launch, of the arguments: the up projection and the convolution are computed before it. -/
module

public import proofs.«01_k».proof.Proof.State
public import proofs.«01_k».proof.Proof.Equation

@[expose] public section

set_option maxHeartbeats 1000000
set_option maxRecDepth 16384

namespace Cert.Ffn

open Idealize.ShloMosaic Cert.KernelIdeal Cert.KernelIdeal.Gen

variable (m : (ℓ : Loc nD τ sig) → Buf (Elt Ideal) ℓ) (c : Dev nD)

/-- The arguments. -/
noncomputable def params : Params where
  h r l := m (c, Proc.tc.devRef main_arg0) (ix2 r l)
  g l := m (c, Proc.tc.devRef main_arg1) (ix1 l)
  U l j := m (c, Proc.tc.devRef main_arg2) (ix2 l j)
  K u j := m (c, Proc.tc.devRef main_arg3) (ix2 u j)
  b j := m (c, Proc.tc.devRef main_arg4) (ix1 j)
  D p l := m (c, Proc.tc.devRef main_arg5) (ix2 p l)
  X r l := m (c, Proc.tc.devRef main_arg6) (ix2 r l)

theorem eX (r : Fin 8192) (l : Fin 1024) : (arrays m c).X r l = (params m c).X r l := by
  show V m c main_arg6 _ = _
  entry_read
  rfl

theorem eH (r : Fin 8192) (l : Fin 1024) : (arrays m c).H r l = (params m c).h r l := by
  show V m c main_arg0 _ = _
  entry_read
  rfl

theorem eg (l : Fin 1024) : (arrays m c).g l = (params m c).g l := by
  show V m c main_v45 _ = _
  entry_read
  pointwise
  rfl

theorem eB (e : Fin 8) (r : Fin 8192) (k : Fin 704) : (arrays m c).B e r k = (params m c).up r (col e k) := by
  show V m c main_v41 _ = _
  entry_read
  pointwise
  rfl

theorem eC (e : Fin 8) (r : Fin 8192) (k : Fin 704) : (arrays m c).C e r k = (params m c).cv r (col e k) := by
  show V m c main_v44 _ = _
  entry_read
  pointwise
  rfl

theorem eU (e : Fin 8) (l : Fin 1024) (k : Fin 704) : (arrays m c).U e l k = (params m c).U l (col e k) := by
  show V m c main_v48 _ = _
  entry_read
  pointwise
  rfl

theorem eK (e : Fin 8) (u : Fin 3) (k : Fin 704) : (arrays m c).K e u k = (params m c).K u (col e k) := by
  show V m c main_v50 _ = _
  entry_read
  pointwise
  rfl

theorem eD (p : Fin 2816) (l : Fin 1024) : (arrays m c).D p l = (params m c).D p l := by
  show V m c main_v51 _ = _
  entry_read
  pointwise
  rfl

theorem arrays_eq : arrays m c = (params m c).arrays := by
  have h : ∀ A B : Arrays, (∀ r l, A.X r l = B.X r l) → (∀ r l, A.H r l = B.H r l) → (∀ e r k, A.B e r k = B.B e r k)
      → (∀ e r k, A.C e r k = B.C e r k) → (∀ l, A.g l = B.g l) → (∀ e l k, A.U e l k = B.U e l k)
      → (∀ e u k, A.K e u k = B.K e u k) → (∀ p l, A.D p l = B.D p l) → A = B := by
    intro A B h₁ h₂ h₃ h₄ h₅ h₆ h₇ h₈
    cases A; cases B
    simp only [← funext_iff] at h₁ h₂ h₃ h₄ h₅ h₆ h₇ h₈
    subst h₁ h₂ h₃ h₄ h₅ h₆ h₇ h₈
    rfl
  exact h _ _ (eX m c) (eH m c) (eB m c) (eC m c) (eg m c) (eU m c) (eK m c) (eD m c)

end Cert.Ffn

end
-- ==== Proof.Finite.lean ====
/- The precondition: every entry of the arguments is a real number. -/
module

public import proofs.«01_k».proof.Proof.Entry
public import proofs.«01_k».proof.Defs
public import Idealize.ShloMosaic.Lib.ReduceAll
public import Idealize.ShloMosaic.Lib.Affine

@[expose] public section

set_option maxRecDepth 16384

namespace Cert.Ffn

open Idealize.ShloMosaic

/-- The side conditions of the printed precondition. -/
theorem preFacts : Cert.Pre_all_finite.Facts where
  bcast_S_S8192x1024 := by decide
  reducesTo_S8192x1024_S_d0_1 := by decide
  h_S_ := by decide
  bcast_S_S1024 := by decide
  reducesTo_S1024_S_d0 := by decide
  bcast_S_S1024x5632 := by decide
  reducesTo_S1024x5632_S_d0_1 := by decide
  bcast_S_S3x5632 := by decide
  reducesTo_S3x5632_S_d0_1 := by decide
  bcast_S_S5632 := by decide
  reducesTo_S5632_S_d0 := by decide
  bcast_S_S2816x1024 := by decide
  reducesTo_S2816x1024_S_d0_1 := by decide

/-- A magnitude below infinity belongs to a real number. -/
theorem IsR.of_lt {x : EReal}
    (h : BitVec.ofBool (decide (FloatOps.absf (F := Ideal) (φ := .f32) x < Ideal.ofBits .f32 0x7F800000#32)) = 1#1) : IsR x := by
  have hi : Ideal.ofBits .f32 0x7F800000#32 = (⊤ : EReal) := by simp [Ideal.ofBits, Ideal.ieee]
  have hx : FloatOps.absf (F := Ideal) (φ := .f32) x < (⊤ : EReal) := by
    rw [hi] at h
    by_contra hn
    rw [decide_eq_false hn] at h
    exact absurd h (by decide)
  have hm : max x (-x) < ⊤ := hx
  refine IsR.of_ne (fun e => ?_) (fun e => ?_) <;> subst e <;> simp at hm

theorem finite (m : (ℓ : Loc Cert.KernelIdeal.nD Cert.KernelIdeal.τ Cert.KernelIdeal.sig) → Buf (Elt Ideal) ℓ)
    (h : Cert.Pre_KernelIdeal_all_finite (hPre_all_finite := preFacts) m) (c : Dev Cert.KernelIdeal.nD) : (params m c).Finite := by
  have e := congrFun (h c) (Shape.Idx.first preFacts.h_S_)
  simp only [Cert.Pre_all_finite.fn, Cert.Pre_all_finite.fn_part1, andi, IntOp.andi_eq_one] at e
  obtain ⟨⟨⟨⟨⟨⟨e₀, e₁⟩, e₂⟩, e₃⟩, e₄⟩, e₅⟩, e₆⟩ := e
  have f₀ := fun i => Host.reduce_andi_all _ _ _ _ _ e₀ i
  have f₁ := fun i => Host.reduce_andi_all _ _ _ _ _ e₁ i
  have f₂ := fun i => Host.reduce_andi_all _ _ _ _ _ e₂ i
  have f₃ := fun i => Host.reduce_andi_all _ _ _ _ _ e₃ i
  have f₄ := fun i => Host.reduce_andi_all _ _ _ _ _ e₄ i
  have f₅ := fun i => Host.reduce_andi_all _ _ _ _ _ e₅ i
  have f₆ := fun i => Host.reduce_andi_all _ _ _ _ _ e₆ i
  pointwise at f₀ f₁ f₂ f₃ f₄ f₅ f₆
  exact ⟨fun r l => .of_lt (f₀ (ix2 r l)), fun l => .of_lt (f₁ (ix1 l)), fun l j => .of_lt (f₂ (ix2 l j)),
    fun u j => .of_lt (f₃ (ix2 u j)), fun j => .of_lt (f₄ (ix1 j)), fun p l => .of_lt (f₅ (ix2 p l)),
    fun r l => .of_lt (f₆ (ix2 r l))⟩

end Cert.Ffn

end
-- ==== Proof.Reference.lean ====
/- The reference's results, read at an index. -/
module

public import proofs.«01_k».proof.Proof.Maths
public import proofs.«01_k».proof.Proof.Gen.ReferenceIdeal.Run
public import Idealize.ShloMosaic.Lib.Pointwise

@[expose] public section

set_option maxHeartbeats 1000000
set_option maxRecDepth 16384

namespace Cert.Ffn.Ref

open Idealize.ShloMosaic Idealize.ShloMosaic.StableHlo Cert.ReferenceIdeal Cert.ReferenceIdeal.Gen Cert.ReferenceIdeal.Value

variable (V : Valuation τ sig (Elt Ideal))

/-- The arguments. -/
noncomputable def params : Params where
  h r l := V (Proc.devRef .tc main_arg0) (ix2 r l)
  g l := V (Proc.devRef .tc main_arg1) (ix1 l)
  U l j := V (Proc.devRef .tc main_arg2) (ix2 l j)
  K u j := V (Proc.devRef .tc main_arg3) (ix2 u j)
  b j := V (Proc.devRef .tc main_arg4) (ix1 j)
  D p l := V (Proc.devRef .tc main_arg5) (ix2 p l)
  X r l := V (Proc.devRef .tc main_arg6) (ix2 r l)

theorem n (r : Fin 8192) (l : Fin 1024) : @Eq EReal (res_main_v28 (F := Ideal) V (ix2 r l)) ((params V).n r l) := by
  pointwise [res_main_v28, res_main_v25, res_main_v20, res_main_v19, res_main_v26]
  rfl

theorem up (r : Fin 8192) (j : Fin 5632) : @Eq EReal (res_main_v48 (F := Ideal) V (ix2 r j)) ((params V).up r j) := by
  pointwise [res_main_v48, res_main_v31]
  simp only [n]; rfl

theorem up1 (r : Fin 8192) (j : Fin 5632) : @Eq EReal (res_main_v41 (F := Ideal) V (ix2 r j)) ((params V).up1 r j) := by
  pointwise [res_main_v41, res_main_v31]
  simp only [n]; rfl

theorem up2 (r : Fin 8192) (j : Fin 5632) : @Eq EReal (res_main_v33 (F := Ideal) V (ix2 r j)) ((params V).up2 r j) := by
  pointwise [res_main_v33, res_main_v31]
  simp only [n]; rfl

theorem cv (r : Fin 8192) (j : Fin 5632) : @Eq EReal (res_main_v57 (F := Ideal) V (ix2 r j)) ((params V).cv r j) := by
  pointwise [res_main_v57, res_main_v51, res_main_v44, res_main_v36]
  simp only [up, up1, up2, Params.cv, ← add_assoc]; rfl

theorem act (r : Fin 8192) (p : Fin 2816) : @Eq EReal (res_main_v61 (F := Ideal) V (ix2 r p)) ((params V).act r p) := by
  pointwise [res_main_v61, res_main_v60_0, res_main_v60_2, res_main_v58, res_main_v59]
  simp only [cv]; rfl

theorem da (r : Fin 8192) (p : Fin 2816) : @Eq EReal (res_main_v67 (F := Ideal) V (ix2 r p)) ((params V).da r p) := by
  pointwise [res_main_v67, res_main_v64]
  rfl

theorem dv (r : Fin 8192) (j : Fin 5632) : @Eq EReal (res_main_v71 (F := Ideal) V (ix2 r j)) ((params V).dv r j) := by
  pointwise [res_main_v71, res_main_v69, res_main_v60_0, res_main_v60_2, res_main_v58, res_main_v59]
  simp only [cv, da]; rfl

theorem du (r : Fin 8192) (j : Fin 5632) : @Eq EReal (res_main_v107 (F := Ideal) V (ix2 r j)) ((params V).du r j) := by
  pointwise [res_main_v107, res_main_v105, res_main_v51, res_main_v44, res_main_v36]
  simp only [dv]
  refine congrArg₂ (fun a b : EReal => a + b) (congrArg₂ (fun a b : EReal => a + b) ?_ ?_) ?_
  · rw [dif_pos]
    · rfl
    · exact Fin.forall_fin_two.2
          ⟨show 2 ≤ 2 + r.val ∧ (2 + r.val - 2) % 1 = 0 ∧ (2 + r.val - 2) / 1 < 8192 by omega,
            show 0 ≤ j.val ∧ (j.val - 0) % 1 = 0 ∧ (j.val - 0) / 1 < 5632 by omega⟩
  · by_cases h : r.val + 1 < 8192
    · rw [dif_pos, Params.dm, dif_pos h]
      · simp only [show 2 + r.val - 1 = r.val + 1 by omega]; rfl
      · exact Fin.forall_fin_two.2
          ⟨show 1 ≤ 2 + r.val ∧ (2 + r.val - 1) % 1 = 0 ∧ (2 + r.val - 1) / 1 < 8192 by omega,
            show 0 ≤ j.val ∧ (j.val - 0) % 1 = 0 ∧ (j.val - 0) / 1 < 5632 by omega⟩
    · rw [dif_neg, Params.dm, dif_neg h, zero_mul]
      intro H; have h₂ : (2 + r.val - 1) / 1 < 8192 := (H (0 : Fin 2)).2.2; omega
  · by_cases h : r.val + 2 < 8192
    · rw [dif_pos, Params.dm, dif_pos h]
      · simp only [show 2 + r.val = r.val + 2 by omega]; rfl
      · exact Fin.forall_fin_two.2
          ⟨show 0 ≤ 2 + r.val ∧ (2 + r.val - 0) % 1 = 0 ∧ (2 + r.val - 0) / 1 < 8192 by omega,
            show 0 ≤ j.val ∧ (j.val - 0) % 1 = 0 ∧ (j.val - 0) / 1 < 5632 by omega⟩
    · rw [dif_neg, Params.dm, dif_neg h, zero_mul]
      intro H; have h₂ : (2 + r.val - 0) / 1 < 8192 := (H (0 : Fin 2)).2.2; omega

theorem dn (r : Fin 8192) (l : Fin 1024) : @Eq EReal (res_main_v110 (F := Ideal) V (ix2 r l)) ((params V).dn r l) := by
  pointwise [res_main_v110]
  simp only [du]; rfl

theorem dr (r : Fin 8192) (l : Fin 1024) : @Eq EReal (res_main_v126 (F := Ideal) V (ix2 r l)) ((params V).dr r) := by
  pointwise [res_main_v126, res_main_v115, res_main_v26, res_main_v20, res_main_v19]
  simp only [dn, Fintype.sum_unique]; rfl

theorem idx2 {a b : ℕ} (y : (⟨2, ![a, b]⟩ : Shape).Idx) : ∃ s l, y = ix2 s l := ⟨y 0, y 1, eq_ix2 y⟩

theorem idx3 {a b d : ℕ} (y : (⟨3, ![a, b, d]⟩ : Shape).Idx) : ∃ e s l, y = ix3 e s l := ⟨y 0, y 1, y 2, eq_ix3 y⟩

/-- The reference's run: its results, and its arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v131)
        = (fun i : S8192x1024.Idx => (params (launchContents m c)).dx (i 0) (i 1))
      ∧ r.2.mem ((c.tc : Thread nD τ).loc main_v133)
        = (fun i : S1024x8192.Idx => (params (launchContents m c)).n (i 1) (i 0))
      ∧ r.2.mem ((c.tc : Thread nD τ).loc main_v136)
        = (fun i : S8x8192x704.Idx => (params (launchContents m c)).du (i 1) (col (i 0) (i 2)))
      ∧ r.2.mem ((c.tc : Thread nD τ).loc main_v139)
        = (fun i : S4x8192x704.Idx => (params (launchContents m c)).act (i 1) (colHalf (i 0) (i 2)))
      ∧ r.2.mem ((c.tc : Thread nD τ).loc main_v140)
        = (fun i : S8192x1024.Idx => (params (launchContents m c)).X (i 0) (i 1))
      ∧ r.2.mem ((c.tc : Thread nD τ).loc main_v142)
        = (fun i : S8x3x704.Idx => (params (launchContents m c)).dw (i 1) (col (i 0) (i 2)))
      ∧ r.2.mem ((c.tc : Thread nD τ).loc main_v143)
        = (fun i : S8x1x704.Idx => (params (launchContents m c)).db (col (i 0) (i 2)))
      ∧ r.2.mem ((c.tc : Thread nD τ).loc main_v144)
        = (fun i : S1x1024.Idx => (params (launchContents m c)).dg (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ H c => ?_) (Value.run m ρ)
  obtain ⟨h₀, h₁, h₂, h₃, h₄, h₅, h₆, h₇, hs⟩ := H c
  refine ⟨h₀.trans (funext fun i => ?_), h₁.trans (funext fun i => ?_), h₂.trans (funext fun i => ?_),
    h₃.trans (funext fun i => ?_), h₄.trans (funext fun i => ?_), h₅.trans (funext fun i => ?_),
    h₆.trans (funext fun i => ?_), h₇.trans (funext fun i => ?_), hs⟩
  · obtain ⟨r, l, rfl⟩ := idx2 i
    pointwise [res_main_v115, res_main_v20, res_main_v19, res_main_v26]
    simp only [dn, dr]; rfl
  · obtain ⟨r, l, rfl⟩ := idx2 i
    pointwise
    rfl
  · obtain ⟨e, r, k, rfl⟩ := idx3 i
    pointwise
    exact du _ _ _
  · obtain ⟨e, r, k, rfl⟩ := idx3 i
    pointwise
    exact act _ _ _
  · obtain ⟨r, l, rfl⟩ := idx2 i
    pointwise
    rfl
  · obtain ⟨e, u, k, rfl⟩ := idx3 i
    have hk : e.val * 704 + k.val < 5632 := by omega
    pointwise
    simp only [up, up1, up2, dv, Fintype.sum_unique]
    fin_cases u <;> simp [hk, Params.dw, col]
  · obtain ⟨e, u, k, rfl⟩ := idx3 i
    pointwise
    simp only [dv, Fintype.sum_unique]; rfl
  · obtain ⟨u, l, rfl⟩ := idx2 i
    pointwise [res_main_v25, res_main_v20, res_main_v19]
    simp only [dn, Fintype.sum_unique]; rfl

end Cert.Ffn.Ref

end
-- ==== Proof.Sums.lean ====
/- A sum over 8192 rows as two sums over 4096, and whole loads and stores of a buffer. -/
module

public import Idealize.ShloMosaic.Lib.Pointwise
public import Idealize.ShloMosaic.Lib.Pipeline.ValueKit

@[expose] public section

namespace Cert.Ffn

open Idealize.ShloMosaic

/-- The two halves of the rows. -/
theorem sum_halves {M : Type*} [AddCommMonoid M] (f : Fin 8192 → M) :
    ∑ s : Fin 8192, f s = ∑ s : Fin 4096, f ⟨s.val, by omega⟩ + ∑ s : Fin 4096, f ⟨4096 + s.val, by omega⟩ :=
  Fin.sum_univ_add (a := 4096) (b := 4096) f

variable {lay : RefSig} {n a b : ℕ} {e : EltTy}

/-- A load of a whole matrix. -/
theorem whole2 (m : Memref lay .tc .vmem ⟨2, ![a, b]⟩ e) (h : m.IsWhole) (x : Vec Ideal ⟨2, ![a, b]⟩ e)
    (inb : ∀ d, (![0, 0] : Fin 2 → ℕ) d + (![a, b] : Fin 2 → ℕ) d ≤ (![a, b] : Fin 2 → ℕ) d) :
    View.readAt (Elt Ideal) m.view (Rect.unit (s := ⟨2, ![a, b]⟩) ![0, 0] ![a, b] inb).toLoadRect (h.unread x) = x := by
  show (fun j => m.view.read (Elt Ideal) (h.unread x) _) = _
  rw [h.read_unread]
  funext j
  congr 1
  funext d
  fin_cases d <;> apply Fin.ext <;> simp [Rect.unit, Rect.emb]

/-- The same of a rank-3 buffer. -/
theorem whole3 (m : Memref lay .tc .vmem ⟨3, ![n, a, b]⟩ e) (h : m.IsWhole) (x : Vec Ideal ⟨3, ![n, a, b]⟩ e)
    (inb : ∀ d, (![0, 0, 0] : Fin 3 → ℕ) d + (![n, a, b] : Fin 3 → ℕ) d ≤ (![n, a, b] : Fin 3 → ℕ) d) :
    View.readAt (Elt Ideal) m.view (Rect.unit (s := ⟨3, ![n, a, b]⟩) ![0, 0, 0] ![n, a, b] inb).toLoadRect (h.unread x) = x := by
  show (fun j => m.view.read (Elt Ideal) (h.unread x) _) = _
  rw [h.read_unread]
  funext j
  congr 1
  funext d
  fin_cases d <;> apply Fin.ext <;> simp [Rect.unit, Rect.emb]

/-- What a whole store leaves. -/
theorem stored2 (inb : ∀ d, (![0, 0] : Fin 2 → ℕ) d + (![a, b] : Fin 2 → ℕ) d ≤ (![a, b] : Fin 2 → ℕ) d)
    (w : Vec Ideal ⟨2, ![a, b]⟩ e) (L : List (View.Piece (Elt Ideal) ⟨2, ![a, b]⟩ e)) :
    View.canon (⟨Rect.unit (s := ⟨2, ![a, b]⟩) ![0, 0] ![a, b] inb, w⟩ :: L) = w := by
  funext j
  refine Eq.trans ?_ (View.canon_cons_emb (Rect.unit (s := ⟨2, ![a, b]⟩) ![0, 0] ![a, b] inb) w L j)
  congr 1
  funext d
  fin_cases d <;> apply Fin.ext <;> simp [Rect.unit, Rect.emb]

/-- The same of a rank-3 buffer. -/
theorem stored3 (inb : ∀ d, (![0, 0, 0] : Fin 3 → ℕ) d + (![n, a, b] : Fin 3 → ℕ) d ≤ (![n, a, b] : Fin 3 → ℕ) d)
    (w : Vec Ideal ⟨3, ![n, a, b]⟩ e) (L : List (View.Piece (Elt Ideal) ⟨3, ![n, a, b]⟩ e)) :
    View.canon (⟨Rect.unit (s := ⟨3, ![n, a, b]⟩) ![0, 0, 0] ![n, a, b] inb, w⟩ :: L) = w := by
  funext j
  refine Eq.trans ?_ (View.canon_cons_emb (Rect.unit (s := ⟨3, ![n, a, b]⟩) ![0, 0, 0] ![n, a, b] inb) w L j)
  congr 1
  funext d
  fin_cases d <;> apply Fin.ext <;> simp [Rect.unit, Rect.emb]

/-- A load of what was just stored. -/
theorem loaded2 (m : Memref lay .tc .vmem ⟨2, ![a, b]⟩ e)
    (inb : ∀ d, (![0, 0] : Fin 2 → ℕ) d + (![a, b] : Fin 2 → ℕ) d ≤ (![a, b] : Fin 2 → ℕ) d)
    (w : Vec Ideal ⟨2, ![a, b]⟩ e) (L : List (View.Piece (Elt Ideal) ⟨2, ![a, b]⟩ e)) :
    m.view.readCov (⟨Rect.unit (s := ⟨2, ![a, b]⟩) ![0, 0] ![a, b] inb, w⟩ :: L)
      (Rect.unit (s := ⟨2, ![a, b]⟩) ![0, 0] ![a, b] inb).toLoadRect = w := by
  rw [View.readCov_eq_canon', stored2]
  funext j
  show w _ = w j
  congr 1
  funext d
  fin_cases d <;> apply Fin.ext <;> simp [Rect.unit, Rect.emb]

theorem ax2 {p q : ℕ} (y : (⟨2, ![p, q]⟩ : Shape).Idx) : ∃ s l, y = ix2 s l := ⟨y 0, y 1, eq_ix2 y⟩

theorem ax3 {p q r : ℕ} (y : (⟨3, ![p, q, r]⟩ : Shape).Idx) : ∃ u s l, y = ix3 u s l := ⟨y 0, y 1, y 2, eq_ix3 y⟩

end Cert.Ffn

end
-- ==== Proof.Up.lean ====
/- The product that makes the up projection's gradient: the kernel adds the products of the two halves of the rows. -/
module

public import proofs.«01_k».proof.Proof.Sums
public import proofs.«01_k».proof.Proof.Gen.KernelUpIdeal.Value
public import proofs.«01_k».proof.Proof.Gen.ReferenceUpIdeal.Run

@[expose] public section

set_option maxHeartbeats 1000000
set_option maxRecDepth 16384

namespace Cert.Ffn.Up

open Idealize.ShloMosaic Cert.KernelUpIdeal Cert.KernelUpIdeal.Gen

/-- The product of two blocks. -/
noncomputable def prod (x0 : Vec Ideal S1024x4096 .bf16) (x1 : Vec Ideal S1x4096x704 .bf16) (l : Fin 1024) (k : Fin 704) : EReal :=
  ∑ s : Fin 4096, x0 (ix2 l s) * x1 (ix3 0 s k)

section Body

variable (c : Dev nD) (i : grid0.Coords) (arg3 : Memref sig .tc .vmem S1024x4096 .bf16) (harg3 : arg3.IsWhole)
  (arg4 : Memref sig .tc .vmem S1x4096x704 .bf16) (harg4 : arg4.IsWhole) (arg5 : Memref sig .tc .vmem S1x1024x704 .bf16)
  (harg5 : arg5.IsWhole) (arg6 : Memref sig .tc .vmem S1024x704 .f32) (harg6 : arg6.IsWhole)
  (x0 : Vec Ideal S1024x4096 .bf16) (x1 : Vec Ideal S1x4096x704 .bf16)

/-- What is stored in the scratch: the old contents and the product. -/
theorem pay (o : Vec Ideal S1024x704 .f32) (l : Fin 1024) (k : Fin 704) :
    k0_pay2 (F := Ideal) o x0 x1 (ix2 l k) = o (ix2 l k) + prod x0 x1 l k := by
  dsimp only [prod]
  pointwise [k0_pay2]

/-- The first half: the scratch starts at zero. -/
theorem first (hc0 : cond0_0 i) (hc1 : ¬cond0_1 i) (l : Fin 1024) (k : Fin 704) :
    sout0_A_0 (F := Ideal) c i arg3 harg3 arg4 harg4 arg5 harg5 arg6 harg6 hc0 hc1 x0 x1 (ix2 l k)
      = prod x0 x1 l k := by
  rw [sout0_A_0, View.read_writes_junk_eq_canon, kernelRun0_A]
  dsimp only
  refine (congrFun (stored2 _ _ _) _).trans ?_
  refine (pay _ _ _ l k).trans ?_
  rw [whole2 arg3 harg3, whole3 arg4 harg4, kernelRun0_A.sl.v3, kernelRun0_A.sl.HS0_1]
  have h0 : k0_pay1 (F := Ideal) (ix2 l k) = 0 := by
    pointwise [k0_pay1]
  exact (congrArg (· + _) ((congrFun (loaded2 arg6 _ _ _) _).trans h0)).trans (zero_add _)

/-- The second half. -/
theorem second (hc0 : ¬cond0_0 i) (hc1 : cond0_1 i) (xs : Vec Ideal S1024x704 .f32) (l : Fin 1024) (k : Fin 704) :
    out0_B_2 (F := Ideal) c i arg3 harg3 arg4 harg4 arg5 harg5 arg6 harg6 hc0 hc1 x0 x1 xs (ix3 0 l k)
      = xs (ix2 l k) + prod x0 x1 l k := by
  rw [out0_B_2, View.read_writes_junk_eq_canon, kernelRun0_B]
  dsimp only
  refine (congrFun (stored3 _ _ _) _).trans ?_
  have h3 (v : Vec Ideal S1024x704 .f32) : k0_pay3 (F := Ideal) v (ix3 0 l k) = v (ix2 l k) := by
    pointwise [k0_pay3]
  rw [h3, kernelRun0_B.sl.v15, kernelRun0_B.sl.HS0_1]
  refine (congrFun (loaded2 arg6 _ _ _) _).trans ?_
  refine (pay _ _ _ l k).trans ?_
  rw [whole2 arg3 harg3, whole3 arg4 harg4]
  rw [whole2 arg6 harg6]

end Body

variable (m : (ℓ : Loc nD τ sig) → Buf (Elt Ideal) ℓ) (c : Dev nD)

/-- The arguments. -/
noncomputable def A (l : Fin 1024) (s : Fin 8192) : EReal := V m c (Pipeline.arrRef spec0 0) (ix2 l s : S1024x8192.Idx)
noncomputable def B (e : Fin 8) (s : Fin 8192) (k : Fin 704) : EReal := V m c (Pipeline.arrRef spec0 1) (ix3 e s k : S8x8192x704.Idx)

theorem idx : ∀ t : Fin grid0.N, win0_0.index t = ![0, t.val % 2] ∧ win0_1.index t = ![t.val / 2, t.val % 2, 0]
    ∧ win0_2.index t = ![t.val / 2, 0, 0] := by
  decide +kernel

theorem blkA (t : Fin cfg0.N) (l : Fin 1024) (s : Fin 4096) (s' : Fin 8192) (h : s'.val = 4096 * (t.val % 2) + s.val) :
    iblk m c 0 t (ix2 l s) = A m c l s' := by
  dsimp only [A]; blk_ext [iblk, idx t]

theorem blkB (t : Fin cfg0.N) (s : Fin 4096) (k : Fin 704) (e : Fin 8) (he : e.val = t.val / 2) (s' : Fin 8192) (h : s'.val = 4096 * (t.val % 2) + s.val) :
    iblk m c 1 t (ix3 0 s k) = B m c e s' k := by
  dsimp only [B]; blk_ext [iblk, idx t]

/-- A half of the rows at one point. -/
theorem blk (t : Fin cfg0.N) (l : Fin 1024) (k : Fin 704) (e : Fin 8) (he : e.val = t.val / 2) (f : Fin 4096 → Fin 8192)
    (hf : ∀ s, (f s).val = 4096 * (t.val % 2) + s.val) :
    prod (iblk m c 0 t) (iblk m c 1 t) l k = ∑ s : Fin 4096, A m c l (f s) * B m c e (f s) k := by
  dsimp only [prod]
  exact Finset.sum_congr rfl fun s _ => congrArg₂ (fun a b : EReal => a * b) (blkA m c t l s (f s) (hf s)) (blkB m c t s k e he (f s) (hf s))

/-- The scratch after the first half. -/
theorem half (t : Fin cfg0.N) (h : t.val % 2 = 0) (l : Fin 1024) (k : Fin 704) :
    (outsAt0 m c t.val t.isLt).2 (ix2 l k) = prod (iblk m c 0 t) (iblk m c 1 t) l k := by
  rw [outsAt0_A m c t h (by omega)]
  simp only [first]

/-- The result's block after the second half: the whole sum. -/
theorem whole (t : Fin cfg0.N) (h : t.val % 2 = 1) (l : Fin 1024) (k : Fin 704) (e : Fin 8) (he : e.val = t.val / 2) :
    (outsAt0 m c t.val t.isLt).1 (ix3 0 l k) = ∑ s : Fin 8192, A m c l s * B m c e s k := by
  rw [outsAt0_B m c t (by omega) h]
  simp only [second]
  have hp := half m c ⟨t.val - 1, lt_of_le_of_lt (Nat.sub_le _ _) t.isLt⟩ (by dsimp only; omega) l k
  refine (congrArg (fun z : EReal => z + prod (iblk m c 0 t) (iblk m c 1 t) l k) hp).trans ?_
  rw [sum_halves, blk m c t l k e he (fun s => ⟨4096 + s.val, by omega⟩) (fun s => by dsimp only; omega),
    blk m c _ l k e (by dsimp only; omega) (fun s => ⟨s.val, by omega⟩) (fun s => by dsimp only; omega)]

theorem out : (dats m 0 c).arrAt 2 cfg0.N = fun i : S8x1024x704.Idx => ∑ s : Fin 8192, A m c (i 1) s * B m c (i 0) s (i 2) := by
  refine (dats m 0 c).arrAt_eq_of_covers 2 _ (by decide +kernel) fun t hf y => ?_
  have h1 : t.val % 2 = 1 := (flush0_2 t).mp hf
  have ht : t.val < 16 := t.isLt
  blk_simp
  rw [after0_2]
  obtain ⟨u, l, k, rfl⟩ := ax3 y
  obtain rfl : u = 0 := Subsingleton.elim _ _
  refine (whole m c t h1 l k ⟨t.val / 2, by omega⟩ rfl).trans ?_
  refine Finset.sum_congr rfl fun s _ => ?_
  congr 2 <;> apply Fin.ext <;> blk_simp [idx t] <;> (try dsimp only) <;> omega

end Cert.Ffn.Up

/- The reference. -/
namespace Cert.Ffn.UpRef

open Idealize.ShloMosaic Cert.ReferenceUpIdeal

variable (m : (ℓ : Loc nD τ sig) → Buf (Elt Ideal) ℓ) (c : Dev nD)

/-- The arguments. -/
noncomputable def A (l : Fin 1024) (s : Fin 8192) : EReal := m ((c.tc : Thread nD τ).loc main_arg0) (ix2 l s : S1024x8192.Idx)
noncomputable def B (e : Fin 8) (s : Fin 8192) (k : Fin 704) : EReal := m ((c.tc : Thread nD τ).loc main_arg1) (ix3 e s k : S8x8192x704.Idx)

theorem run (ρ : Dev nD → PrngReg) : θ_run defs (onTc (τ := τ) (main (F := Ideal))) ⟨m, fun _ => 0, ρ⟩ fun r => ∀ c : Dev nD,
      r.2.mem ((c.tc : Thread nD τ).loc main_v9) = (fun i : S8x1024x704.Idx => ∑ s : Fin 8192, A m c (i 1) s * B m c (i 0) s (i 2))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans (funext fun i => ?_), (h c).2⟩) (Cert.ReferenceUpIdeal.Value.run m ρ)
  obtain ⟨e, l, k, rfl⟩ := ax3 i
  pointwise
  exact Finset.sum_congr rfl fun s _ => mul_comm _ _

/-- The two programs' arguments are the same. -/
theorem A_eq (m : (ℓ : Loc Cert.KernelUpIdeal.nD Cert.KernelUpIdeal.τ Cert.KernelUpIdeal.sig) → Buf (Elt Ideal) ℓ)
    (m' : (ℓ : Loc nD τ sig) → Buf (Elt Ideal) ℓ) (c : Dev nD)
    (h : m' ((c.tc : Thread nD τ).loc main_arg0) = m ((c.tc : Thread Cert.KernelUpIdeal.nD Cert.KernelUpIdeal.τ).loc Cert.KernelUpIdeal.main_arg0)) :
    A m' c = Cert.Ffn.Up.A m c :=
  funext fun _ => funext fun _ => (congrFun h _).trans (congrFun (Cert.KernelUpIdeal.Gen.V_main_arg0 m c) _).symm

theorem B_eq (m : (ℓ : Loc Cert.KernelUpIdeal.nD Cert.KernelUpIdeal.τ Cert.KernelUpIdeal.sig) → Buf (Elt Ideal) ℓ)
    (m' : (ℓ : Loc nD τ sig) → Buf (Elt Ideal) ℓ) (c : Dev nD)
    (h : m' ((c.tc : Thread nD τ).loc main_arg1) = m ((c.tc : Thread Cert.KernelUpIdeal.nD Cert.KernelUpIdeal.τ).loc Cert.KernelUpIdeal.main_arg1)) :
    B m' c = Cert.Ffn.Up.B m c :=
  funext fun _ => funext fun _ => funext fun _ => (congrFun h _).trans (congrFun (Cert.KernelUpIdeal.Gen.V_main_arg1 m c) _).symm

end Cert.Ffn.UpRef

end
-- ==== Proof.Down.lean ====
/- The product that makes the down projection's gradient: the kernel adds the products of the two halves of the rows. -/
module

public import proofs.«01_k».proof.Proof.Sums
public import proofs.«01_k».proof.Proof.Gen.KernelDownIdeal.Value
public import proofs.«01_k».proof.Proof.Gen.ReferenceDownIdeal.Run

@[expose] public section

set_option maxHeartbeats 1000000
set_option maxRecDepth 16384

namespace Cert.Ffn.Down

open Idealize.ShloMosaic Cert.KernelDownIdeal Cert.KernelDownIdeal.Gen

/-- The product of two blocks. -/
noncomputable def prod (x0 : Vec Ideal S1x4096x704 .bf16) (x1 : Vec Ideal S4096x1024 .bf16) (k : Fin 704) (l : Fin 1024) : EReal :=
  ∑ s : Fin 4096, x0 (ix3 0 s k) * x1 (ix2 s l)

section Body

variable (c : Dev nD) (i : grid0.Coords) (arg3 : Memref sig .tc .vmem S1x4096x704 .bf16) (harg3 : arg3.IsWhole)
  (arg4 : Memref sig .tc .vmem S4096x1024 .bf16) (harg4 : arg4.IsWhole) (arg5 : Memref sig .tc .vmem S704x1024 .bf16)
  (harg5 : arg5.IsWhole) (arg6 : Memref sig .tc .vmem S704x1024 .f32) (harg6 : arg6.IsWhole)
  (x0 : Vec Ideal S1x4096x704 .bf16) (x1 : Vec Ideal S4096x1024 .bf16)

/-- What is stored in the scratch: the old contents and the product. -/
theorem pay (o : Vec Ideal S704x1024 .f32) (k : Fin 704) (l : Fin 1024) :
    k0_pay2 (F := Ideal) o x0 x1 (ix2 k l) = o (ix2 k l) + prod x0 x1 k l := by
  dsimp only [prod]
  pointwise [k0_pay2]

/-- The first half: the scratch starts at zero. -/
theorem first (hc0 : cond0_0 i) (hc1 : ¬cond0_1 i) (k : Fin 704) (l : Fin 1024) :
    sout0_A_0 (F := Ideal) c i arg3 harg3 arg4 harg4 arg5 harg5 arg6 harg6 hc0 hc1 x0 x1 (ix2 k l)
      = prod x0 x1 k l := by
  rw [sout0_A_0, View.read_writes_junk_eq_canon, kernelRun0_A]
  dsimp only
  refine (congrFun (stored2 _ _ _) _).trans ?_
  refine (pay _ _ _ k l).trans ?_
  rw [whole3 arg3 harg3, whole2 arg4 harg4, kernelRun0_A.sl.v3, kernelRun0_A.sl.HS0_1]
  have h0 : k0_pay1 (F := Ideal) (ix2 k l) = 0 := by
    pointwise [k0_pay1]
  exact (congrArg (· + _) ((congrFun (loaded2 arg6 _ _ _) _).trans h0)).trans (zero_add _)

/-- The second half. -/
theorem second (hc0 : ¬cond0_0 i) (hc1 : cond0_1 i) (xs : Vec Ideal S704x1024 .f32) (k : Fin 704) (l : Fin 1024) :
    out0_B_2 (F := Ideal) c i arg3 harg3 arg4 harg4 arg5 harg5 arg6 harg6 hc0 hc1 x0 x1 xs (ix2 k l)
      = xs (ix2 k l) + prod x0 x1 k l := by
  rw [out0_B_2, View.read_writes_junk_eq_canon, kernelRun0_B]
  dsimp only
  refine (congrFun (stored2 _ _ _) _).trans ?_
  have h3 (v : Vec Ideal S704x1024 .f32) : k0_pay3 (F := Ideal) v (ix2 k l) = v (ix2 k l) := by
    pointwise [k0_pay3]
  rw [h3, kernelRun0_B.sl.v15, kernelRun0_B.sl.HS0_1]
  refine (congrFun (loaded2 arg6 _ _ _) _).trans ?_
  refine (pay _ _ _ k l).trans ?_
  rw [whole3 arg3 harg3, whole2 arg4 harg4]
  rw [whole2 arg6 harg6]

end Body

variable (m : (ℓ : Loc nD τ sig) → Buf (Elt Ideal) ℓ) (c : Dev nD)

/-- The arguments. -/
noncomputable def A (e : Fin 4) (s : Fin 8192) (k : Fin 704) : EReal := V m c (Pipeline.arrRef spec0 0) (ix3 e s k : S4x8192x704.Idx)
noncomputable def B (s : Fin 8192) (l : Fin 1024) : EReal := V m c (Pipeline.arrRef spec0 1) (ix2 s l : S8192x1024.Idx)

/-- The block of a row of the result, and the row within it. -/
def block (p : Fin 2816) : Fin 4 := ⟨p.val / 704, by omega⟩
def within (p : Fin 2816) : Fin 704 := ⟨p.val % 704, by omega⟩

theorem idx : ∀ t : Fin grid0.N, win0_0.index t = ![t.val / 2, t.val % 2, 0] ∧ win0_1.index t = ![t.val % 2, 0]
    ∧ win0_2.index t = ![t.val / 2, 0] := by
  decide +kernel

theorem blkA (t : Fin cfg0.N) (s : Fin 4096) (k : Fin 704) (e : Fin 4) (he : e.val = t.val / 2) (s' : Fin 8192) (h : s'.val = 4096 * (t.val % 2) + s.val) :
    iblk m c 0 t (ix3 0 s k) = A m c e s' k := by
  dsimp only [A]; blk_ext [iblk, idx t]

theorem blkB (t : Fin cfg0.N) (s : Fin 4096) (l : Fin 1024) (s' : Fin 8192) (h : s'.val = 4096 * (t.val % 2) + s.val) :
    iblk m c 1 t (ix2 s l) = B m c s' l := by
  dsimp only [B]; blk_ext [iblk, idx t]

/-- A half of the rows at one point. -/
theorem blk (t : Fin cfg0.N) (k : Fin 704) (l : Fin 1024) (e : Fin 4) (he : e.val = t.val / 2) (f : Fin 4096 → Fin 8192)
    (hf : ∀ s, (f s).val = 4096 * (t.val % 2) + s.val) :
    prod (iblk m c 0 t) (iblk m c 1 t) k l = ∑ s : Fin 4096, A m c e (f s) k * B m c (f s) l := by
  dsimp only [prod]
  exact Finset.sum_congr rfl fun s _ => congrArg₂ (fun a b : EReal => a * b) (blkA m c t s k e he (f s) (hf s)) (blkB m c t s l (f s) (hf s))

/-- The scratch after the first half. -/
theorem half (t : Fin cfg0.N) (h : t.val % 2 = 0) (k : Fin 704) (l : Fin 1024) :
    (outsAt0 m c t.val t.isLt).2 (ix2 k l) = prod (iblk m c 0 t) (iblk m c 1 t) k l := by
  rw [outsAt0_A m c t h (by omega)]
  simp only [first]

/-- The result's block after the second half: the whole sum. -/
theorem whole (t : Fin cfg0.N) (h : t.val % 2 = 1) (k : Fin 704) (l : Fin 1024) (e : Fin 4) (he : e.val = t.val / 2) :
    (outsAt0 m c t.val t.isLt).1 (ix2 k l) = ∑ s : Fin 8192, A m c e s k * B m c s l := by
  rw [outsAt0_B m c t (by omega) h]
  simp only [second]
  have hp := half m c ⟨t.val - 1, lt_of_le_of_lt (Nat.sub_le _ _) t.isLt⟩ (by dsimp only; omega) k l
  refine (congrArg (fun z : EReal => z + prod (iblk m c 0 t) (iblk m c 1 t) k l) hp).trans ?_
  rw [sum_halves, blk m c t k l e he (fun s => ⟨4096 + s.val, by omega⟩) (fun s => by dsimp only; omega),
    blk m c _ k l e (by dsimp only; omega) (fun s => ⟨s.val, by omega⟩) (fun s => by dsimp only; omega)]

theorem out : (dats m 0 c).arrAt 2 cfg0.N = fun i : S2816x1024.Idx => ∑ s : Fin 8192, A m c (block (i 0)) s (within (i 0)) * B m c s (i 1) := by
  refine (dats m 0 c).arrAt_eq_of_covers 2 _ (by decide +kernel) fun t hf y => ?_
  have h1 : t.val % 2 = 1 := (flush0_2 t).mp hf
  have ht : t.val < 8 := t.isLt
  blk_simp
  rw [after0_2]
  obtain ⟨k, l, rfl⟩ := ax2 y
  refine (whole m c t h1 k l ⟨t.val / 2, by omega⟩ rfl).trans ?_
  refine Finset.sum_congr rfl fun s _ => ?_
  congr 2 <;> apply Fin.ext <;> (try dsimp only [block, within]) <;> blk_simp [idx t] <;> (try dsimp only) <;> omega

end Cert.Ffn.Down

/- The reference. -/
namespace Cert.Ffn.DownRef

open Idealize.ShloMosaic Cert.ReferenceDownIdeal
open Cert.Ffn.Down (block within)

variable (m : (ℓ : Loc nD τ sig) → Buf (Elt Ideal) ℓ) (c : Dev nD)

/-- The arguments. -/
noncomputable def A (e : Fin 4) (s : Fin 8192) (k : Fin 704) : EReal := m ((c.tc : Thread nD τ).loc main_arg0) (ix3 e s k : S4x8192x704.Idx)
noncomputable def B (s : Fin 8192) (l : Fin 1024) : EReal := m ((c.tc : Thread nD τ).loc main_arg1) (ix2 s l : S8192x1024.Idx)

theorem run (ρ : Dev nD → PrngReg) : θ_run defs (onTc (τ := τ) (main (F := Ideal))) ⟨m, fun _ => 0, ρ⟩ fun r => ∀ c : Dev nD,
      r.2.mem ((c.tc : Thread nD τ).loc main_v6) = (fun i : S2816x1024.Idx => ∑ s : Fin 8192, A m c (block (i 0)) s (within (i 0)) * B m c s (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans (funext fun i => ?_), (h c).2⟩) (Cert.ReferenceDownIdeal.Value.run m ρ)
  obtain ⟨p, l, rfl⟩ := ax2 i
  pointwise
  exact Finset.sum_congr rfl fun s _ => mul_comm _ _

/-- The two programs' arguments are the same. -/
theorem A_eq (m : (ℓ : Loc Cert.KernelDownIdeal.nD Cert.KernelDownIdeal.τ Cert.KernelDownIdeal.sig) → Buf (Elt Ideal) ℓ)
    (m' : (ℓ : Loc nD τ sig) → Buf (Elt Ideal) ℓ) (c : Dev nD)
    (h : m' ((c.tc : Thread nD τ).loc main_arg0) = m ((c.tc : Thread Cert.KernelDownIdeal.nD Cert.KernelDownIdeal.τ).loc Cert.KernelDownIdeal.main_arg0)) :
    A m' c = Cert.Ffn.Down.A m c :=
  funext fun _ => funext fun _ => funext fun _ => (congrFun h _).trans (congrFun (Cert.KernelDownIdeal.Gen.V_main_arg0 m c) _).symm

theorem B_eq (m : (ℓ : Loc Cert.KernelDownIdeal.nD Cert.KernelDownIdeal.τ Cert.KernelDownIdeal.sig) → Buf (Elt Ideal) ℓ)
    (m' : (ℓ : Loc nD τ sig) → Buf (Elt Ideal) ℓ) (c : Dev nD)
    (h : m' ((c.tc : Thread nD τ).loc main_arg1) = m ((c.tc : Thread Cert.KernelDownIdeal.nD Cert.KernelDownIdeal.τ).loc Cert.KernelDownIdeal.main_arg1)) :
    B m' c = Cert.Ffn.Down.B m c :=
  funext fun _ => funext fun _ => (congrFun h _).trans (congrFun (Cert.KernelDownIdeal.Gen.V_main_arg1 m c) _).symm

end Cert.Ffn.DownRef

end
-- ==== Proof.FwdBlock.lean ====
/- The forward pass's kernel: what one block of 256 rows by 704 columns computes, element by element, and that the body's
   eight steps are the same step. -/
module

public import proofs.«01_k».proof.Proof.Gen.KernelFwdIdeal.Skeleton
public import proofs.«01_k».proof.Proof.Reals
public import Idealize.ShloMosaic.Lib.Pointwise

@[expose] public section

namespace Cert.Ffn.Fwd

open Idealize.ShloMosaic Cert.KernelFwdIdeal Cert.KernelFwdIdeal.Gen

/-- The block's up projection, of the normalised activations. -/
theorem hb_apply (H : Vec Ideal S256x1024 .f32) (G : Vec Ideal S1x1024 .f32) (U : Vec Ideal S1x1024x704 .bf16)
    (s : Fin 256) (k : Fin 704) :
    k0_pay3 H G U (ix2 s k) = ∑ l : Fin 1024, H (ix2 s l) * (rrms fun l => H (ix2 s l)) * G (ix2 0 l) * U (ix3 0 l k) := by
  pointwise [k0_pay3, k0_pay2, rrms]

/-- A choice by the test `m < 1` of a small number. -/
theorem select_lt1 {m : ℕ} (hm : m < 8) (x y : EReal) :
    Scalar.select (IntOp.cmpi CmpIPredicate.slt (BitVec.ofNat 32 m) 1#32) x y = if m < 1 then x else y := by
  interval_cases m <;> rfl

/-- A choice by the test `m < 2` of a small number. -/
theorem select_lt2 {m : ℕ} (hm : m < 8) (x y : EReal) :
    Scalar.select (IntOp.cmpi CmpIPredicate.slt (BitVec.ofNat 32 m) 2#32) x y = if m < 2 then x else y := by
  interval_cases m <;> rfl

/-- The rows of a block moved down by one: row `s` holds row `s − 1`, and the first row the last of the eight rows before. -/
theorem down1_apply (a : FVec Ideal S256x704 .f32) (p : Vec Ideal S1x8x704 .f32) (s : Fin 256) (k : Fin 704) :
    k0_pay12 a p (ix2 s k) = if h : 1 ≤ s.val then a (ix2 ⟨s.val - 1, by omega⟩ k) else p (ix3 0 ⟨s.val + 7, by omega⟩ k) := by
  pointwise [k0_pay12, k0_pay10]
  rw [select_lt1 (Nat.mod_lt _ (by norm_num))]
  have hs := s.isLt
  by_cases h1 : s.val % 8 < 1
  · rw [if_pos h1]
    by_cases h2 : s.val / 8 < 1
    · rw [dif_pos h2, dif_neg (by omega)]
      congr 2 <;> apply Fin.ext
      · show s.val / 8 = 0; omega
      · show (s.val % 8 + 8 - 1) % 8 = s.val + 7; omega
    · rw [dif_neg h2, dif_pos (by omega)]
      congr 2; apply Fin.ext; show (s.val / 8 - 1) * 8 + (s.val % 8 + 8 - 1) % 8 = s.val - 1; omega
  · rw [if_neg h1, dif_pos (by omega)]
    congr 2; apply Fin.ext; show s.val / 8 * 8 + (s.val % 8 + 8 - 1) % 8 = s.val - 1; omega

/-- The rows of a block moved down by two. -/
theorem down2_apply (a : FVec Ideal S256x704 .f32) (p : Vec Ideal S1x8x704 .f32) (s : Fin 256) (k : Fin 704) :
    k0_pay37 a p (ix2 s k) = if h : 2 ≤ s.val then a (ix2 ⟨s.val - 2, by omega⟩ k) else p (ix3 0 ⟨s.val + 6, by omega⟩ k) := by
  pointwise [k0_pay37, k0_pay34]
  rw [select_lt2 (Nat.mod_lt _ (by norm_num))]
  have hs := s.isLt
  by_cases h1 : s.val % 8 < 2
  · rw [if_pos h1]
    by_cases h2 : s.val / 8 < 1
    · rw [dif_pos h2, dif_neg (by omega)]
      congr 2 <;> apply Fin.ext
      · show s.val / 8 = 0; omega
      · show (s.val % 8 + 8 - 2) % 8 = s.val + 6; omega
    · rw [dif_neg h2, dif_pos (by omega)]
      congr 2; apply Fin.ext; show (s.val / 8 - 1) * 8 + (s.val % 8 + 8 - 2) % 8 = s.val - 2; omega
  · rw [if_neg h1, dif_pos (by omega)]
    congr 2; apply Fin.ext; show s.val / 8 * 8 + (s.val % 8 + 8 - 2) % 8 = s.val - 2; omega

/-- The convolution of a block. -/
theorem conv_apply (a : FVec Ideal S256x704 .f32) (w : Vec Ideal S1x3x704 .f32) (p : Vec Ideal S1x8x704 .f32)
    (b : Vec Ideal S1x1x704 .f32) (s : Fin 256) (k : Fin 704) :
    k0_pay68 a w p b (ix2 s k) = b (ix3 0 0 k) + w (ix3 0 0 k) * k0_pay37 a p (ix2 s k)
      + w (ix3 0 1 k) * k0_pay12 a p (ix2 s k) + w (ix3 0 2 k) * a (ix2 s k) := by
  pointwise [k0_pay68, k0_pay37, k0_pay34, k0_pay12, k0_pay10]

/-- The gated block times the down weights, added to what the blocks before gave. -/
theorem mix_apply (y : FVec Ideal S256x1024 .f32) (a b : FVec Ideal S256x704 .f32) (w : Vec Ideal S704x1024 .bf16)
    (s : Fin 256) (l : Fin 1024) :
    k0_pay48 y a b w (ix2 s l)
      = y (ix2 s l) + ∑ k : Fin 704, a (ix2 s k) * lgt (a (ix2 s k)) * b (ix2 s k) * w (ix2 k l) := by
  pointwise [k0_pay48, lgt]
  simp only [zero_sub]

/-- What is stored: the up projection, its last eight rows and the convolution. -/
theorem hh_apply (a : FVec Ideal S256x704 .f32) (s : Fin 256) (k : Fin 704) : k0_pay17 a (ix3 0 s k) = a (ix2 s k) := by
  pointwise [k0_pay17]

theorem last_apply (a : FVec Ideal S256x704 .f32) (r : Fin 8) (k : Fin 704) :
    k0_pay26 a (ix3 0 r k) = a (ix2 ⟨248 + r.val, by omega⟩ k) := by
  pointwise [k0_pay26]

theorem cc_apply (a : FVec Ideal S256x704 .f32) (s : Fin 256) (k : Fin 704) : k0_pay71 a (ix3 0 s k) = a (ix2 s k) := by
  pointwise [k0_pay71]

theorem zero_apply (j : S8x8x704.Idx) : k0_pay1 (F := Ideal) j = 0 := by pointwise [k0_pay1]

section Same

variable (H : Vec Ideal S256x1024 .f32) (G : Vec Ideal S1x1024 .f32) (U : Vec Ideal S1x1024x704 .bf16)
  (C : Vec Ideal S1x3x704 .f32) (S : Vec Ideal S1x8x704 .f32) (B : Vec Ideal S1x1x704 .f32) (W : Vec Ideal S704x1024 .bf16)
  (a u : FVec Ideal S256x704 .f32) (y : FVec Ideal S256x1024 .f32)

/- Each later block's up projection is the first block's, of its weights. -/
theorem u4 : k0_pay4 H G U = k0_pay3 H G U := by dsimp only [k0_pay3, k0_pay4]
theorem u1 : k0_pay5 H G U = k0_pay3 H G U := by dsimp only [k0_pay3, k0_pay5]
theorem u5 : k0_pay6 H G U = k0_pay3 H G U := by dsimp only [k0_pay3, k0_pay6]
theorem u2 : k0_pay29 (k0_pay2 H G) U = k0_pay3 H G U := by dsimp only [k0_pay3, k0_pay29]
theorem u6 : k0_pay30 (k0_pay2 H G) U = k0_pay3 H G U := by dsimp only [k0_pay3, k0_pay30]
theorem u3 : k0_pay46 (k0_pay2 H G) U = k0_pay3 H G U := by dsimp only [k0_pay3, k0_pay46]
theorem u7 : k0_pay47 (k0_pay2 H G) U = k0_pay3 H G U := by dsimp only [k0_pay3, k0_pay47]

/- And so what is stored of it. -/
theorem h0 : k0_pay8 (k0_pay7 H G U) = k0_pay17 (k0_pay3 H G U) := by dsimp only [k0_pay7, k0_pay8, k0_pay17]
theorem h1 : k0_pay32 u = k0_pay17 u := by dsimp only [k0_pay32, k0_pay17]
theorem h5 : k0_pay41 u = k0_pay17 u := by dsimp only [k0_pay41, k0_pay17]
theorem h2 : k0_pay49 u = k0_pay17 u := by dsimp only [k0_pay49, k0_pay17]
theorem h6 : k0_pay56 u = k0_pay17 u := by dsimp only [k0_pay56, k0_pay17]
theorem h3 : k0_pay67 u = k0_pay17 u := by dsimp only [k0_pay67, k0_pay17]
theorem h7 : k0_pay72 u = k0_pay17 u := by dsimp only [k0_pay72, k0_pay17]

theorem s0 : k0_pay15 u = k0_pay26 u := by dsimp only [k0_pay15, k0_pay26]
theorem s1 : k0_pay39 u = k0_pay26 u := by dsimp only [k0_pay39, k0_pay26]
theorem s5 : k0_pay44 u = k0_pay26 u := by dsimp only [k0_pay44, k0_pay26]
theorem s2 : k0_pay53 u = k0_pay26 u := by dsimp only [k0_pay53, k0_pay26]
theorem s6 : k0_pay64 u = k0_pay26 u := by dsimp only [k0_pay64, k0_pay26]
theorem s3 : k0_pay70 (k0_pay69 u) = k0_pay26 u := by dsimp only [k0_pay70, k0_pay69, k0_pay26]
theorem s7 : k0_pay79 u = k0_pay26 u := by dsimp only [k0_pay79, k0_pay26]

/- The convolution. -/
theorem c0 : k0_pay14 u (k0_pay9 C) (k0_pay11 u C S B) (k0_pay12 u S) (k0_pay13 C) = k0_pay68 u C S B := by
  dsimp only [k0_pay9, k0_pay10, k0_pay11, k0_pay12, k0_pay13, k0_pay14, k0_pay68]

theorem c4 : k0_pay25 u (k0_pay18 C) (k0_pay19 S) (k0_pay20 B) (k0_pay21 C) (k0_pay22 u) (k0_pay23 u S) k0_pay24
    = k0_pay68 u C S B := by
  dsimp only [k0_pay18, k0_pay19, k0_pay20, k0_pay21, k0_pay22, k0_pay23, k0_pay24, k0_pay25, k0_pay68]

theorem c1 : k0_pay38 u (k0_pay33 C) (k0_pay34 S) (k0_pay35 B) (k0_pay36 C) (k0_pay37 u S) = k0_pay68 u C S B := by
  dsimp only [k0_pay33, k0_pay34, k0_pay35, k0_pay36, k0_pay37, k0_pay38, k0_pay68]

theorem c5 : k0_pay43 u (k0_pay42 C) S B = k0_pay68 u C S B := by dsimp only [k0_pay42, k0_pay43, k0_pay68]

theorem c2 : k0_pay52 u (k0_pay50 C) (k0_pay51 S) B = k0_pay68 u C S B := by
  dsimp only [k0_pay50, k0_pay51, k0_pay52, k0_pay68]

theorem c6 : k0_pay63 u (k0_pay57 C) (k0_pay59 u C S B) (k0_pay60 C) (k0_pay61 u) (k0_pay62 u S)
    (iota .tc S1x8x704 32 [1] iota_S1x8x704_d1_w32) = k0_pay68 u C S B := by
  dsimp only [k0_pay57, k0_pay58, k0_pay59, k0_pay60, k0_pay61, k0_pay62, k0_pay63, k0_pay68]

theorem c7 : k0_pay78 u (k0_pay73 C) (k0_pay74 S) (k0_pay75 u C S B) (k0_pay76 C) (k0_pay77 u) = k0_pay68 u C S B := by
  dsimp only [k0_pay73, k0_pay74, k0_pay75, k0_pay76, k0_pay77, k0_pay78, k0_pay68]

/- What is stored of it. -/
theorem o0 : k0_pay16 u (k0_pay9 C) (k0_pay11 u C S B) (k0_pay12 u S) (k0_pay13 C) = k0_pay71 (k0_pay68 u C S B) := by
  rw [← c0]; dsimp only [k0_pay16, k0_pay71]

theorem o4 : k0_pay27 u (k0_pay18 C) (k0_pay19 S) (k0_pay20 B) (k0_pay21 C) (k0_pay22 u) (k0_pay23 u S) k0_pay24
    = k0_pay71 (k0_pay68 u C S B) := by
  rw [← c4]; dsimp only [k0_pay27, k0_pay71]

theorem o1 : k0_pay40 u (k0_pay33 C) (k0_pay34 S) (k0_pay35 B) (k0_pay36 C) (k0_pay37 u S) = k0_pay71 (k0_pay68 u C S B) := by
  rw [← c1]; dsimp only [k0_pay40, k0_pay71]

theorem o5 : k0_pay45 u = k0_pay71 u := by dsimp only [k0_pay45, k0_pay71]

theorem o2 : k0_pay55 (k0_pay54 u (k0_pay50 C) (k0_pay51 S) B) = k0_pay71 (k0_pay68 u C S B) := by
  rw [← c2]; dsimp only [k0_pay54, k0_pay55, k0_pay71]

theorem o6 : k0_pay65 u (k0_pay57 C) (k0_pay59 u C S B) (k0_pay60 C) (k0_pay61 u) (k0_pay62 u S)
    (iota .tc S1x8x704 32 [1] iota_S1x8x704_d1_w32) = k0_pay71 (k0_pay68 u C S B) := by
  rw [← c6]; dsimp only [k0_pay65, k0_pay71]

theorem o7 : k0_pay80 u (k0_pay73 C) (k0_pay74 S) (k0_pay75 u C S B) (k0_pay76 C) (k0_pay77 u) = k0_pay71 (k0_pay68 u C S B) := by
  rw [← c7]; dsimp only [k0_pay80, k0_pay71]

/- The gated blocks' products. -/
theorem m0 : k0_pay31 y (k0_pay28 u a (k0_pay18 C) (k0_pay19 S) (k0_pay20 B) (k0_pay21 C) (k0_pay22 u) (k0_pay23 u S) k0_pay24) W
    = k0_pay48 y a (k0_pay68 u C S B) W := by
  rw [← c4]; dsimp only [k0_pay28, k0_pay31, k0_pay48]

theorem m2 : k0_pay66 u y a (k0_pay57 C) (k0_pay59 u C S B) (k0_pay60 C) (k0_pay61 u) (k0_pay62 u S)
    (iota .tc S1x8x704 32 [1] iota_S1x8x704_d1_w32) W = k0_pay48 y a (k0_pay68 u C S B) W := by
  rw [← c6]; dsimp only [k0_pay66, k0_pay48]

theorem m3 : k0_pay81 u y a (k0_pay73 C) (k0_pay74 S) (k0_pay75 u C S B) (k0_pay76 C) (k0_pay77 u) W
    = k0_pay48 y a (k0_pay68 u C S B) W := by
  rw [← c7]; dsimp only [k0_pay81, k0_pay48]

end Same

end Cert.Ffn.Fwd

end
-- ==== Proof.FwdBody.lean ====
/- One run of the forward kernel's body over the slabs that it loads, and what it leaves as formulas over the entries of the
   arrays it is given: `x0` the activations, `x1` the gain, `x2` the up weights, `x3` and `x4` the convolution's weights and
   bias, `x5` the down weights, and `sh` the last eight rows of the up projection of the tile before. -/
module

public import proofs.«01_k».proof.Proof.FwdBlock
public import proofs.«01_k».proof.Proof.Loads

@[expose] public section

namespace Cert.Ffn.Fwd

open Idealize.ShloMosaic Cert.KernelFwdIdeal Cert.KernelFwdIdeal.Gen

section Tile

variable (x0 : Vec Ideal S256x1024 .f32) (x1 : Vec Ideal S1x1024 .f32) (x2 : Vec Ideal S8x1024x704 .bf16)
  (x3 : Vec Ideal S8x3x704 .f32) (x4 : Vec Ideal S8x1x704 .f32) (x5 : Vec Ideal S2816x1024 .bf16)
  (sh : Vec Ideal S8x8x704 .f32)

/-- The up projection of a row of the tile. -/
noncomputable def tU (e : Fin 8) (s : Fin 256) (k : Fin 704) : EReal :=
  ∑ l : Fin 1024, x0 (ix2 s l) * (rrms fun l => x0 (ix2 s l)) * x1 (ix2 0 l) * x2 (ix3 e l k)

/-- The row `j` rows before, for `j ≤ 8`: of the tile, or of the rows before it. -/
noncomputable def tP (j : ℕ) (hj : j ≤ 8) (e : Fin 8) (s : Fin 256) (k : Fin 704) : EReal :=
  if h : j ≤ s.val then tU x0 x1 x2 e ⟨s.val - j, by omega⟩ k else sh (ix3 e ⟨s.val + 8 - j, by omega⟩ k)

/-- The convolution. -/
noncomputable def tC (e : Fin 8) (s : Fin 256) (k : Fin 704) : EReal :=
  x4 (ix3 e 0 k) + x3 (ix3 e 0 k) * tP x0 x1 x2 sh 2 (by norm_num) e s k
    + x3 (ix3 e 1 k) * tP x0 x1 x2 sh 1 (by norm_num) e s k + x3 (ix3 e 2 k) * tU x0 x1 x2 e s k

/-- A gated block's part of the result. -/
noncomputable def tM (d : Fin 4) (s : Fin 256) (l : Fin 1024) : EReal :=
  ∑ k : Fin 704, tC x0 x1 x2 x3 x4 sh ⟨d.val, by omega⟩ s k * lgt (tC x0 x1 x2 x3 x4 sh ⟨d.val, by omega⟩ s k)
    * tC x0 x1 x2 x3 x4 sh ⟨4 + d.val, by omega⟩ s k * x5 (ix2 (⟨704 * d.val + k.val, by omega⟩ : Fin 2816) l)

/-- The result. -/
noncomputable def tO (s : Fin 256) (l : Fin 1024) : EReal :=
  x0 (ix2 s l) + ∑ d : Fin 4, tM x0 x1 x2 x3 x4 x5 sh d s l

end Tile

/-- What one run loads. -/
structure Slabs where
  H : Vec Ideal S256x1024 .f32
  G : Vec Ideal S1x1024 .f32
  U : Fin 8 → Vec Ideal S1x1024x704 .bf16
  C : Fin 8 → Vec Ideal S1x3x704 .f32
  B : Fin 8 → Vec Ideal S1x1x704 .f32
  W : Fin 4 → Vec Ideal S704x1024 .bf16
  S : Fin 8 → Vec Ideal S1x8x704 .f32

namespace Slabs

variable (σ : Slabs)

/-- A block's up projection and its convolution. -/
noncomputable def hb (e : Fin 8) : FVec Ideal S256x704 .f32 := k0_pay3 σ.H σ.G (σ.U e)

noncomputable def cv (e : Fin 8) : FVec Ideal S256x704 .f32 := k0_pay68 (σ.hb e) (σ.C e) (σ.S e) (σ.B e)

/-- What each output's pieces hold, newest first. -/
noncomputable def o6 : Vec Ideal S256x1024 .f32 :=
  k0_pay48 (k0_pay48 (k0_pay48 (k0_pay48 σ.H (σ.cv 0) (σ.cv 4) (σ.W 0)) (σ.cv 1) (σ.cv 5) (σ.W 1)) (σ.cv 2) (σ.cv 6) (σ.W 2))
    (σ.cv 3) (σ.cv 7) (σ.W 3)

noncomputable def o7 : List (View.Piece (Elt Ideal) S8x256x704 .bf16) :=
  slabs [7, 3, 6, 2, 5, 1, 4, 0] fun e => k0_pay17 (σ.hb e)

noncomputable def o8 : List (View.Piece (Elt Ideal) S8x256x704 .bf16) :=
  slabs [7, 3, 6, 2, 5, 1, 4, 0] fun e => k0_pay71 (σ.cv e)

noncomputable def os : List (View.Piece (Elt Ideal) S8x8x704 .f32) :=
  slabs [7, 3, 6, 2, 5, 1, 4, 0] fun e => k0_pay26 (σ.hb e)

/-- The slabs are the ones of these arrays. -/
structure Of (x0 : Vec Ideal S256x1024 .f32) (x1 : Vec Ideal S1x1024 .f32) (x2 : Vec Ideal S8x1024x704 .bf16)
    (x3 : Vec Ideal S8x3x704 .f32) (x4 : Vec Ideal S8x1x704 .f32) (x5 : Vec Ideal S2816x1024 .bf16)
    (sh : Vec Ideal S8x8x704 .f32) : Prop where
  H : σ.H = x0
  G : σ.G = x1
  U : ∀ e l k, σ.U e (ix3 0 l k) = x2 (ix3 e l k)
  C : ∀ e u k, σ.C e (ix3 0 u k) = x3 (ix3 e u k)
  B : ∀ e k, σ.B e (ix3 0 0 k) = x4 (ix3 e 0 k)
  W : ∀ d k l, σ.W d (ix2 k l) = x5 (ix2 (⟨704 * d.val + k.val, by omega⟩ : Fin 2816) l)
  S : ∀ e r k, σ.S e (ix3 0 r k) = sh (ix3 e r k)

variable {σ} {x0 : Vec Ideal S256x1024 .f32} {x1 : Vec Ideal S1x1024 .f32} {x2 : Vec Ideal S8x1024x704 .bf16}
  {x3 : Vec Ideal S8x3x704 .f32} {x4 : Vec Ideal S8x1x704 .f32} {x5 : Vec Ideal S2816x1024 .bf16}
  {sh : Vec Ideal S8x8x704 .f32} (h : σ.Of x0 x1 x2 x3 x4 x5 sh)

include h

theorem Of.hb (e : Fin 8) (s : Fin 256) (k : Fin 704) : σ.hb e (ix2 s k) = tU x0 x1 x2 e s k := by
  rw [Slabs.hb, hb_apply, h.H, h.G, tU]
  exact Finset.sum_congr rfl fun l _ => congrArg _ (h.U e l k)

theorem Of.cv (e : Fin 8) (s : Fin 256) (k : Fin 704) : σ.cv e (ix2 s k) = tC x0 x1 x2 x3 x4 sh e s k := by
  rw [Slabs.cv, conv_apply, down2_apply, down1_apply, h.B, h.C, h.C, h.C, tC, tP, tP]
  simp only [h.hb, h.S]
  rfl

theorem Of.mix (d : Fin 4) (y : FVec Ideal S256x1024 .f32) (s : Fin 256) (l : Fin 1024) :
    k0_pay48 y (σ.cv ⟨d.val, by omega⟩) (σ.cv ⟨4 + d.val, by omega⟩) (σ.W d) (ix2 s l)
      = y (ix2 s l) + tM x0 x1 x2 x3 x4 x5 sh d s l := by
  rw [mix_apply, tM]
  simp only [h.cv, h.W]

theorem Of.o6 (s : Fin 256) (l : Fin 1024) : σ.o6 (ix2 s l) = tO x0 x1 x2 x3 x4 x5 sh s l := by
  refine (h.mix 3 _ s l).trans ?_
  rw [tO, Fin.sum_univ_four, ← add_assoc, ← add_assoc, ← add_assoc]
  refine congrArg (· + _) ((h.mix 2 _ s l).trans (congrArg (· + _) ((h.mix 1 _ s l).trans (congrArg (· + _) ((h.mix 0 _ s l).trans ?_)))))
  rw [h.H]

theorem Of.o7 (L : List (View.Piece (Elt Ideal) S8x256x704 .bf16)) (e : Fin 8) (s : Fin 256) (k : Fin 704) :
    View.canon (σ.o7 ++ L) (ix3 e s k) = tU x0 x1 x2 e s k := by
  rw [Slabs.o7, canon_slabs e (by revert e; decide) s k, hh_apply, h.hb]

theorem Of.o8 (L : List (View.Piece (Elt Ideal) S8x256x704 .bf16)) (e : Fin 8) (s : Fin 256) (k : Fin 704) :
    View.canon (σ.o8 ++ L) (ix3 e s k) = tC x0 x1 x2 x3 x4 sh e s k := by
  rw [Slabs.o8, canon_slabs e (by revert e; decide) s k, cc_apply, h.cv]

theorem Of.os (L : List (View.Piece (Elt Ideal) S8x8x704 .f32)) (e : Fin 8) (r : Fin 8) (k : Fin 704) :
    View.canon (σ.os ++ L) (ix3 e r k) = tU x0 x1 x2 e ⟨248 + r.val, by omega⟩ k := by
  rw [Slabs.os, canon_slabs e (by revert e; decide) r k, last_apply, h.hb]

end Slabs

/-- What one run of the body leaves in its outputs and in the scratch. -/
structure Made (x0 : Vec Ideal S256x1024 .f32) (x1 : Vec Ideal S1x1024 .f32) (x2 : Vec Ideal S8x1024x704 .bf16)
    (x3 : Vec Ideal S8x3x704 .f32) (x4 : Vec Ideal S8x1x704 .f32) (x5 : Vec Ideal S2816x1024 .bf16)
    (sh : Vec Ideal S8x8x704 .f32) (y6 : Vec Ideal S256x1024 .f32) (y7 y8 : Vec Ideal S8x256x704 .bf16)
    (ys : Vec Ideal S8x8x704 .f32) : Prop where
  o (s : Fin 256) (l : Fin 1024) : y6 (ix2 s l) = tO x0 x1 x2 x3 x4 x5 sh s l
  hh (e : Fin 8) (s : Fin 256) (k : Fin 704) : y7 (ix3 e s k) = tU x0 x1 x2 e s k
  cc (e : Fin 8) (s : Fin 256) (k : Fin 704) : y8 (ix3 e s k) = tC x0 x1 x2 x3 x4 sh e s k
  sc (e : Fin 8) (r : Fin 8) (k : Fin 704) : ys (ix3 e r k) = tU x0 x1 x2 e ⟨248 + r.val, by omega⟩ k

end Cert.Ffn.Fwd

end
-- ==== Proof.FwdRun.lean ====
/- What the forward kernel's body leaves in each output and in the scratch, from the blocks it is given: at the first grid
   point, where it first stores zeros in the scratch, and at the others, where the scratch holds what the point before left. -/
module

public import proofs.«01_k».proof.Proof.FwdBody
public import proofs.«01_k».proof.Proof.Gen.KernelFwdIdeal.Frame

@[expose] public section

set_option maxHeartbeats 4000000

namespace Cert.Ffn.Fwd

open Idealize.ShloMosaic Cert.KernelFwdIdeal Cert.KernelFwdIdeal.Gen

variable (c : Dev nD) (i : grid0.Coords) (arg1 : Memref sig .tc .vmem S256x1024 .f32) (harg1 : arg1.IsWhole)
  (arg2 : Memref sig .tc .vmem S1x1024 .f32) (harg2 : arg2.IsWhole) (arg3 : Memref sig .tc .vmem S8x1024x704 .bf16)
  (harg3 : arg3.IsWhole) (arg4 : Memref sig .tc .vmem S8x3x704 .f32) (harg4 : arg4.IsWhole)
  (arg5 : Memref sig .tc .vmem S8x1x704 .f32) (harg5 : arg5.IsWhole) (arg6 : Memref sig .tc .vmem S2816x1024 .bf16)
  (harg6 : arg6.IsWhole) (arg7 : Memref sig .tc .vmem S256x1024 .f32) (harg7 : arg7.IsWhole)
  (arg8 : Memref sig .tc .vmem S8x256x704 .bf16) (harg8 : arg8.IsWhole) (arg9 : Memref sig .tc .vmem S8x256x704 .bf16)
  (harg9 : arg9.IsWhole) (arg10 : Memref sig .tc .vmem S8x8x704 .f32) (harg10 : arg10.IsWhole)
  (x0 : Vec Ideal S256x1024 .f32) (x1 : Vec Ideal S1x1024 .f32) (x2 : Vec Ideal S8x1024x704 .bf16)
  (x3 : Vec Ideal S8x3x704 .f32) (x4 : Vec Ideal S8x1x704 .f32) (x5 : Vec Ideal S2816x1024 .bf16)

namespace First

/-- The slabs that the body loads. -/
noncomputable def loads : Slabs where
  H := View.readAt (Elt Ideal) arg1.view (Rect.unit ![0, 0] S256x1024.size inb_S256x1024_S256x1024_0_0).toLoadRect (harg1.unread x0)
  G := View.readAt (Elt Ideal) arg2.view (Rect.unit ![0, 0] S1x1024.size inb_S1x1024_S1x1024_0_0).toLoadRect (harg2.unread x1)
  U e := View.readAt (Elt Ideal) arg3.view (Rect.unit (s := S8x1024x704) ![e.val, 0, 0] ![1, 1024, 704]
    (fun a => by have := e.isLt; fin_cases a <;> simp <;> omega)).toLoadRect (harg3.unread x2)
  C e := View.readAt (Elt Ideal) arg4.view (Rect.unit (s := S8x3x704) ![e.val, 0, 0] ![1, 3, 704]
    (fun a => by have := e.isLt; fin_cases a <;> simp <;> omega)).toLoadRect (harg4.unread x3)
  B e := View.readAt (Elt Ideal) arg5.view (Rect.unit (s := S8x1x704) ![e.val, 0, 0] ![1, 1, 704]
    (fun a => by have := e.isLt; fin_cases a <;> simp <;> omega)).toLoadRect (harg5.unread x4)
  W d := View.readAt (Elt Ideal) arg6.view (Rect.unit (s := S2816x1024) ![704 * d.val, 0] ![704, 1024]
    (fun a => by have := d.isLt; fin_cases a <;> simp <;> omega)).toLoadRect (harg6.unread x5)
  S := ![
    kernelRun0_A.sl.v37 c arg10,
    kernelRun0_A.sl.v171 c arg1 harg1 arg2 harg2 arg3 harg3 arg10 x0 x1 x2,
    kernelRun0_A.sl.v305 c arg1 harg1 arg2 harg2 arg3 harg3 arg10 x0 x1 x2,
    kernelRun0_A.sl.v433 c arg1 harg1 arg2 harg2 arg3 harg3 arg10 x0 x1 x2,
    kernelRun0_A.sl.v94 c arg1 harg1 arg2 harg2 arg3 harg3 arg10 x0 x1 x2,
    kernelRun0_A.sl.v228 c arg1 harg1 arg2 harg2 arg3 harg3 arg10 x0 x1 x2,
    kernelRun0_A.sl.v362 c arg1 harg1 arg2 harg2 arg3 harg3 arg10 x0 x1 x2,
    kernelRun0_A.sl.v490 c arg1 harg1 arg2 harg2 arg3 harg3 arg10 x0 x1 x2]

/-- The rows before the first tile are the zeros that the body stores first: the slabs stored since then are others. -/
theorem before_zero (e : Fin 8) (r : Fin 8) (k : Fin 704) : (loads c arg1 harg1 arg2 harg2 arg3 harg3 arg4 harg4 arg5 harg5 arg6 harg6 arg10 x0 x1 x2 x3 x4 x5).S e (ix3 0 r k) = 0 := by
  fin_cases e <;> dsimp only [loads, Matrix.cons_val] <;> simp only [kernelRun0_A.sl.v37, kernelRun0_A.sl.v171, kernelRun0_A.sl.v305, kernelRun0_A.sl.v433, kernelRun0_A.sl.v94, kernelRun0_A.sl.v228, kernelRun0_A.sl.v362, kernelRun0_A.sl.v490] <;>
    refine Eq.trans (cov3 arg10 _ _ (by decide) r k (by omega)) ?_ <;>
    simp only [kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, canon_slab] <;>
    simp [canon_whole3, zero_apply]

theorem loads_of : (loads c arg1 harg1 arg2 harg2 arg3 harg3 arg4 harg4 arg5 harg5 arg6 harg6 arg10 x0 x1 x2 x3 x4 x5).Of x0 x1 x2 x3 x4 x5 (fun _ => 0) where
  H := rd2_full arg1 harg1 x0 _
  G := rd2_full arg2 harg2 x1 _
  U e l k := rd3_slab arg3 harg3 x2 _ e.isLt l k
  C e u k := rd3_slab arg4 harg4 x3 _ e.isLt u k
  B e k := rd3_slab arg5 harg5 x4 _ e.isLt 0 k
  W d k l := rd2 arg6 harg6 x5 _ k l _
  S e r k := before_zero c arg1 harg1 arg2 harg2 arg3 harg3 arg4 harg4 arg5 harg5 arg6 harg6 arg10 x0 x1 x2 x3 x4 x5 e r k

set_option maxRecDepth 4096 in
/-- The pieces that the body stores are those of `Slabs`, of the slabs that it loads. -/
theorem pieces (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5).1 = [⟨Rect.unit ![0, 0] S256x1024.size inb_S256x1024_S256x1024_0_0, (loads c arg1 harg1 arg2 harg2 arg3 harg3 arg4 harg4 arg5 harg5 arg6 harg6 arg10 x0 x1 x2 x3 x4 x5).o6⟩]
    ∧ (kernelRun0_A c i arg1 harg1 arg2 harg2 arg3 harg3 arg4 harg4 arg5 harg5 arg6 harg6 arg7 harg7 arg8 harg8 arg9 harg9 arg10 harg10 hc0 x0 x1 x2 x3 x4 x5).2.1 = (loads c arg1 harg1 arg2 harg2 arg3 harg3 arg4 harg4 arg5 harg5 arg6 harg6 arg10 x0 x1 x2 x3 x4 x5).o7
    ∧ (kernelRun0_A c i arg1 harg1 arg2 harg2 arg3 harg3 arg4 harg4 arg5 harg5 arg6 harg6 arg7 harg7 arg8 harg8 arg9 harg9 arg10 harg10 hc0 x0 x1 x2 x3 x4 x5).2.2.1 = (loads c arg1 harg1 arg2 harg2 arg3 harg3 arg4 harg4 arg5 harg5 arg6 harg6 arg10 x0 x1 x2 x3 x4 x5).o8
    ∧ (kernelRun0_A c i arg1 harg1 arg2 harg2 arg3 harg3 arg4 harg4 arg5 harg5 arg6 harg6 arg7 harg7 arg8 harg8 arg9 harg9 arg10 harg10 hc0 x0 x1 x2 x3 x4 x5).2.2.2.1 = (loads c arg1 harg1 arg2 harg2 arg3 harg3 arg4 harg4 arg5 harg5 arg6 harg6 arg10 x0 x1 x2 x3 x4 x5).os ++ [⟨Rect.unit ![0, 0, 0] S8x8x704.size inb_S8x8x704_S8x8x704_0_0_0, k0_pay1 (F := Ideal)⟩] := by
  refine ⟨?_, ?_, ?_, ?_⟩ <;> dsimp only [kernelRun0_A] <;> simp only [
    kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44,
    kernelRun0_A.sl.r_45, kernelRun0_A.sl.r_46, kernelRun0_A.sl.r_47, kernelRun0_A.sl.r_48, kernelRun0_A.sl.r_49,
    kernelRun0_A.sl.r_50, kernelRun0_A.sl.v391, kernelRun0_A.sl.HS0_1, kernelRun0_A.sl.HS0_2, kernelRun0_A.sl.HS0_3,
    kernelRun0_A.sl.HS0_4, kernelRun0_A.sl.HS0_5, kernelRun0_A.sl.HS0_6, kernelRun0_A.sl.HS0_7, kernelRun0_A.sl.HS0_8,
    u4, u1, u5, u2, u6, u3, u7, h0, h1, h5, h2, h6, h3, h7, s0, s1, s5, s2, s6, s3, s7,
    c0, c4, c1, c5, c2, c6, c7, o0, o4, o1, o5, o2, o6, o7, m0, m2, m3,
    Slabs.o6, Slabs.o7, Slabs.o8, Slabs.os, Slabs.cv, Slabs.hb, slabs, piece, List.map_cons, List.map_nil, loads,
    Matrix.cons_val, Matrix.cons_val_zero, Matrix.cons_val_one, List.cons_append, List.nil_append] <;>
    rfl

/-- What the body leaves in the outputs and in the scratch. -/
theorem made (hc0 : cond0_0 i) : Made x0 x1 x2 x3 x4 x5 (fun _ => 0) (out0_A_6 c i arg1 harg1 arg2 harg2 arg3 harg3 arg4 harg4 arg5 harg5 arg6 harg6 arg7 harg7 arg8 harg8 arg9 harg9 arg10 harg10 hc0 x0 x1 x2 x3 x4 x5)
    (out0_A_7 c i arg1 harg1 arg2 harg2 arg3 harg3 arg4 harg4 arg5 harg5 arg6 harg6 arg7 harg7 arg8 harg8 arg9 harg9 arg10 harg10 hc0 x0 x1 x2 x3 x4 x5)
    (out0_A_8 c i arg1 harg1 arg2 harg2 arg3 harg3 arg4 harg4 arg5 harg5 arg6 harg6 arg7 harg7 arg8 harg8 arg9 harg9 arg10 harg10 hc0 x0 x1 x2 x3 x4 x5)
    (sout0_A_0 c i arg1 harg1 arg2 harg2 arg3 harg3 arg4 harg4 arg5 harg5 arg6 harg6 arg7 harg7 arg8 harg8 arg9 harg9 arg10 harg10 hc0 x0 x1 x2 x3 x4 x5) := by
  have h := loads_of c arg1 harg1 arg2 harg2 arg3 harg3 arg4 harg4 arg5 harg5 arg6 harg6 arg10 x0 x1 x2 x3 x4 x5
  obtain ⟨p6, p7, p8, ps⟩ := pieces c i arg1 harg1 arg2 harg2 arg3 harg3 arg4 harg4 arg5 harg5 arg6 harg6 arg7 harg7 arg8 harg8 arg9 harg9 arg10 harg10 x0 x1 x2 x3 x4 x5 hc0
  constructor
  · intro s l
    rw [out0_A_6, View.read_writes_junk_eq_canon, p6, canon_whole2]
    exact h.o6 s l
  · intro e s k
    rw [out0_A_7, View.read_writes_junk_eq_canon, p7, ← List.append_nil (Slabs.o7 _)]
    exact h.o7 _ e s k
  · intro e s k
    rw [out0_A_8, View.read_writes_junk_eq_canon, p8, ← List.append_nil (Slabs.o8 _)]
    exact h.o8 _ e s k
  · intro e r k
    rw [sout0_A_0, View.read_writes_junk_eq_canon, ps]
    exact h.os _ e r k

end First

namespace Rest

variable (xs0 : Vec Ideal S8x8x704 .f32)

/-- The slabs that the body loads. -/
noncomputable def loads : Slabs where
  H := View.readAt (Elt Ideal) arg1.view (Rect.unit ![0, 0] S256x1024.size inb_S256x1024_S256x1024_0_0).toLoadRect (harg1.unread x0)
  G := View.readAt (Elt Ideal) arg2.view (Rect.unit ![0, 0] S1x1024.size inb_S1x1024_S1x1024_0_0).toLoadRect (harg2.unread x1)
  U e := View.readAt (Elt Ideal) arg3.view (Rect.unit (s := S8x1024x704) ![e.val, 0, 0] ![1, 1024, 704]
    (fun a => by have := e.isLt; fin_cases a <;> simp <;> omega)).toLoadRect (harg3.unread x2)
  C e := View.readAt (Elt Ideal) arg4.view (Rect.unit (s := S8x3x704) ![e.val, 0, 0] ![1, 3, 704]
    (fun a => by have := e.isLt; fin_cases a <;> simp <;> omega)).toLoadRect (harg4.unread x3)
  B e := View.readAt (Elt Ideal) arg5.view (Rect.unit (s := S8x1x704) ![e.val, 0, 0] ![1, 1, 704]
    (fun a => by have := e.isLt; fin_cases a <;> simp <;> omega)).toLoadRect (harg5.unread x4)
  W d := View.readAt (Elt Ideal) arg6.view (Rect.unit (s := S2816x1024) ![704 * d.val, 0] ![704, 1024]
    (fun a => by have := d.isLt; fin_cases a <;> simp <;> omega)).toLoadRect (harg6.unread x5)
  S e := View.readAt (Elt Ideal) arg10.view (Rect.unit (s := S8x8x704) ![e.val, 0, 0] ![1, 8, 704]
    (fun a => by have := e.isLt; fin_cases a <;> simp <;> omega)).toLoadRect (harg10.unread xs0)

theorem loads_of : (loads arg1 harg1 arg2 harg2 arg3 harg3 arg4 harg4 arg5 harg5 arg6 harg6 arg10 harg10 x0 x1 x2 x3 x4 x5 xs0).Of x0 x1 x2 x3 x4 x5 xs0 where
  H := rd2_full arg1 harg1 x0 _
  G := rd2_full arg2 harg2 x1 _
  U e l k := rd3_slab arg3 harg3 x2 _ e.isLt l k
  C e u k := rd3_slab arg4 harg4 x3 _ e.isLt u k
  B e k := rd3_slab arg5 harg5 x4 _ e.isLt 0 k
  W d k l := rd2 arg6 harg6 x5 _ k l _
  S e r k := rd3_slab arg10 harg10 xs0 _ e.isLt r k

set_option maxRecDepth 4096 in
/-- The pieces that the body stores are those of `Slabs`, of the slabs that it loads. -/
theorem pieces (hc0 : ¬cond0_0 i) :
    (kernelRun0_B c i arg1 harg1 arg2 harg2 arg3 harg3 arg4 harg4 arg5 harg5 arg6 harg6 arg7 harg7 arg8 harg8 arg9 harg9 arg10 harg10 hc0 x0 x1 x2 x3 x4 x5 xs0).1 = [⟨Rect.unit ![0, 0] S256x1024.size inb_S256x1024_S256x1024_0_0, (loads arg1 harg1 arg2 harg2 arg3 harg3 arg4 harg4 arg5 harg5 arg6 harg6 arg10 harg10 x0 x1 x2 x3 x4 x5 xs0).o6⟩]
    ∧ (kernelRun0_B c i arg1 harg1 arg2 harg2 arg3 harg3 arg4 harg4 arg5 harg5 arg6 harg6 arg7 harg7 arg8 harg8 arg9 harg9 arg10 harg10 hc0 x0 x1 x2 x3 x4 x5 xs0).2.1 = (loads arg1 harg1 arg2 harg2 arg3 harg3 arg4 harg4 arg5 harg5 arg6 harg6 arg10 harg10 x0 x1 x2 x3 x4 x5 xs0).o7
    ∧ (kernelRun0_B c i arg1 harg1 arg2 harg2 arg3 harg3 arg4 harg4 arg5 harg5 arg6 harg6 arg7 harg7 arg8 harg8 arg9 harg9 arg10 harg10 hc0 x0 x1 x2 x3 x4 x5 xs0).2.2.1 = (loads arg1 harg1 arg2 harg2 arg3 harg3 arg4 harg4 arg5 harg5 arg6 harg6 arg10 harg10 x0 x1 x2 x3 x4 x5 xs0).o8
    ∧ (kernelRun0_B c i arg1 harg1 arg2 harg2 arg3 harg3 arg4 harg4 arg5 harg5 arg6 harg6 arg7 harg7 arg8 harg8 arg9 harg9 arg10 harg10 hc0 x0 x1 x2 x3 x4 x5 xs0).2.2.2.1 = (loads arg1 harg1 arg2 harg2 arg3 harg3 arg4 harg4 arg5 harg5 arg6 harg6 arg10 harg10 x0 x1 x2 x3 x4 x5 xs0).os := by
  refine ⟨?_, ?_, ?_, ?_⟩ <;> dsimp only [kernelRun0_B] <;> simp only [
    kernelRun0_B.sl.r, kernelRun0_B.sl.r_1, kernelRun0_B.sl.r_2, kernelRun0_B.sl.r_3, kernelRun0_B.sl.r_4,
    kernelRun0_B.sl.r_5, kernelRun0_B.sl.r_6, kernelRun0_B.sl.r_7, kernelRun0_B.sl.r_8, kernelRun0_B.sl.r_9,
    kernelRun0_B.sl.r_10, kernelRun0_B.sl.r_11, kernelRun0_B.sl.r_12, kernelRun0_B.sl.r_13, kernelRun0_B.sl.r_14,
    kernelRun0_B.sl.r_15, kernelRun0_B.sl.r_16, kernelRun0_B.sl.r_17, kernelRun0_B.sl.r_18, kernelRun0_B.sl.r_19,
    kernelRun0_B.sl.r_20, kernelRun0_B.sl.r_21, kernelRun0_B.sl.r_22, kernelRun0_B.sl.r_23, kernelRun0_B.sl.r_24,
    kernelRun0_B.sl.r_25, kernelRun0_B.sl.r_26, kernelRun0_B.sl.r_27, kernelRun0_B.sl.r_28, kernelRun0_B.sl.r_29,
    kernelRun0_B.sl.r_30, kernelRun0_B.sl.r_31, kernelRun0_B.sl.r_32, kernelRun0_B.sl.r_33, kernelRun0_B.sl.r_34,
    kernelRun0_B.sl.r_35, kernelRun0_B.sl.r_36, kernelRun0_B.sl.r_37, kernelRun0_B.sl.r_38, kernelRun0_B.sl.r_39,
    kernelRun0_B.sl.r_40, kernelRun0_B.sl.r_41, kernelRun0_B.sl.r_42, kernelRun0_B.sl.r_43, kernelRun0_B.sl.r_44,
    kernelRun0_B.sl.r_45, kernelRun0_B.sl.r_46, kernelRun0_B.sl.r_47, kernelRun0_B.sl.r_48, kernelRun0_B.sl.r_49,
    kernelRun0_B.sl.r_50, kernelRun0_B.sl.v391, kernelRun0_B.sl.v171, kernelRun0_B.sl.v305, kernelRun0_B.sl.v433,
    kernelRun0_B.sl.v94, kernelRun0_B.sl.v228, kernelRun0_B.sl.v362, kernelRun0_B.sl.v490,
    u4, u1, u5, u2, u6, u3, u7, h0, h1, h5, h2, h6, h3, h7, s0, s1, s5, s2, s6, s3, s7,
    c0, c4, c1, c5, c2, c6, c7, o0, o4, o1, o5, o2, o6, o7, m0, m2, m3,
    Slabs.o6, Slabs.o7, Slabs.o8, Slabs.os, Slabs.cv, Slabs.hb, slabs, piece, List.map_cons, List.map_nil, loads,
    Matrix.cons_val, Matrix.cons_val_zero, Matrix.cons_val_one, List.cons_append, List.nil_append] <;>
    rfl

/-- What the body leaves in the outputs and in the scratch. -/
theorem made (hc0 : ¬cond0_0 i) : Made x0 x1 x2 x3 x4 x5 xs0 (out0_B_6 c i arg1 harg1 arg2 harg2 arg3 harg3 arg4 harg4 arg5 harg5 arg6 harg6 arg7 harg7 arg8 harg8 arg9 harg9 arg10 harg10 hc0 x0 x1 x2 x3 x4 x5 xs0)
    (out0_B_7 c i arg1 harg1 arg2 harg2 arg3 harg3 arg4 harg4 arg5 harg5 arg6 harg6 arg7 harg7 arg8 harg8 arg9 harg9 arg10 harg10 hc0 x0 x1 x2 x3 x4 x5 xs0)
    (out0_B_8 c i arg1 harg1 arg2 harg2 arg3 harg3 arg4 harg4 arg5 harg5 arg6 harg6 arg7 harg7 arg8 harg8 arg9 harg9 arg10 harg10 hc0 x0 x1 x2 x3 x4 x5 xs0)
    (sout0_B_0 c i arg1 harg1 arg2 harg2 arg3 harg3 arg4 harg4 arg5 harg5 arg6 harg6 arg7 harg7 arg8 harg8 arg9 harg9 arg10 harg10 hc0 x0 x1 x2 x3 x4 x5 xs0) := by
  have h := loads_of arg1 harg1 arg2 harg2 arg3 harg3 arg4 harg4 arg5 harg5 arg6 harg6 arg10 harg10 x0 x1 x2 x3 x4 x5 xs0
  obtain ⟨p6, p7, p8, ps⟩ := pieces c i arg1 harg1 arg2 harg2 arg3 harg3 arg4 harg4 arg5 harg5 arg6 harg6 arg7 harg7 arg8 harg8 arg9 harg9 arg10 harg10 x0 x1 x2 x3 x4 x5 xs0 hc0
  constructor
  · intro s l
    rw [out0_B_6, View.read_writes_junk_eq_canon, p6, canon_whole2]
    exact h.o6 s l
  · intro e s k
    rw [out0_B_7, View.read_writes_junk_eq_canon, p7, ← List.append_nil (Slabs.o7 _)]
    exact h.o7 _ e s k
  · intro e s k
    rw [out0_B_8, View.read_writes_junk_eq_canon, p8, ← List.append_nil (Slabs.o8 _)]
    exact h.o8 _ e s k
  · intro e r k
    rw [sout0_B_0, View.read_writes_junk_eq_canon, ps, ← List.append_nil (Slabs.os _)]
    exact h.os _ e r k

end Rest

end Cert.Ffn.Fwd

end
-- ==== Proof.FwdTile.lean ====
/- What the forward kernel's body computes of the blocks of one tile of the arguments. -/
module

public import proofs.«01_k».proof.Proof.FwdBody
public import proofs.«01_k».proof.Proof.Maths
public import proofs.«01_k».proof.Proof.Sums

@[expose] public section

set_option maxHeartbeats 1000000
set_option maxRecDepth 16384

namespace Cert.Ffn.Fwd

open Idealize.ShloMosaic Cert.KernelFwdIdeal Cert.KernelFwdIdeal.Gen

/-- Row `s` of tile `t`. -/
def row (t : ℕ) (ht : t < 32) (s : Fin 256) : Fin 8192 := ⟨256 * t + s.val, by omega⟩

section Tile

variable (P : Params) (t : ℕ) (ht : t < 32)

/-- The blocks of tile `t`, and the rows of the up projection before it. -/
structure At (x0 : Vec Ideal S256x1024 .f32) (x1 : Vec Ideal S1x1024 .f32) (x2 : Vec Ideal S8x1024x704 .bf16)
    (x3 : Vec Ideal S8x3x704 .f32) (x4 : Vec Ideal S8x1x704 .f32) (x5 : Vec Ideal S2816x1024 .bf16)
    (sh : Vec Ideal S8x8x704 .f32) : Prop where
  h s l : x0 (ix2 s l) = P.h (row t ht s) l
  g l : x1 (ix2 0 l) = P.g l
  U e l k : x2 (ix3 e l k) = P.U l (col e k)
  K e u k : x3 (ix3 e u k) = P.K u (col e k)
  b e k : x4 (ix3 e 0 k) = P.b (col e k)
  D p l : x5 (ix2 p l) = P.D p l
  first : t = 0 → ∀ e q k, sh (ix3 e q k) = 0
  rest : t ≠ 0 → ∀ (e q : Fin 8) k, sh (ix3 e q k) = P.up ⟨256 * t - 8 + q.val, by omega⟩ (col e k)

variable {P t ht} {x0 : Vec Ideal S256x1024 .f32} {x1 : Vec Ideal S1x1024 .f32} {x2 : Vec Ideal S8x1024x704 .bf16}
  {x3 : Vec Ideal S8x3x704 .f32} {x4 : Vec Ideal S8x1x704 .f32} {x5 : Vec Ideal S2816x1024 .bf16}
  {sh : Vec Ideal S8x8x704 .f32} (A : At P t ht x0 x1 x2 x3 x4 x5 sh)
include A

theorem At.tU (e : Fin 8) (s : Fin 256) (k : Fin 704) : tU x0 x1 x2 e s k = P.up (row t ht s) (col e k) := by
  unfold Fwd.tU Params.up Params.n
  simp only [A.h, A.g, A.U]

/-- The row `j` rows before, zero before the first. -/
theorem At.tP (j : ℕ) (hj : j ≤ 8) (e : Fin 8) (s : Fin 256) (k : Fin 704) :
    tP x0 x1 x2 sh j hj e s k
      = if h : 256 * t + s.val < j then 0 else P.up ⟨256 * t + s.val - j, by omega⟩ (col e k) := by
  unfold Fwd.tP
  by_cases h : j ≤ s.val
  · rw [dif_pos h, dif_neg (by omega), A.tU]
    exact congrArg (fun r => P.up r (col e k)) (Fin.ext (by dsimp only [row]; omega))
  · rw [dif_neg h]
    by_cases h0 : t = 0
    · rw [dif_pos (by omega), A.first h0]
    · rw [dif_neg (by omega), A.rest h0]
      exact congrArg (fun r => P.up r (col e k)) (Fin.ext (by dsimp only; omega))

theorem At.tC (e : Fin 8) (s : Fin 256) (k : Fin 704) :
    tC x0 x1 x2 x3 x4 sh e s k = P.cv (row t ht s) (col e k) := by
  have h2 : Fwd.tP x0 x1 x2 sh 2 (by norm_num) e s k = P.up2 (row t ht s) (col e k) := A.tP 2 _ e s k
  have h1 : Fwd.tP x0 x1 x2 sh 1 (by norm_num) e s k = P.up1 (row t ht s) (col e k) := by
    rw [A.tP]; unfold Params.up1
    by_cases h : 256 * t + s.val < 1
    · rw [dif_pos h, dif_pos (by dsimp only [row]; omega)]
    · rw [dif_neg h, dif_neg (by dsimp only [row]; omega)]
      exact congrArg (fun r => P.up r (col e k)) (Fin.ext (by dsimp only [row]; omega))
  unfold Fwd.tC Params.cv
  rw [h1, h2, A.tU, A.b, A.K, A.K, A.K, mul_comm (P.K 0 _), mul_comm (P.K 1 _), mul_comm (P.K 2 _)]

theorem At.tM (d : Fin 4) (s : Fin 256) (l : Fin 1024) :
    tM x0 x1 x2 x3 x4 x5 sh d s l
      = ∑ k : Fin 704, P.act (row t ht s) (colHalf d k) * P.D (colHalf d k) l := by
  unfold Fwd.tM
  refine Finset.sum_congr rfl fun k _ => ?_
  rw [A.tC, A.tC, A.D]
  have e1 : col ⟨d.val, by omega⟩ k = ⟨(colHalf d k).val, by omega⟩ := rfl
  have e2 : col ⟨4 + d.val, by omega⟩ k = ⟨2816 + (colHalf d k).val, by omega⟩ :=
    Fin.ext (by dsimp only [col, colHalf]; omega)
  have e3 : (⟨704 * d.val + k.val, by omega⟩ : Fin 2816) = colHalf d k := Fin.ext (by dsimp only [colHalf]; omega)
  rw [e1, e2, e3]; rfl

end Tile

/-- A sum over the four blocks and their lanes is the sum over the columns. -/
theorem sum_half (f : Fin 2816 → EReal) : ∑ d : Fin 4, ∑ k : Fin 704, f (colHalf d k) = ∑ p : Fin 2816, f p := by
  rw [← Fintype.sum_prod_type']
  refine Fintype.sum_equiv (finProdFinEquiv.trans (finCongr (by norm_num))) _ _ fun x => congrArg f (Fin.ext ?_)
  simp [colHalf, finProdFinEquiv]; ring

end Cert.Ffn.Fwd

end
-- ==== Proof.FwdSweep.lean ====
/- What the forward kernel's outputs hold after each grid point, as formulas over the arguments: point `t` has the rows from
   `256 t` on, and finds in the scratch the last eight rows of the up projection of the point before. -/
module

public import proofs.«01_k».proof.Proof.FwdRun
public import proofs.«01_k».proof.Proof.FwdTile
public import proofs.«01_k».proof.Proof.Gen.KernelFwdIdeal.Value
public import Idealize.ShloMosaic.Lib.Pipeline.ValueKit

@[expose] public section

set_option maxHeartbeats 200000
set_option maxRecDepth 16384

namespace Cert.Ffn.Fwd

open Idealize.ShloMosaic Cert.KernelFwdIdeal Cert.KernelFwdIdeal.Gen

variable (m : (ℓ : Loc nD τ sig) → Buf (Elt Ideal) ℓ) (c : Dev nD)

/-- The arguments; the gradient is not one of them. -/
noncomputable def params : Params where
  h r l := m (c, Proc.tc.devRef main_arg0) (ix2 r l)
  g l := m (c, Proc.tc.devRef main_arg1) (ix1 l)
  U l j := m (c, Proc.tc.devRef main_arg2) (ix2 l j)
  K u j := m (c, Proc.tc.devRef main_arg3) (ix2 u j)
  b j := m (c, Proc.tc.devRef main_arg4) (ix1 j)
  D p l := m (c, Proc.tc.devRef main_arg5) (ix2 p l)
  X _ _ := 0

/- The arrays at the kernel's launch. -/

theorem eh (r : Fin 8192) (l : Fin 1024) :
    V m c (Pipeline.arrRef spec0 0) (ix2 r l : S8192x1024.Idx) = (params m c).h r l := by
  show V m c main_arg0 _ = _
  entry_read
  rfl

theorem eg (l : Fin 1024) : V m c (Pipeline.arrRef spec0 1) (ix2 0 l : S1x1024.Idx) = (params m c).g l := by
  show V m c main_v0 _ = _
  entry_read
  pointwise
  rfl

theorem eU (e : Fin 8) (l : Fin 1024) (k : Fin 704) :
    V m c (Pipeline.arrRef spec0 2) (ix3 e l k : S8x1024x704.Idx) = (params m c).U l (col e k) := by
  show V m c main_v3 _ = _
  entry_read
  pointwise
  rfl

theorem eK (e : Fin 8) (u : Fin 3) (k : Fin 704) :
    V m c (Pipeline.arrRef spec0 3) (ix3 e u k : S8x3x704.Idx) = (params m c).K u (col e k) := by
  show V m c main_v5 _ = _
  entry_read
  pointwise
  rfl

theorem eb (e : Fin 8) (k : Fin 704) :
    V m c (Pipeline.arrRef spec0 4) (ix3 e 0 k : S8x1x704.Idx) = (params m c).b (col e k) := by
  show V m c main_v6 _ = _
  entry_read
  pointwise
  rfl

theorem eD (p : Fin 2816) (l : Fin 1024) :
    V m c (Pipeline.arrRef spec0 5) (ix2 p l : S2816x1024.Idx) = (params m c).D p l := by
  show V m c main_v7 _ = _
  entry_read
  pointwise
  rfl

theorem idx : ∀ t : Fin grid0.N,
    (win0_0.index t = ![t.val, 0] ∧ win0_1.index t = ![0, 0] ∧ win0_2.index t = ![0, 0, 0]
      ∧ win0_3.index t = ![0, 0, 0] ∧ win0_4.index t = ![0, 0, 0] ∧ win0_5.index t = ![0, 0])
    ∧ win0_6.index t = ![t.val, 0] ∧ win0_7.index t = ![0, t.val, 0] ∧ win0_8.index t = ![0, t.val, 0] := by
  decide +kernel

theorem lt (t : Fin cfg0.N) : t.val < 32 := t.isLt

/-- The blocks of point `t`. -/
theorem tile (t : Fin cfg0.N) (sh : Vec Ideal S8x8x704 .f32) (h₁ : t.val = 0 → ∀ e q k, sh (ix3 e q k) = 0)
    (h₂ : t.val ≠ 0 → ∀ (e q : Fin 8) k, sh (ix3 e q k)
      = (params m c).up ⟨256 * t.val - 8 + q.val, by have := lt t; omega⟩ (col e k)) :
    At (params m c) t.val (lt t) (iblk m c 0 t) (iblk m c 1 t) (iblk m c 2 t) (iblk m c 3 t) (iblk m c 4 t)
      (iblk m c 5 t) sh where
  h s l := by rw [← eh]; dsimp only [row]; blk_ext [iblk, idx t]
  g l := by rw [← eg]; blk_ext [iblk, idx t]
  U e l k := by rw [← eU]; blk_ext [iblk, idx t]
  K e u k := by rw [← eK]; blk_ext [iblk, idx t]
  b e k := by rw [← eb]; blk_ext [iblk, idx t]
  D p l := by rw [← eD]; blk_ext [iblk, idx t]
  first := h₁
  rest := h₂

/-- What point `t` leaves, and before it. -/
def Point (t : Fin cfg0.N) : Prop :=
  ∃ sh, At (params m c) t.val (lt t) (iblk m c 0 t) (iblk m c 1 t) (iblk m c 2 t) (iblk m c 3 t) (iblk m c 4 t)
      (iblk m c 5 t) sh
    ∧ Made (iblk m c 0 t) (iblk m c 1 t) (iblk m c 2 t) (iblk m c 3 t) (iblk m c 4 t) (iblk m c 5 t) sh
      (outsAt0 m c t.val t.isLt).1 (outsAt0 m c t.val t.isLt).2.1 (outsAt0 m c t.val t.isLt).2.2.1
      (outsAt0 m c t.val t.isLt).2.2.2

/-- What the body leaves, read off the tuple of the outputs' contents. -/
theorem Made.of {x0 x1 x2 x3 x4 x5 sh y6 y7 y8 ys} (M : Made x0 x1 x2 x3 x4 x5 sh y6 y7 y8 ys) {y}
    (h : y = (y6, y7, y8, ys)) : Made x0 x1 x2 x3 x4 x5 sh y.1 y.2.1 y.2.2.1 y.2.2.2 := by
  subst h; exact M

theorem start (t : Fin cfg0.N) (h : t.val = 0) : Point m c t := by
  refine ⟨fun _ => 0, tile m c t _ (fun _ _ _ _ => rfl) (fun h' => absurd h h'), ?_⟩
  refine Made.of ?_ (outsAt0_A m c t (by omega))
  apply First.made

theorem next (t : Fin cfg0.N) (h : t.val ≠ 0)
    (P : Point m c ⟨t.val - 1, Nat.lt_of_le_of_lt (Nat.sub_le _ _) t.isLt⟩) : Point m c t := by
  have hN := lt t
  obtain ⟨sh, A, M⟩ := P
  have hS (e q : Fin 8) (k : Fin 704) : (outsAt0 m c (t.val - 1) (Nat.lt_of_le_of_lt (Nat.sub_le _ _) t.isLt)).2.2.2 (ix3 e q k)
      = (params m c).up ⟨256 * t.val - 8 + q.val, by omega⟩ (col e k) := by
    refine (M.sc e q k).trans ((A.tU _ _ _).trans ?_)
    exact congrArg (fun r => (params m c).up r (col e k)) (Fin.ext (by dsimp only [row]; omega))
  refine ⟨_, tile m c t _ (fun h' => absurd h' h) (fun _ => hS), ?_⟩
  refine Made.of ?_ (outsAt0_B m c t (by omega))
  apply Rest.made

theorem point (t : Fin cfg0.N) : Point m c t := by
  have hN : t.val < 32 := t.isLt
  induction hn : t.val generalizing t with
  | zero => exact start m c t hn
  | succ n ih => exact next m c t (by omega) (ih _ (by show t.val - 1 < 32; omega) (by show t.val - 1 = n; omega))

end Cert.Ffn.Fwd

end
-- ==== Proof.FwdRef.lean ====
/- The reference's forward pass, read at an index. -/
module

public import proofs.«01_k».proof.Proof.Maths
public import proofs.«01_k».proof.Proof.Sums
public import proofs.«01_k».proof.Proof.Gen.ReferenceFwdIdeal.Run

@[expose] public section

set_option maxHeartbeats 1000000
set_option maxRecDepth 16384

namespace Cert.Ffn.FwdRef

open Idealize.ShloMosaic Idealize.ShloMosaic.StableHlo Cert.ReferenceFwdIdeal Cert.ReferenceFwdIdeal.Gen

section Terms

variable (h : FVec Ideal S8192x1024 .f32) (g : FVec Ideal S1024 .f32) (U : FVec Ideal S1024x5632 .f32)
  (K : FVec Ideal S3x5632 .f32) (b : FVec Ideal S5632 .f32) (D : FVec Ideal S2816x1024 .f32)

/-- The arguments, at their indices; the gradient is not one of them. -/
noncomputable def paramsOf : Params where
  h r l := h (ix2 r l)
  g l := g (ix1 l)
  U l j := U (ix2 l j)
  K u j := K (ix2 u j)
  b j := b (ix1 j)
  D p l := D (ix2 p l)
  X _ _ := 0

/-- The up projection, as the reference computes it. -/
noncomputable def upT : FVec Ideal S8192x5632 .f32 :=
  Host.dotGeneral dot_S8192x1024_S1024x5632_S8192x5632_1_0_0_1_n_n none
    (mulf (mulf h (broadcastInDim S8192x1024 ![0, 1] bcast_S8192x1_S8192x1024_0_1
        (Host.rsqrt (addf (Host.divf (broadcastInDim S8192x1 ![0] bcast_S8192_S8192x1_0
            (Host.reduceAdd (mulf h h) (constant S_ .f32 0x00000000#32) reducesTo_S8192x1024_S8192_d1 h_S_))
          (broadcastInDim S8192x1 ![] bcast_S_S8192x1 (constant S_ .f32 0x44800000#32)))
          (broadcastInDim S8192x1 ![] bcast_S_S8192x1 (constant S_ .f32 0x358637BD#32))))))
      (broadcastInDim S8192x1024 ![0, 1] bcast_S1x1024_S8192x1024_0_1
        (broadcastInDim S1x1024 ![1] bcast_S1024_S1x1024_1 g))) U

/-- The rows of `u` after two rows of zeros. -/
noncomputable def pad (u : FVec Ideal S8192x5632 .f32) : FVec Ideal S8194x5632 .f32 :=
  concatenate S8194x5632 0 [⟨S2x5632, (broadcastInDim S2x5632 ![] bcast_S_S2x5632 (constant S_ .f32 0x00000000#32))⟩,
    ⟨S8192x5632, u⟩] concatenates_S2x5632_S8192x5632_S8194x5632_d0

/-- The convolution of `u`. -/
noncomputable def cvT (u : FVec Ideal S8192x5632 .f32) : FVec Ideal S8192x5632 .f32 :=
  addf (broadcastInDim S8192x5632 ![0, 1] bcast_S1x5632_S8192x5632_0_1 (broadcastInDim S1x5632 ![1] bcast_S5632_S1x5632_1 b))
    (addf (addf (addf (broadcastInDim S8192x5632 ![] bcast_S_S8192x5632 (constant S_ .f32 0x00000000#32))
      (mulf (extractStridedSlice S8192x5632 ![0, 0] (pad u) slices_S8194x5632_S8192x5632_0_0)
        (broadcastInDim S8192x5632 ![0, 1] bcast_S1x5632_S8192x5632_0_1 (broadcastInDim S1x5632 ![1] bcast_S5632_S1x5632_1
          (shapeCast _ (extractStridedSlice S1x5632 ![0, 0] K slices_S3x5632_S1x5632_0_0) shapeCasts_S1x5632_S5632)))))
      (mulf (extractStridedSlice S8192x5632 ![1, 0] (pad u) slices_S8194x5632_S8192x5632_1_0)
        (broadcastInDim S8192x5632 ![0, 1] bcast_S1x5632_S8192x5632_0_1 (broadcastInDim S1x5632 ![1] bcast_S5632_S1x5632_1
          (shapeCast _ (extractStridedSlice S1x5632 ![1, 0] K slices_S3x5632_S1x5632_1_0) shapeCasts_S1x5632_S5632)))))
      (mulf (extractStridedSlice S8192x5632 ![2, 0] (pad u) slices_S8194x5632_S8192x5632_2_0)
        (broadcastInDim S8192x5632 ![0, 1] bcast_S1x5632_S8192x5632_0_1 (broadcastInDim S1x5632 ![1] bcast_S5632_S1x5632_1
          (shapeCast _ (extractStridedSlice S1x5632 ![2, 0] K slices_S3x5632_S1x5632_2_0) shapeCasts_S1x5632_S5632)))))

/-- The result, of the convolution `v`. -/
noncomputable def outT (v : FVec Ideal S8192x5632 .f32) : FVec Ideal S8192x1024 .f32 :=
  addf h (Host.dotGeneral dot_S8192x2816_S2816x1024_S8192x1024_1_0_0_1_n_n none
    (mulf (mulf (extractStridedSlice S8192x2816 ![0, 0] v slices_S8192x5632_S8192x2816_0_0)
      (Host.divf (broadcastInDim S8192x2816 ![] bcast_S_S8192x2816 (constant S_ .f32 0x3F800000#32))
        (addf (broadcastInDim S8192x2816 ![] bcast_S_S8192x2816 (constant S_ .f32 0x3F800000#32))
          (Host.exp (Host.negf (extractStridedSlice S8192x2816 ![0, 0] v slices_S8192x5632_S8192x2816_0_0))))))
      (extractStridedSlice S8192x2816 ![0, 2816] v slices_S8192x5632_S8192x2816_0_2816)) D)

/-- A matrix's columns in eight blocks. -/
noncomputable def blocksT (v : FVec Ideal S8192x5632 .f32) : FVec Ideal S8x8192x704 .bf16 :=
  truncf .bf16 (transpose S8x8192x704 [1, 0, 2] (shapeCast _ v shapeCasts_S8192x5632_S8192x8x704)
    transposes_S8192x8x704_S8x8192x704_1_0_2) bitsLt_bf16_f32

theorem up (r : Fin 8192) (j : Fin 5632) : @Eq EReal (upT h g U (ix2 r j)) ((paramsOf h g U K b D).up r j) := by
  pointwise [upT]
  rfl

theorem up1 (u : FVec Ideal S8192x5632 .f32) (r : Fin 8192) (j : Fin 5632) :
    @Eq EReal (extractStridedSlice S8192x5632 ![1, 0] (pad u) slices_S8194x5632_S8192x5632_1_0 (ix2 r j))
      (if h : 1 + r.val < 2 then 0 else u (ix2 ⟨1 + r.val - 2, by omega⟩ j)) := by
  pointwise [pad]

theorem up2 (u : FVec Ideal S8192x5632 .f32) (r : Fin 8192) (j : Fin 5632) :
    @Eq EReal (extractStridedSlice S8192x5632 ![0, 0] (pad u) slices_S8194x5632_S8192x5632_0_0 (ix2 r j))
      (if h : r.val < 2 then 0 else u (ix2 ⟨r.val - 2, by omega⟩ j)) := by
  pointwise [pad]

theorem cv (r : Fin 8192) (j : Fin 5632) : @Eq EReal (cvT K b (upT h g U) (ix2 r j)) ((paramsOf h g U K b D).cv r j) := by
  pointwise [cvT, pad]
  simp only [up h g U K b D, Params.cv, Params.up1, Params.up2, ← add_assoc]
  rfl

theorem out (r : Fin 8192) (l : Fin 1024) :
    @Eq EReal (outT h D (cvT K b (upT h g U)) (ix2 r l))
      ((paramsOf h g U K b D).h r l + ∑ p : Fin 2816, (paramsOf h g U K b D).act r p * (paramsOf h g U K b D).D p l) := by
  pointwise [outT]
  simp only [cv h g U K b D]
  rfl

theorem blocks (v : FVec Ideal S8192x5632 .f32) (e : Fin 8) (r : Fin 8192) (k : Fin 704) :
    @Eq EReal (blocksT v (ix3 e r k)) (v (ix2 r (col e k))) := by
  pointwise [blocksT]
  rfl

end Terms

variable (m : (ℓ : Loc nD τ sig) → Buf (Elt Ideal) ℓ) (c : Dev nD)

/-- The arguments. -/
noncomputable def params : Params :=
  paramsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The reference's run: its results, and its arguments as they were. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v73)
        = (fun i : S8192x1024.Idx => (params m c).h (i 0) (i 1) + ∑ p : Fin 2816, (params m c).act (i 0) p * (params m c).D p (i 1))
      ∧ r.2.mem ((c.tc : Thread nD τ).loc main_v76)
        = (fun i : S8x8192x704.Idx => (params m c).up (i 1) (col (i 0) (i 2)))
      ∧ r.2.mem ((c.tc : Thread nD τ).loc main_v79)
        = (fun i : S8x8192x704.Idx => (params m c).cv (i 1) (col (i 0) (i 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ H c => ?_) (Value.run m ρ)
  obtain ⟨h₀, h₁, h₂, hs⟩ := H c
  refine ⟨h₀.trans (funext fun i => ?_), h₁.trans (funext fun i => ?_), h₂.trans (funext fun i => ?_), hs⟩
  · obtain ⟨r, l, rfl⟩ := ax2 i
    exact out _ _ _ _ _ _ r l
  · obtain ⟨e, r, k, rfl⟩ := ax3 i
    exact (blocks _ e r k).trans (up _ _ _ _ _ _ _ _)
  · obtain ⟨e, r, k, rfl⟩ := ax3 i
    exact (blocks _ e r k).trans (cv _ _ _ _ _ _ _ _)

end Cert.Ffn.FwdRef

end
-- ==== Proof.Fwd.lean ====
/- The arrays that the forward kernel leaves, over the arguments. -/
module

public import proofs.«01_k».proof.Proof.FwdSweep
public import proofs.«01_k».proof.Proof.FwdRef

@[expose] public section

set_option maxHeartbeats 400000
set_option maxRecDepth 16384

namespace Cert.Ffn.Fwd

open Idealize.ShloMosaic Cert.KernelFwdIdeal Cert.KernelFwdIdeal.Gen

/-- The layer's result at a row and a column. -/
noncomputable def res (P : Params) (r : Fin 8192) (l : Fin 1024) : EReal :=
  P.h r l + ∑ p : Fin 2816, P.act r p * P.D p l

/-- The up projection and the convolution at a block, a row and a lane. -/
noncomputable def upB (P : Params) (e : Fin 8) (r : Fin 8192) (k : Fin 704) : EReal := P.up r (col e k)

noncomputable def cvB (P : Params) (e : Fin 8) (r : Fin 8192) (k : Fin 704) : EReal := P.cv r (col e k)

theorem At.tO {P : Params} {t : ℕ} {ht : t < 32} {x0 : Vec Ideal S256x1024 .f32} {x1 : Vec Ideal S1x1024 .f32}
    {x2 : Vec Ideal S8x1024x704 .bf16} {x3 : Vec Ideal S8x3x704 .f32} {x4 : Vec Ideal S8x1x704 .f32}
    {x5 : Vec Ideal S2816x1024 .bf16} {sh : Vec Ideal S8x8x704 .f32} (A : At P t ht x0 x1 x2 x3 x4 x5 sh)
    (s : Fin 256) (l : Fin 1024) : tO x0 x1 x2 x3 x4 x5 sh s l = res P (row t ht s) l := by
  unfold Fwd.tO res
  rw [A.h, ← sum_half]
  simp only [A.tM]

variable (m : (ℓ : Loc nD τ sig) → Buf (Elt Ideal) ℓ) (c : Dev nD)

theorem out6 : (dats m 0 c).arrAt 6 cfg0.N = fun i : S8192x1024.Idx => res (params m c) (i 0) (i 1) := by
  refine (dats m 0 c).arrAt_eq_of_covers 6 _ (by decide +kernel) fun t hf y => ?_
  blk_simp
  rw [after0_6]
  obtain ⟨sh, A, M⟩ := point m c t
  obtain ⟨s, l, rfl⟩ := ax2 y
  rw [M.o, A.tO]
  congr 1 <;> apply Fin.ext <;> blk_simp [idx t] <;> (try dsimp only [row]) <;> omega

theorem out7 : (dats m 0 c).arrAt 7 cfg0.N = fun i : S8x8192x704.Idx => upB (params m c) (i 0) (i 1) (i 2) := by
  refine (dats m 0 c).arrAt_eq_of_covers 7 _ (by decide +kernel) fun t hf y => ?_
  blk_simp
  rw [after0_7]
  obtain ⟨sh, A, M⟩ := point m c t
  obtain ⟨e, s, k, rfl⟩ := ax3 y
  rw [M.hh, A.tU]
  show upB (params m c) _ _ _ = _
  congr 1 <;> apply Fin.ext <;> blk_simp [idx t] <;> (try dsimp only [row]) <;> omega

theorem out8 : (dats m 0 c).arrAt 8 cfg0.N = fun i : S8x8192x704.Idx => cvB (params m c) (i 0) (i 1) (i 2) := by
  refine (dats m 0 c).arrAt_eq_of_covers 8 _ (by decide +kernel) fun t hf y => ?_
  blk_simp
  rw [after0_8]
  obtain ⟨sh, A, M⟩ := point m c t
  obtain ⟨e, s, k, rfl⟩ := ax3 y
  rw [M.cc, A.tC]
  show cvB (params m c) _ _ _ = _
  congr 1 <;> apply Fin.ext <;> blk_simp [idx t] <;> (try dsimp only [row]) <;> omega

end Cert.Ffn.Fwd

/- The two programs' arguments are the same. -/
namespace Cert.Ffn.FwdRef

open Idealize.ShloMosaic Cert.ReferenceFwdIdeal

theorem params_eq (m : (ℓ : Loc Cert.KernelFwdIdeal.nD Cert.KernelFwdIdeal.τ Cert.KernelFwdIdeal.sig) → Buf (Elt Ideal) ℓ)
    (m' : (ℓ : Loc nD τ sig) → Buf (Elt Ideal) ℓ) (c : Dev nD)
    (h : m' ((c.tc : Thread nD τ).loc main_arg0) = m ((c.tc : Thread Cert.KernelFwdIdeal.nD Cert.KernelFwdIdeal.τ).loc Cert.KernelFwdIdeal.main_arg0)
      ∧ m' ((c.tc : Thread nD τ).loc main_arg1) = m ((c.tc : Thread Cert.KernelFwdIdeal.nD Cert.KernelFwdIdeal.τ).loc Cert.KernelFwdIdeal.main_arg1)
      ∧ m' ((c.tc : Thread nD τ).loc main_arg2) = m ((c.tc : Thread Cert.KernelFwdIdeal.nD Cert.KernelFwdIdeal.τ).loc Cert.KernelFwdIdeal.main_arg2)
      ∧ m' ((c.tc : Thread nD τ).loc main_arg3) = m ((c.tc : Thread Cert.KernelFwdIdeal.nD Cert.KernelFwdIdeal.τ).loc Cert.KernelFwdIdeal.main_arg3)
      ∧ m' ((c.tc : Thread nD τ).loc main_arg4) = m ((c.tc : Thread Cert.KernelFwdIdeal.nD Cert.KernelFwdIdeal.τ).loc Cert.KernelFwdIdeal.main_arg4)
      ∧ m' ((c.tc : Thread nD τ).loc main_arg5) = m ((c.tc : Thread Cert.KernelFwdIdeal.nD Cert.KernelFwdIdeal.τ).loc Cert.KernelFwdIdeal.main_arg5)) :
    params m' c = Fwd.params m c := by
  obtain ⟨h₀, h₁, h₂, h₃, h₄, h₅⟩ := h
  have e : ∀ P Q : Params, P.h = Q.h → P.g = Q.g → P.U = Q.U → P.K = Q.K → P.b = Q.b → P.D = Q.D → P.X = Q.X → P = Q := by
    intro P Q h₁ h₂ h₃ h₄ h₅ h₆ h₇
    cases P; cases Q
    subst h₁ h₂ h₃ h₄ h₅ h₆ h₇
    rfl
  exact e _ _ (funext fun r => funext fun l => congrFun h₀ (ix2 r l)) (funext fun l => congrFun h₁ (ix1 l))
    (funext fun l => funext fun j => congrFun h₂ (ix2 l j)) (funext fun u => funext fun j => congrFun h₃ (ix2 u j))
    (funext fun j => congrFun h₄ (ix1 j)) (funext fun p => funext fun l => congrFun h₅ (ix2 p l)) rfl

end Cert.Ffn.FwdRef

end
-- ==== Proof.Square.lean ====
/- The product that makes the gradient of a square projection: the kernel adds the products of the four quarters of the rows. -/
module

public import proofs.«01_k».proof.Proof.Sums
public import proofs.«01_k».proof.Proof.Gen.KernelSquareIdeal.Value
public import proofs.«01_k».proof.Proof.Gen.ReferenceSquareIdeal.Run

@[expose] public section

set_option maxHeartbeats 400000
set_option maxRecDepth 16384

namespace Cert.Ffn.Square

open Idealize.ShloMosaic Cert.KernelSquareIdeal Cert.KernelSquareIdeal.Gen

/-- The product of two blocks. -/
noncomputable def prod (x0 x1 : Vec Ideal S2048x1024 .bf16) (k l : Fin 1024) : EReal :=
  ∑ s : Fin 2048, x0 (ix2 s k) * x1 (ix2 s l)

section Body

variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .bf16)
  (harg5 : arg5.IsWhole) (arg6 : Memref sig .tc .vmem S1024x1024 .f32) (harg6 : arg6.IsWhole)
  (x0 x1 : Vec Ideal S2048x1024 .bf16)

/-- What is stored in the scratch: the old contents and the product. -/
theorem pay (o : Vec Ideal S1024x1024 .f32) (k l : Fin 1024) :
    k0_pay2 (F := Ideal) o x0 x1 (ix2 k l) = o (ix2 k l) + prod x0 x1 k l := by
  dsimp only [prod]
  pointwise [k0_pay2]

/-- The first quarter: the scratch starts at zero. -/
theorem first (hc0 : cond0_0 i) (hc1 : ¬cond0_1 i) (k l : Fin 1024) :
    sout0_A_0 (F := Ideal) c i arg3 harg3 arg4 harg4 arg5 harg5 arg6 harg6 hc0 hc1 x0 x1 (ix2 k l)
      = prod x0 x1 k l := by
  rw [sout0_A_0, View.read_writes_junk_eq_canon, kernelRun0_A]
  dsimp only
  refine (congrFun (stored2 _ _ _) _).trans ?_
  refine (pay _ _ _ k l).trans ?_
  rw [whole2 arg3 harg3, whole2 arg4 harg4, kernelRun0_A.sl.v3, kernelRun0_A.sl.HS0_1]
  have h0 : k0_pay1 (F := Ideal) (ix2 k l) = 0 := by
    pointwise [k0_pay1]
  exact (congrArg (· + _) ((congrFun (loaded2 arg6 _ _ _) _).trans h0)).trans (zero_add _)

/-- The quarters between. -/
theorem middle (hc0 : ¬cond0_0 i) (hc1 : ¬cond0_1 i) (xs : Vec Ideal S1024x1024 .f32) (k l : Fin 1024) :
    sout0_B_0 (F := Ideal) c i arg3 harg3 arg4 harg4 arg5 harg5 arg6 harg6 hc0 hc1 x0 x1 xs (ix2 k l)
      = xs (ix2 k l) + prod x0 x1 k l := by
  rw [sout0_B_0, View.read_writes_junk_eq_canon, kernelRun0_B]
  dsimp only
  refine (congrFun (stored2 _ _ _) _).trans ?_
  refine (pay _ _ _ k l).trans ?_
  rw [whole2 arg3 harg3, whole2 arg4 harg4, whole2 arg6 harg6]

/-- The last quarter. -/
theorem final (hc0 : ¬cond0_0 i) (hc1 : cond0_1 i) (xs : Vec Ideal S1024x1024 .f32) (k l : Fin 1024) :
    out0_C_2 (F := Ideal) c i arg3 harg3 arg4 harg4 arg5 harg5 arg6 harg6 hc0 hc1 x0 x1 xs (ix2 k l)
      = xs (ix2 k l) + prod x0 x1 k l := by
  rw [out0_C_2, View.read_writes_junk_eq_canon, kernelRun0_C]
  dsimp only
  refine (congrFun (stored2 _ _ _) _).trans ?_
  have h3 (v : Vec Ideal S1024x1024 .f32) : k0_pay3 (F := Ideal) v (ix2 k l) = v (ix2 k l) := by
    pointwise [k0_pay3]
  rw [h3, kernelRun0_C.sl.v14, kernelRun0_C.sl.HS0_1]
  refine (congrFun (loaded2 arg6 _ _ _) _).trans ?_
  refine (pay _ _ _ k l).trans ?_
  rw [whole2 arg3 harg3, whole2 arg4 harg4]
  rw [whole2 arg6 harg6]

end Body

variable (m : (ℓ : Loc nD τ sig) → Buf (Elt Ideal) ℓ) (c : Dev nD)

/-- The arguments. -/
noncomputable def A (s : Fin 8192) (k : Fin 1024) : EReal := V m c (Pipeline.arrRef spec0 0) (ix2 s k : S8192x1024.Idx)
noncomputable def B (s : Fin 8192) (l : Fin 1024) : EReal := V m c (Pipeline.arrRef spec0 1) (ix2 s l : S8192x1024.Idx)

theorem idx : ∀ t : Fin grid0.N, win0_0.index t = ![t.val, 0] ∧ win0_1.index t = ![t.val, 0] ∧ win0_2.index t = ![0, 0] := by
  decide +kernel

/-- Row `s` of quarter `q`. -/
def row (q : Fin 4) (s : Fin 2048) : Fin 8192 := ⟨q.val * 2048 + s.val, by omega⟩

/-- A quarter's product. -/
noncomputable def part (k l : Fin 1024) (q : Fin 4) : EReal := ∑ s : Fin 2048, A m c (row q s) k * B m c (row q s) l

theorem sum_quarters (f : Fin 8192 → EReal) : ∑ q : Fin 4, ∑ s : Fin 2048, f (row q s) = ∑ s : Fin 8192, f s := by
  rw [← Fintype.sum_prod_type']
  refine Fintype.sum_equiv (finProdFinEquiv.trans (finCongr (by norm_num))) _ _ fun x => congrArg f (Fin.ext ?_)
  simp [row, finProdFinEquiv]; ring

theorem blkA (t : Fin cfg0.N) (q : Fin 4) (hq : q.val = t.val) (s : Fin 2048) (k : Fin 1024) :
    iblk m c 0 t (ix2 s k) = A m c (row q s) k := by
  dsimp only [A, row]; blk_ext [iblk, idx t]

theorem blkB (t : Fin cfg0.N) (q : Fin 4) (hq : q.val = t.val) (s : Fin 2048) (l : Fin 1024) :
    iblk m c 1 t (ix2 s l) = B m c (row q s) l := by
  dsimp only [B, row]; blk_ext [iblk, idx t]

theorem blk (t : Fin cfg0.N) (q : Fin 4) (hq : q.val = t.val) (k l : Fin 1024) :
    prod (iblk m c 0 t) (iblk m c 1 t) k l = part m c k l q :=
  Finset.sum_congr rfl fun s _ => congrArg₂ (fun a b : EReal => a * b) (blkA m c t q hq s k) (blkB m c t q hq s l)

/-- The scratch after each of the first three quarters. -/
theorem scratch_one (n : ℕ) (hn : n < cfg0.N) (h : n = 0) (k l : Fin 1024) :
    (outsAt0 m c n hn).2 (ix2 k l) = part m c k l 0 := by
  rw [outsAt0_A m c ⟨n, hn⟩ (by dsimp only; omega) (by dsimp only; omega)]
  simp only [first]
  exact blk m c ⟨n, hn⟩ 0 h.symm k l

theorem scratch_next (n : ℕ) (hn : n < cfg0.N) (q : Fin 4) (hq : q.val = n) (h0 : n ≠ 0) (h3 : n ≠ 3) (k l : Fin 1024) (z : EReal)
    (hz : (outsAt0 m c (n - 1) (lt_of_le_of_lt (Nat.sub_le _ _) hn)).2 (ix2 k l) = z) :
    (outsAt0 m c n hn).2 (ix2 k l) = z + part m c k l q := by
  have ht : n < 4 := hn
  rw [outsAt0_B m c ⟨n, hn⟩ (by dsimp only; omega) (by dsimp only; omega)]
  simp only [middle]
  exact congrArg₂ (fun a b : EReal => a + b) hz (blk m c ⟨n, hn⟩ q hq k l)

theorem scratch_two (n : ℕ) (hn : n < cfg0.N) (h : n = 1) (k l : Fin 1024) :
    (outsAt0 m c n hn).2 (ix2 k l) = part m c k l 0 + part m c k l 1 :=
  scratch_next m c n hn 1 h.symm (by omega) (by omega) k l _ (scratch_one m c _ _ (by omega) k l)

theorem scratch_three (n : ℕ) (hn : n < cfg0.N) (h : n = 2) (k l : Fin 1024) :
    (outsAt0 m c n hn).2 (ix2 k l) = part m c k l 0 + part m c k l 1 + part m c k l 2 :=
  scratch_next m c n hn 2 h.symm (by omega) (by omega) k l _ (scratch_two m c _ _ (by omega) k l)

/-- The result after the last quarter: the whole sum. -/
theorem whole (t : Fin cfg0.N) (h : t.val = 3) (k l : Fin 1024) :
    (outsAt0 m c t.val t.isLt).1 (ix2 k l) = ∑ s : Fin 8192, A m c s k * B m c s l := by
  have hp := scratch_three m c (t.val - 1) (lt_of_le_of_lt (Nat.sub_le _ _) t.isLt) (by omega) k l
  rw [outsAt0_C m c t (by omega) (by omega)]
  simp only [final]
  rw [← sum_quarters fun s => A m c s k * B m c s l, Fin.sum_univ_four]
  exact congrArg₂ (fun a b : EReal => a + b) hp (blk m c t 3 h.symm k l)

theorem out : (dats m 0 c).arrAt 2 cfg0.N = fun i : S1024x1024.Idx => ∑ s : Fin 8192, A m c s (i 0) * B m c s (i 1) := by
  refine (dats m 0 c).arrAt_eq_of_covers 2 _ (by decide +kernel) fun t hf y => ?_
  have h1 : t.val % 4 = 3 := (flush0_2 t).mp hf
  have ht : t.val < 4 := t.isLt
  blk_simp
  rw [after0_2]
  obtain ⟨k, l, rfl⟩ := ax2 y
  refine (whole m c t (by omega) k l).trans ?_
  refine Finset.sum_congr rfl fun s _ => ?_
  congr 2 <;> apply Fin.ext <;> blk_simp [idx t] <;> (try dsimp only) <;> omega

end Cert.Ffn.Square

/- The reference. -/
namespace Cert.Ffn.SquareRef

open Idealize.ShloMosaic Cert.ReferenceSquareIdeal

variable (m : (ℓ : Loc nD τ sig) → Buf (Elt Ideal) ℓ) (c : Dev nD)

/-- The arguments. -/
noncomputable def A (s : Fin 8192) (k : Fin 1024) : EReal := m ((c.tc : Thread nD τ).loc main_arg0) (ix2 s k : S8192x1024.Idx)
noncomputable def B (s : Fin 8192) (l : Fin 1024) : EReal := m ((c.tc : Thread nD τ).loc main_arg1) (ix2 s l : S8192x1024.Idx)

theorem run (ρ : Dev nD → PrngReg) : θ_run defs (onTc (τ := τ) (main (F := Ideal))) ⟨m, fun _ => 0, ρ⟩ fun r => ∀ c : Dev nD,
      r.2.mem ((c.tc : Thread nD τ).loc main_v4) = (fun i : S1024x1024.Idx => ∑ s : Fin 8192, A m c s (i 0) * B m c s (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans (funext fun i => ?_), (h c).2⟩) (Cert.ReferenceSquareIdeal.Value.run m ρ)
  obtain ⟨k, l, rfl⟩ := ax2 i
  pointwise
  exact Finset.sum_congr rfl fun s _ => mul_comm _ _

/-- The two programs' arguments are the same. -/
theorem A_eq (m : (ℓ : Loc Cert.KernelSquareIdeal.nD Cert.KernelSquareIdeal.τ Cert.KernelSquareIdeal.sig) → Buf (Elt Ideal) ℓ)
    (m' : (ℓ : Loc nD τ sig) → Buf (Elt Ideal) ℓ) (c : Dev nD)
    (h : m' ((c.tc : Thread nD τ).loc main_arg0) = m ((c.tc : Thread Cert.KernelSquareIdeal.nD Cert.KernelSquareIdeal.τ).loc Cert.KernelSquareIdeal.main_arg0)) :
    A m' c = Cert.Ffn.Square.A m c :=
  funext fun _ => funext fun _ => (congrFun h _).trans (congrFun (Cert.KernelSquareIdeal.Gen.V_main_arg0 m c) _).symm

theorem B_eq (m : (ℓ : Loc Cert.KernelSquareIdeal.nD Cert.KernelSquareIdeal.τ Cert.KernelSquareIdeal.sig) → Buf (Elt Ideal) ℓ)
    (m' : (ℓ : Loc nD τ sig) → Buf (Elt Ideal) ℓ) (c : Dev nD)
    (h : m' ((c.tc : Thread nD τ).loc main_arg1) = m ((c.tc : Thread Cert.KernelSquareIdeal.nD Cert.KernelSquareIdeal.τ).loc Cert.KernelSquareIdeal.main_arg1)) :
    B m' c = Cert.Ffn.Square.B m c :=
  funext fun _ => funext fun _ => (congrFun h _).trans (congrFun (Cert.KernelSquareIdeal.Gen.V_main_arg1 m c) _).symm

end Cert.Ffn.SquareRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.KernelUpIdeal.Value
public import proofs.«01_k».proof.Proof.Gen.ReferenceUpIdeal.Run
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.Gen.KernelDownIdeal.Value
public import proofs.«01_k».proof.Proof.Gen.ReferenceDownIdeal.Run
public import proofs.«01_k».proof.Proof.Gen.KernelFwd
public import proofs.«01_k».proof.Proof.Gen.KernelFwd.Skeleton
public import proofs.«01_k».proof.Proof.Gen.KernelFwd.Launch
public import proofs.«01_k».proof.Proof.Gen.KernelFwd.Points
public import proofs.«01_k».proof.Proof.Gen.KernelFwd.Frame
public import proofs.«01_k».proof.Proof.Gen.KernelFwdIdeal
public import proofs.«01_k».proof.Proof.Gen.KernelFwdIdeal.Skeleton
public import proofs.«01_k».proof.Proof.Gen.KernelFwdIdeal.Launch
public import proofs.«01_k».proof.Proof.Gen.KernelFwdIdeal.Points
public import proofs.«01_k».proof.Proof.Gen.KernelFwdIdeal.Frame
public import proofs.«01_k».proof.Proof.Gen.ReferenceFwdIdeal
public import proofs.«01_k».proof.Proof.Gen.KernelFwdIdeal.Value
public import proofs.«01_k».proof.Proof.Gen.ReferenceFwdIdeal.Run
public import proofs.«01_k».proof.Proof.Gen.KernelSquare
public import proofs.«01_k».proof.Proof.Gen.KernelSquare.Skeleton
public import proofs.«01_k».proof.Proof.Gen.KernelSquare.Launch
public import proofs.«01_k».proof.Proof.Gen.KernelSquare.Points
public import proofs.«01_k».proof.Proof.Gen.KernelSquare.Frame
public import proofs.«01_k».proof.Proof.Gen.KernelSquareIdeal
public import proofs.«01_k».proof.Proof.Gen.KernelSquareIdeal.Skeleton
public import proofs.«01_k».proof.Proof.Gen.KernelSquareIdeal.Launch
public import proofs.«01_k».proof.Proof.Gen.KernelSquareIdeal.Points
public import proofs.«01_k».proof.Proof.Gen.KernelSquareIdeal.Frame
public import proofs.«01_k».proof.Proof.Gen.ReferenceSquareIdeal
public import proofs.«01_k».proof.Proof.Gen.KernelSquareIdeal.Value
public import proofs.«01_k».proof.Proof.Gen.ReferenceSquareIdeal.Run
public import proofs.«01_k».proof.Proof.Results
public import proofs.«01_k».proof.Proof.Finite
public import proofs.«01_k».proof.Proof.Reference
public import proofs.«01_k».proof.Proof.Up
public import proofs.«01_k».proof.Proof.Down
public import proofs.«01_k».proof.Proof.Fwd
public import proofs.«01_k».proof.Proof.Square
public import Idealize.ShloMosaic.Adequacy
public import Idealize.ShloMosaic.Init

@[expose] public section

noncomputable section

namespace Cert.Proof

open Idealize.ShloMosaic Idealize.SL.Sem Cert.Kernel

/-- The reference runs, and leaves its arguments as they were. -/
theorem frame_reference : Cert.quiescent_ReferenceIdeal :=
  fun m ρ _ => (θ_run Cert.ReferenceIdeal.defs _ _).mono (fun _ h => ⟨fun c => (h c).2.2.2.2.2.2.2.2, sem_eq_zero_of_no_sems (by decide) _⟩) (Cert.ReferenceIdeal.Value.run m ρ)

/-- The two programs' arguments are the same. -/
theorem params_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Ffn.Ref.params (StableHlo.launchContents m' c) = Ffn.params m c := by
  obtain ⟨h₀, h₁, h₂, h₃, h₄, h₅, h₆⟩ := h
  have e : ∀ P Q : Ffn.Params, P.h = Q.h → P.g = Q.g → P.U = Q.U → P.K = Q.K → P.b = Q.b → P.D = Q.D → P.X = Q.X → P = Q := by
    intro P Q h₁ h₂ h₃ h₄ h₅ h₆ h₇
    cases P; cases Q
    subst h₁ h₂ h₃ h₄ h₅ h₆ h₇
    rfl
  exact e _ _ (funext fun r => funext fun l => congrFun h₀ (ix2 r l)) (funext fun l => congrFun h₁ (ix1 l))
    (funext fun l => funext fun j => congrFun h₂ (ix2 l j)) (funext fun u => funext fun j => congrFun h₃ (ix2 u j))
    (funext fun j => congrFun h₄ (ix1 j)) (funext fun p => funext fun l => congrFun h₅ (ix2 p l))
    (funext fun r => funext fun l => congrFun h₆ (ix2 r l))

/-- The eight results: what the kernel leaves in each array is what the reference computes. -/
theorem algebraic : Cert.algebraic_KernelIdeal_ReferenceIdeal_pre_all_finite (hKernelIdeal := Cert.KernelIdeal.Gen.facts)
    (hReferenceIdeal := Cert.ReferenceIdeal.Gen.facts) (hPre_all_finite := Ffn.preFacts) := by
  intro m ρ m' ρ' hP hA
  refine ⟨_, _, _, _, _, _, _, _, Cert.KernelIdeal.Value.run_blocks m ρ, ?_⟩
  refine (θ_run Cert.ReferenceIdeal.defs _ _).mono (fun _ H c => ?_) (Ffn.Ref.run m' ρ')
  obtain ⟨h₀, h₁, h₂, h₃, h₄, h₅, h₆, h₇, hs⟩ := H c
  have F := Ffn.finite m hP c
  rw [params_eq m m' c (hA c)] at h₀ h₁ h₂ h₃ h₄ h₅ h₆ h₇
  refine ⟨h₀.trans ?_, h₁.trans ?_, h₂.trans ?_, h₃.trans ?_, h₄.trans ?_, h₅.trans ?_, h₆.trans ?_, h₇.trans ?_, hs⟩
  · refine Eq.trans (funext fun i => ?_) (Ffn.out8 m c).symm
    rw [Ffn.arrays_eq]; exact (F.dx_eq _ _).symm
  · refine Eq.trans (funext fun i => ?_) (Ffn.out9 m c).symm
    rw [Ffn.arrays_eq]; rfl
  · refine Eq.trans (funext fun i => ?_) (Ffn.out10 m c).symm
    rw [Ffn.arrays_eq]; exact (F.hh_eq _ _ _).symm
  · refine Eq.trans (funext fun i => ?_) (Ffn.out11 m c).symm
    rw [Ffn.arrays_eq]; exact (F.act_eq _ _ _).symm
  · refine Eq.trans (funext fun i => ?_) (Ffn.out12 m c).symm
    rw [Ffn.arrays_eq]; rfl
  · refine Eq.trans (funext fun i => ?_) (Ffn.out13 m c).symm
    rw [Ffn.arrays_eq]; exact (F.dw_eq _ _ _).symm
  · refine Eq.trans (funext fun i => ?_) (Ffn.out14 m c).symm
    rw [Ffn.arrays_eq]; exact (F.db_eq _ _).symm
  · refine Eq.trans (funext fun i => ?_) (Ffn.out15 m c).symm
    rw [Ffn.arrays_eq]; exact (F.dg_eq _).symm

/-- The same for the call `wgrad_up`. -/
theorem frame_up : Cert.quiescent_ReferenceUpIdeal :=
  fun m ρ _ => (θ_run Cert.ReferenceUpIdeal.defs _ _).mono (fun _ h => ⟨fun c => (h c).2, sem_eq_zero_of_no_sems (by decide) _⟩) (Cert.ReferenceUpIdeal.Value.run m ρ)

theorem algebraic_up : Cert.algebraic_KernelUpIdeal_ReferenceUpIdeal (hKernelUpIdeal := Cert.KernelUpIdeal.Gen.facts)
    (hReferenceUpIdeal := Cert.ReferenceUpIdeal.Gen.facts) := by
  intro m ρ m' ρ' _ hA
  refine ⟨_, Cert.KernelUpIdeal.Value.run_blocks m ρ, ?_⟩
  refine (θ_run Cert.ReferenceUpIdeal.defs _ _).mono (fun _ H c => ⟨(H c).1.trans ?_, (H c).2⟩) (Ffn.UpRef.run m' ρ')
  rw [Ffn.UpRef.A_eq m m' c (hA c).1, Ffn.UpRef.B_eq m m' c (hA c).2]
  exact (Ffn.Up.out m c).symm

/-- The same for the call `wgrad_down`. -/
theorem frame_down : Cert.quiescent_ReferenceDownIdeal :=
  fun m ρ _ => (θ_run Cert.ReferenceDownIdeal.defs _ _).mono (fun _ h => ⟨fun c => (h c).2, sem_eq_zero_of_no_sems (by decide) _⟩) (Cert.ReferenceDownIdeal.Value.run m ρ)

theorem algebraic_down : Cert.algebraic_KernelDownIdeal_ReferenceDownIdeal (hKernelDownIdeal := Cert.KernelDownIdeal.Gen.facts)
    (hReferenceDownIdeal := Cert.ReferenceDownIdeal.Gen.facts) := by
  intro m ρ m' ρ' _ hA
  refine ⟨_, Cert.KernelDownIdeal.Value.run_blocks m ρ, ?_⟩
  refine (θ_run Cert.ReferenceDownIdeal.defs _ _).mono (fun _ H c => ⟨(H c).1.trans ?_, (H c).2⟩) (Ffn.DownRef.run m' ρ')
  rw [Ffn.DownRef.A_eq m m' c (hA c).1, Ffn.DownRef.B_eq m m' c (hA c).2]
  exact (Ffn.Down.out m c).symm

/-- The same for the call `_ffn_fwd`. -/
theorem frame_fwd : Cert.quiescent_ReferenceFwdIdeal :=
  fun m ρ _ => (θ_run Cert.ReferenceFwdIdeal.defs _ _).mono (fun _ h => ⟨fun c => (h c).2.2.2, sem_eq_zero_of_no_sems (by decide) _⟩) (Cert.ReferenceFwdIdeal.Value.run m ρ)

theorem algebraic_fwd : Cert.algebraic_KernelFwdIdeal_ReferenceFwdIdeal (hKernelFwdIdeal := Cert.KernelFwdIdeal.Gen.facts)
    (hReferenceFwdIdeal := Cert.ReferenceFwdIdeal.Gen.facts) := by
  intro m ρ m' ρ' _ hA
  refine ⟨_, _, _, Cert.KernelFwdIdeal.Value.run_blocks m ρ, ?_⟩
  refine (θ_run Cert.ReferenceFwdIdeal.defs _ _).mono (fun _ H c => ?_) (Ffn.FwdRef.run m' ρ')
  obtain ⟨h₀, h₁, h₂, hs⟩ := H c
  rw [Ffn.FwdRef.params_eq m m' c (hA c)] at h₀ h₁ h₂
  exact ⟨h₀.trans (Ffn.Fwd.out6 m c).symm, h₁.trans (Ffn.Fwd.out7 m c).symm, h₂.trans (Ffn.Fwd.out8 m c).symm, hs⟩

/-- The same for the square products. -/
theorem frame_square : Cert.quiescent_ReferenceSquareIdeal :=
  fun m ρ _ => (θ_run Cert.ReferenceSquareIdeal.defs _ _).mono (fun _ h => ⟨fun c => (h c).2, sem_eq_zero_of_no_sems (by decide) _⟩) (Cert.ReferenceSquareIdeal.Value.run m ρ)

theorem algebraic_square : Cert.algebraic_KernelSquareIdeal_ReferenceSquareIdeal (hKernelSquareIdeal := Cert.KernelSquareIdeal.Gen.facts)
    (hReferenceSquareIdeal := Cert.ReferenceSquareIdeal.Gen.facts) := by
  intro m ρ m' ρ' _ hA
  refine ⟨_, Cert.KernelSquareIdeal.Value.run_blocks m ρ, ?_⟩
  refine (θ_run Cert.ReferenceSquareIdeal.defs _ _).mono (fun _ H c => ⟨(H c).1.trans ?_, (H c).2⟩) (Ffn.SquareRef.run m' ρ')
  rw [Ffn.SquareRef.A_eq m m' c (hA c).1, Ffn.SquareRef.B_eq m m' c (hA c).2]
  exact (Ffn.Square.out m c).symm

theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.KernelFwd.Gen.facts, Cert.KernelFwdIdeal.Gen.facts, Cert.ReferenceFwdIdeal.Gen.facts,
  Cert.KernelSquare.Gen.facts, Cert.KernelSquareIdeal.Gen.facts, Cert.ReferenceSquareIdeal.Gen.facts, Ffn.preFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.KernelUp.Gen.frame m ρ, fun m ρ _ => Cert.KernelUpIdeal.Gen.frame m ρ, frame_up,
  fun m ρ _ => Cert.KernelDown.Gen.frame m ρ, fun m ρ _ => Cert.KernelDownIdeal.Gen.frame m ρ, frame_down,
  fun m ρ _ => Cert.KernelFwd.Gen.frame m ρ, fun m ρ _ => Cert.KernelFwdIdeal.Gen.frame m ρ, frame_fwd,
  fun m ρ _ => Cert.KernelSquare.Gen.frame m ρ, fun m ρ _ => Cert.KernelSquareIdeal.Gen.frame m ρ, frame_square,
  trivial, algebraic, trivial, algebraic_up, trivial, algebraic_down, trivial, algebraic_fwd, trivial, algebraic_square⟩

end Cert.Proof

end
